-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))).2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v16)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v16) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v16)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_v16) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S_ : Shape := ⟨0, ![]⟩

class Facts : Prop where
  bcast_S_S4096x8x128 : S_.BroadcastsInDim S4096x8x128 (![] : Fin 0 → Fin S4096x8x128.rank)
  bcast_S_S4096x8x64 : S_.BroadcastsInDim S4096x8x64 (![] : Fin 0 → Fin S4096x8x64.rank)
  bcast_S_S4096x64 : S_.BroadcastsInDim S4096x64 (![] : Fin 0 → Fin S4096x64.rank)
  bcast_S_S4096x2048 : S_.BroadcastsInDim S4096x2048 (![] : Fin 0 → Fin S4096x2048.rank)

variable [Facts]

def fn {F : FTy → Type} [FloatOps F] (main_arg0 : FVec F S4096x8x128 .f32) (main_arg1 : FVec F S4096x8x64 .f32) (main_arg2 : FVec F S4096x8x128 .f32) (main_arg3 : FVec F S4096x64 .f32) (main_arg4 : FVec F S4096x8x128 .f32) (main_arg5 : FVec F S4096x2048 .f32) : IVec S4096x8x128 1 × IVec S4096x8x64 1 × IVec S4096x8x128 1 × IVec S4096x64 1 × IVec S4096x8x128 1 × IVec S4096x2048 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_v3 : FVec F S4096x8x64 .f32 := Host.absf main_arg1
  let main_cst_0 : FVec F S_ .f32 := constant S_ .f32 0x7F800000#32
  let main_v4 : FVec F S4096x8x64 .f32 := broadcastInDim S4096x8x64 ![] bcast_S_S4096x8x64 main_cst_0
  let main_v5 : IVec S4096x8x64 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x8x128 .f32 := Host.absf main_arg4
  let main_cst_3 : FVec F S_ .f32 := constant S_ .f32 0x7F800000#32
  let main_v13 : FVec F S4096x8x128 .f32 := broadcastInDim S4096x8x128 ![] bcast_S_S4096x8x128 main_cst_3
  let main_v14 : IVec S4096x8x128 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Pre_finite11.lean ====
abbrev S4096x2048 : Shape := ⟨2, ![4096, 2048]⟩
abbrev S2048x3392 : Shape := ⟨2, ![2048, 3392]⟩
abbrev S_ : Shape := ⟨0, ![]⟩

class Facts : Prop where
  bcast_S_S4096x2048 : S_.BroadcastsInDim S4096x2048 (![] : Fin 0 → Fin S4096x2048.rank)
  bcast_S_S2048x3392 : S_.BroadcastsInDim S2048x3392 (![] : Fin 0 → Fin S2048x3392.rank)

variable [Facts]

def fn {F : FTy → Type} [FloatOps F] (main_arg0 : FVec F S4096x2048 .f32) (main_arg1 : FVec F S2048x3392 .f32) : IVec S4096x2048 1 × IVec S2048x3392 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x3392 .f32 := Host.absf main_arg1
  let main_cst_0 : FVec F S_ .f32 := constant S_ .f32 0x7F800000#32
  let main_v4 : FVec F S2048x3392 .f32 := broadcastInDim S2048x3392 ![] bcast_S_S2048x3392 main_cst_0
  let main_v5 : IVec S2048x3392 1 := cmpf .olt main_v3 main_v4
  (main_v2, main_v5)
-- ==== Pre_finite12.lean ====
abbrev S4096x2048 : Shape := ⟨2, ![4096, 2048]⟩
abbrev S2048x3392 : Shape := ⟨2, ![2048, 3392]⟩
abbrev S4096x3584 : Shape := ⟨2, ![4096, 3584]⟩
abbrev S_ : Shape := ⟨0, ![]⟩

class Facts : Prop where
  bcast_S_S2048x3392 : S_.BroadcastsInDim S2048x3392 (![] : Fin 0 → Fin S2048x3392.rank)
  bcast_S_S4096x3584 : S_.BroadcastsInDim S4096x3584 (![] : Fin 0 → Fin S4096x3584.rank)

variable [Facts]

def fn {F : FTy → Type} [FloatOps F] (main_arg0 : FVec F S4096x2048 .f32) (main_arg1 : FVec F S2048x3392 .f32) (main_arg2 : FVec F S4096x3584 .f32) : IVec S2048x3392 1 × IVec S4096x3584 1 :=
  let main_v0 : FVec F S2048x3392 .f32 := Host.absf main_arg1
  let main_cst : FVec F S_ .f32 := constant S_ .f32 0x7F800000#32
  let main_v1 : FVec F S2048x3392 .f32 := broadcastInDim S2048x3392 ![] bcast_S_S2048x3392 main_cst
  let main_v2 : IVec S2048x3392 1 := cmpf .olt main_v0 main_v1
  let main_v3 : FVec F S4096x3584 .f32 := Host.absf main_arg2
  let main_cst_0 : FVec F S_ .f32 := constant S_ .f32 0x7F800000#32
  let main_v4 : FVec F S4096x3584 .f32 := broadcastInDim S4096x3584 ![] bcast_S_S4096x3584 main_cst_0
  let main_v5 : IVec S4096x3584 1 := cmpf .olt main_v3 main_v4
  (main_v2, main_v5)
-- ==== Kernel.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S4096x1024 : Shape := ⟨2, ![4096, 1024]⟩
abbrev S4096x8x256 : Shape := ⟨3, ![4096, 8, 256]⟩
abbrev S_ : Shape := ⟨0, ![]⟩
abbrev S4096x128 : Shape := ⟨2, ![4096, 128]⟩
abbrev S4096x1x64 : Shape := ⟨3, ![4096, 1, 64]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S512x128 : Shape := ⟨2, ![512, 128]⟩
abbrev S1x512x1 : Shape := ⟨3, ![1, 512, 1]⟩
abbrev S512x256 : Shape := ⟨2, ![512, 256]⟩
abbrev S512x512 : Shape := ⟨2, ![512, 512]⟩
abbrev S512x1 : Shape := ⟨2, ![512, 1]⟩

abbrev nBuf : Space → Nat
  | .hbm => 94
  | .vmem => 22
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S4096x1024, .f32⟩
  | .hbm, ⟨7, _⟩ => ⟨S4096x1024, .bf16⟩
  | .hbm, ⟨8, _⟩ => ⟨S4096x8x128, .f32⟩
  | .hbm, ⟨9, _⟩ => ⟨S4096x1024, .f32⟩
  | .hbm, ⟨10, _⟩ => ⟨S4096x1024, .bf16⟩
  | .hbm, ⟨11, _⟩ => ⟨S4096x8x256, .f32⟩
  | .hbm, ⟨12, _⟩ => ⟨S4096x2048, .f32⟩
  | .hbm, ⟨13, _⟩ => ⟨S4096x2048, .bf16⟩
  | .hbm, ⟨14, _⟩ => ⟨S_, .f32⟩
  | .hbm, ⟨15, _⟩ => ⟨S4096x64, .f32⟩
  | .hbm, ⟨16, _⟩ => ⟨S4096x128, .f32⟩
  | .hbm, ⟨17, _⟩ => ⟨S4096x128, .bf16⟩
  | .hbm, ⟨18, _⟩ => ⟨S4096x1x64, .f32⟩
  | .hbm, ⟨19, _⟩ => ⟨S4096x8x64, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S4096, .i32⟩
  | .hbm, ⟨27, _⟩ => ⟨S1x4096, .i32⟩
  | .hbm, ⟨28, _⟩ => ⟨S4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S4096x1x64, .f32⟩
  | .hbm, ⟨50, _⟩ => ⟨S4096x8x64, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096x4096, .f32⟩
  | .hbm, ⟨56, _⟩ => ⟨S8x4096x4096, .f32⟩
  | .hbm, ⟨57, _⟩ => ⟨S4096, .i32⟩
  | .hbm, ⟨58, _⟩ => ⟨S1x4096, .i32⟩
  | .hbm, ⟨59, _⟩ => ⟨S4096, .i32⟩
  | .hbm, ⟨60, _⟩ => ⟨S4096x1, .i32⟩
  | .hbm, ⟨61, _⟩ => ⟨S4096x4096, .i32⟩
  | .hbm, ⟨62, _⟩ => ⟨S4096x4096, .i32⟩
  | .hbm, ⟨63, _⟩ => ⟨S4096x4096, .i1⟩
  | .hbm, ⟨64, _⟩ => ⟨S_, .f32⟩
  | .hbm, ⟨65, _⟩ => ⟨S_, .f32⟩
  | .hbm, ⟨66, _⟩ => ⟨S8x4096x4096, .i1⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S_, .f32⟩
  | .hbm, ⟨72, _⟩ => ⟨S8x4096, .f32⟩
  | .hbm, ⟨73, _⟩ => ⟨S8x4096, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S8x128x4096, .f32⟩
  | .hbm, ⟨84, _⟩ => ⟨S4096x8x128, .f32⟩
  | .hbm, ⟨85, _⟩ => ⟨S4096x1024, .f32⟩
  | .hbm, ⟨86, _⟩ => ⟨S4096x8x128, .f32⟩
  | .hbm, ⟨87, _⟩ => ⟨S4096x8x128, .f32⟩
  | .hbm, ⟨88, _⟩ => ⟨S_, .f32⟩
  | .hbm, ⟨89, _⟩ => ⟨S4096x8, .f32⟩
  | .hbm, ⟨90, _⟩ => ⟨S8x4096, .f32⟩
  | .hbm, ⟨91, _⟩ => ⟨S8x4096x1, .f32⟩
  | .hbm, ⟨92, _⟩ => ⟨S4096x2048, .f32⟩
  | .hbm, ⟨93, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x256, .f32⟩
  | .local _ .vmem, ⟨21, _⟩ => ⟨S512x128, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69_0 : Ref sig .tc := ⟨.hbm, 92, rfl⟩
abbrev main_v69_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 8, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg1 arg2
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg1 arg2
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg1 arg2
  let c4_i32 : BitVec 32 := 4#32
  let v1 : BitVec 32 := Scalar.addi arg0 c4_i32
  let c0_i32 : BitVec 32 := 0#32
  ![v0.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg1 arg2
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg1 arg2
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S4096x1x64 : Shape := ⟨3, ![4096, 1, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S8x4096x64 : Shape := ⟨3, ![8, 4096, 64]⟩
abbrev S8x4096x128 : Shape := ⟨3, ![8, 4096, 128]⟩
abbrev S4096x8x256 : Shape := ⟨3, ![4096, 8, 256]⟩

abbrev nBuf : Space → Nat
  | .hbm => 106
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S4096x1x64, .f32⟩
  | .hbm, ⟨7, _⟩ => ⟨S4096x8x64, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x128x4096, .f32⟩
  | .hbm, ⟨67, _⟩ => ⟨S4096x8x128, .f32⟩
  | .hbm, ⟨68, _⟩ => ⟨S4096x1024, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x64, .f32⟩
  | .hbm, ⟨95, _⟩ => ⟨S4096x8x64, .f32⟩
  | .hbm, ⟨96, _⟩ => ⟨S8x4096x64, .f32⟩
  | .hbm, ⟨97, _⟩ => ⟨S4096x8x64, .f32⟩
  | .hbm, ⟨98, _⟩ => ⟨S8x4096x128, .f32⟩
  | .hbm, ⟨99, _⟩ => ⟨S4096x8x128, .f32⟩
  | .hbm, ⟨100, _⟩ => ⟨S8x4096x128, .f32⟩
  | .hbm, ⟨101, _⟩ => ⟨S4096x8x128, .f32⟩
  | .hbm, ⟨102, _⟩ => ⟨S4096x8x256, .f32⟩
  | .hbm, ⟨103, _⟩ => ⟨S4096x2048, .f32⟩
  | .hbm, ⟨104, _⟩ => ⟨S4096x8x128, .f32⟩
  | .hbm, ⟨105, _⟩ => ⟨S4096x1024, .f32⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== Kernel2.lean ====
abbrev S4096x2048 : Shape := ⟨2, ![4096, 2048]⟩
abbrev S2048x11008 : Shape := ⟨2, ![2048, 11008]⟩
abbrev S4096x11008 : Shape := ⟨2, ![4096, 11008]⟩
abbrev S4096x4x2752 : Shape := ⟨3, ![4096, 4, 2752]⟩
abbrev S_ : Shape := ⟨0, ![]⟩
abbrev S4096x4x2816 : Shape := ⟨3, ![4096, 4, 2816]⟩
abbrev S4096x11264 : Shape := ⟨2, ![4096, 11264]⟩
abbrev S2048x4x2752 : Shape := ⟨3, ![2048, 4, 2752]⟩
abbrev S4x2048x2752 : Shape := ⟨3, ![4, 2048, 2752]⟩
abbrev S4x2048x2816 : Shape := ⟨3, ![4, 2048, 2816]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x4x2752, .f32⟩
  | .hbm, ⟨4, _⟩ => ⟨S_, .i32⟩
  | .hbm, ⟨5, _⟩ => ⟨S_, .f32⟩
  | .hbm, ⟨6, _⟩ => ⟨S4096x4x2816, .f32⟩
  | .hbm, ⟨7, _⟩ => ⟨S4096x11264, .f32⟩
  | .hbm, ⟨8, _⟩ => ⟨S4096x11264, .bf16⟩
  | .hbm, ⟨9, _⟩ => ⟨S2048x4x2752, .f32⟩
  | .hbm, ⟨10, _⟩ => ⟨S4x2048x2752, .f32⟩
  | .hbm, ⟨11, _⟩ => ⟨S_, .i32⟩
  | .hbm, ⟨12, _⟩ => ⟨S_, .f32⟩
  | .hbm, ⟨13, _⟩ => ⟨S4x2048x2816, .f32⟩
  | .hbm, ⟨14, _⟩ => ⟨S4x2048x2816, .bf16⟩
  | .hbm, ⟨15, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x11008 : Shape := ⟨2, ![2048, 11008]⟩
abbrev S4096x11008 : Shape := ⟨2, ![4096, 11008]⟩
abbrev S11008x2048 : Shape := ⟨2, ![11008, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x11008, .f32⟩
  | .hbm, ⟨4, _⟩ => ⟨S11008x2048, .f32⟩
  | .hbm, ⟨5, _⟩ => ⟨S2048x11008, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x2048 : Shape := ⟨2, ![4096, 2048]⟩
abbrev S2048x11008 : Shape := ⟨2, ![2048, 11008]⟩
abbrev S4096x11008 : Shape := ⟨2, ![4096, 11008]⟩
abbrev S4096x4x2752 : Shape := ⟨3, ![4096, 4, 2752]⟩
abbrev S_ : Shape := ⟨0, ![]⟩
abbrev S4096x4x2816 : Shape := ⟨3, ![4096, 4, 2816]⟩
abbrev S4096x11264 : Shape := ⟨2, ![4096, 11264]⟩
abbrev S4x2048x2816 : Shape := ⟨3, ![4, 2048, 2816]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 11
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x4x2752, .f32⟩
  | .hbm, ⟨4, _⟩ => ⟨S_, .i32⟩
  | .hbm, ⟨5, _⟩ => ⟨S_, .f32⟩
  | .hbm, ⟨6, _⟩ => ⟨S4096x4x2816, .f32⟩
  | .hbm, ⟨7, _⟩ => ⟨S4096x11264, .f32⟩
  | .hbm, ⟨8, _⟩ => ⟨S4096x11264, .bf16⟩
  | .hbm, ⟨9, _⟩ => ⟨S4096x2048, .bf16⟩
  | .hbm, ⟨10, _⟩ => ⟨S4x2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x11008 : Shape := ⟨2, ![2048, 11008]⟩
abbrev S4096x11008 : Shape := ⟨2, ![4096, 11008]⟩
abbrev S11008x2048 : Shape := ⟨2, ![11008, 2048]⟩
abbrev S2048x4x2752 : Shape := ⟨3, ![2048, 4, 2752]⟩
abbrev S_ : Shape := ⟨0, ![]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x11008, .f32⟩
  | .hbm, ⟨4, _⟩ => ⟨S11008x2048, .f32⟩
  | .hbm, ⟨5, _⟩ => ⟨S2048x11008, .f32⟩
  | .hbm, ⟨6, _⟩ => ⟨S4096x2048, .f32⟩
  | .hbm, ⟨7, _⟩ => ⟨S2048x4x2752, .f32⟩
  | .hbm, ⟨8, _⟩ => ⟨S_, .i32⟩
  | .hbm, ⟨9, _⟩ => ⟨S_, .f32⟩
  | .hbm, ⟨10, _⟩ => ⟨S2048x4x2816, .f32⟩
  | .hbm, ⟨11, _⟩ => ⟨S4x2048x2816, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4096x5504 : Shape := ⟨2, ![4096, 5504]⟩
abbrev S5504x2048 : Shape := ⟨2, ![5504, 2048]⟩
abbrev S4096x2048 : Shape := ⟨2, ![4096, 2048]⟩
abbrev S4x1376x2048 : Shape := ⟨3, ![4, 1376, 2048]⟩
abbrev S2x2752x2048 : Shape := ⟨3, ![2, 2752, 2048]⟩
abbrev S_ : Shape := ⟨0, ![]⟩
abbrev S2x2816x2048 : Shape := ⟨3, ![2, 2816, 2048]⟩
abbrev S5632x2048 : Shape := ⟨2, ![5632, 2048]⟩
abbrev S4096x5632 : Shape := ⟨2, ![4096, 5632]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 12
  | .vmem => 7
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | .hbm, ⟨3, _⟩ => ⟨S4096x2048, .bf16⟩
  | .hbm, ⟨4, _⟩ => ⟨S4x1376x2048, .f32⟩
  | .hbm, ⟨5, _⟩ => ⟨S4x1376x2048, .bf16⟩
  | .hbm, ⟨6, _⟩ => ⟨S2x2752x2048, .bf16⟩
  | .hbm, ⟨7, _⟩ => ⟨S_, .i32⟩
  | .hbm, ⟨8, _⟩ => ⟨S_, .bf16⟩
  | .hbm, ⟨9, _⟩ => ⟨S2x2816x2048, .bf16⟩
  | .hbm, ⟨10, _⟩ => ⟨S5632x2048, .bf16⟩
  | .hbm, ⟨11, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5504 : Shape := ⟨2, ![4096, 5504]⟩
abbrev S5504x2048 : Shape := ⟨2, ![5504, 2048]⟩
abbrev S4096x2048 : Shape := ⟨2, ![4096, 2048]⟩
abbrev S2048x5504 : Shape := ⟨2, ![2048, 5504]⟩
abbrev S4096x2x2752 : Shape := ⟨3, ![4096, 2, 2752]⟩
abbrev S_ : Shape := ⟨0, ![]⟩
abbrev S4096x2x2816 : Shape := ⟨3, ![4096, 2, 2816]⟩
abbrev S4096x5632 : Shape := ⟨2, ![4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | .hbm, ⟨3, _⟩ => ⟨S4096x2048, .f32⟩
  | .hbm, ⟨4, _⟩ => ⟨S2048x5504, .f32⟩
  | .hbm, ⟨5, _⟩ => ⟨S5504x2048, .f32⟩
  | .hbm, ⟨6, _⟩ => ⟨S4096x5504, .f32⟩
  | .hbm, ⟨7, _⟩ => ⟨S4096x2x2752, .f32⟩
  | .hbm, ⟨8, _⟩ => ⟨S_, .i32⟩
  | .hbm, ⟨9, _⟩ => ⟨S_, .f32⟩
  | .hbm, ⟨10, _⟩ => ⟨S4096x2x2816, .f32⟩
  | .hbm, ⟨11, _⟩ => ⟨S4096x5632, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S4096x5504 : Shape := ⟨2, ![4096, 5504]⟩
abbrev S5504x2048 : Shape := ⟨2, ![5504, 2048]⟩
abbrev S4096x2048 : Shape := ⟨2, ![4096, 2048]⟩
abbrev S4096x2x2752 : Shape := ⟨3, ![4096, 2, 2752]⟩
abbrev S_ : Shape := ⟨0, ![]⟩
abbrev S4096x2x2816 : Shape := ⟨3, ![4096, 2, 2816]⟩
abbrev S4096x5632 : Shape := ⟨2, ![4096, 5632]⟩
abbrev S5632x2048 : Shape := ⟨2, ![5632, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | .hbm, ⟨3, _⟩ => ⟨S4096x2x2752, .f32⟩
  | .hbm, ⟨4, _⟩ => ⟨S_, .i32⟩
  | .hbm, ⟨5, _⟩ => ⟨S_, .f32⟩
  | .hbm, ⟨6, _⟩ => ⟨S4096x2x2816, .f32⟩
  | .hbm, ⟨7, _⟩ => ⟨S4096x5632, .f32⟩
  | .hbm, ⟨8, _⟩ => ⟨S4096x5632, .bf16⟩
  | .hbm, ⟨9, _⟩ => ⟨S4096x2048, .bf16⟩
  | .hbm, ⟨10, _⟩ => ⟨S5632x2048, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5504 : Shape := ⟨2, ![4096, 5504]⟩
abbrev S5504x2048 : Shape := ⟨2, ![5504, 2048]⟩
abbrev S4096x2048 : Shape := ⟨2, ![4096, 2048]⟩
abbrev S2048x5504 : Shape := ⟨2, ![2048, 5504]⟩
abbrev S2x2752x2048 : Shape := ⟨3, ![2, 2752, 2048]⟩
abbrev S_ : Shape := ⟨0, ![]⟩
abbrev S2x2816x2048 : Shape := ⟨3, ![2, 2816, 2048]⟩
abbrev S5632x2048 : Shape := ⟨2, ![5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | .hbm, ⟨3, _⟩ => ⟨S4096x2048, .f32⟩
  | .hbm, ⟨4, _⟩ => ⟨S2048x5504, .f32⟩
  | .hbm, ⟨5, _⟩ => ⟨S5504x2048, .f32⟩
  | .hbm, ⟨6, _⟩ => ⟨S4096x5504, .f32⟩
  | .hbm, ⟨7, _⟩ => ⟨S2x2752x2048, .f32⟩
  | .hbm, ⟨8, _⟩ => ⟨S_, .i32⟩
  | .hbm, ⟨9, _⟩ => ⟨S_, .f32⟩
  | .hbm, ⟨10, _⟩ => ⟨S2x2816x2048, .f32⟩
  | .hbm, ⟨11, _⟩ => ⟨S5632x2048, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x11008 : Shape := ⟨2, ![2048, 11008]⟩
abbrev S2048x4x2752 : Shape := ⟨3, ![2048, 4, 2752]⟩
abbrev S4x2048x2752 : Shape := ⟨3, ![4, 2048, 2752]⟩
abbrev S_ : Shape := ⟨0, ![]⟩
abbrev S4x2048x2816 : Shape := ⟨3, ![4, 2048, 2816]⟩
abbrev S4096x11264 : Shape := ⟨2, ![4096, 11264]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x2048, .bf16⟩
  | .hbm, ⟨3, _⟩ => ⟨S2048x4x2752, .f32⟩
  | .hbm, ⟨4, _⟩ => ⟨S4x2048x2752, .f32⟩
  | .hbm, ⟨5, _⟩ => ⟨S_, .i32⟩
  | .hbm, ⟨6, _⟩ => ⟨S_, .f32⟩
  | .hbm, ⟨7, _⟩ => ⟨S4x2048x2816, .f32⟩
  | .hbm, ⟨8, _⟩ => ⟨S4x2048x2816, .bf16⟩
  | .hbm, ⟨9, _⟩ => ⟨S4096x11264, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x11008 : Shape := ⟨2, ![2048, 11008]⟩
abbrev S4096x11008 : Shape := ⟨2, ![4096, 11008]⟩
abbrev S4096x4x2752 : Shape := ⟨3, ![4096, 4, 2752]⟩
abbrev S_ : Shape := ⟨0, ![]⟩
abbrev S4096x4x2816 : Shape := ⟨3, ![4096, 4, 2816]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11008, .f32⟩
  | .hbm, ⟨2, _⟩ => ⟨S4096x11008, .f32⟩
  | .hbm, ⟨3, _⟩ => ⟨S4096x4x2752, .f32⟩
  | .hbm, ⟨4, _⟩ => ⟨S_, .i32⟩
  | .hbm, ⟨5, _⟩ => ⟨S_, .f32⟩
  | .hbm, ⟨6, _⟩ => ⟨S4096x4x2816, .f32⟩
  | .hbm, ⟨7, _⟩ => ⟨S4096x11264, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel9.lean ====
abbrev S4096x5504 : Shape := ⟨2, ![4096, 5504]⟩
abbrev S5504x2048 : Shape := ⟨2, ![5504, 2048]⟩
abbrev S4096x2x2752 : Shape := ⟨3, ![4096, 2, 2752]⟩
abbrev S_ : Shape := ⟨0, ![]⟩
abbrev S4096x2x2816 : Shape := ⟨3, ![4096, 2, 2816]⟩
abbrev S4096x5632 : Shape := ⟨2, ![4096, 5632]⟩
abbrev S4x1376x2048 : Shape := ⟨3, ![4, 1376, 2048]⟩
abbrev S2x2752x2048 : Shape := ⟨3, ![2, 2752, 2048]⟩
abbrev S2x2816x2048 : Shape := ⟨3, ![2, 2816, 2048]⟩
abbrev S5632x2048 : Shape := ⟨2, ![5632, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2x2752, .f32⟩
  | .hbm, ⟨3, _⟩ => ⟨S_, .i32⟩
  | .hbm, ⟨4, _⟩ => ⟨S_, .f32⟩
  | .hbm, ⟨5, _⟩ => ⟨S4096x2x2816, .f32⟩
  | .hbm, ⟨6, _⟩ => ⟨S4096x5632, .f32⟩
  | .hbm, ⟨7, _⟩ => ⟨S4096x5632, .bf16⟩
  | .hbm, ⟨8, _⟩ => ⟨S4x1376x2048, .f32⟩
  | .hbm, ⟨9, _⟩ => ⟨S4x1376x2048, .bf16⟩
  | .hbm, ⟨10, _⟩ => ⟨S2x2752x2048, .bf16⟩
  | .hbm, ⟨11, _⟩ => ⟨S_, .i32⟩
  | .hbm, ⟨12, _⟩ => ⟨S_, .bf16⟩
  | .hbm, ⟨13, _⟩ => ⟨S2x2816x2048, .bf16⟩
  | .hbm, ⟨14, _⟩ => ⟨S5632x2048, .bf16⟩
  | .hbm, ⟨15, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x5504 : Shape := ⟨2, ![4096, 5504]⟩
abbrev S5504x2048 : Shape := ⟨2, ![5504, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S5504x2048, .f32⟩
  | .hbm, ⟨2, _⟩ => ⟨S4096x2048, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4096x2048 : Shape := ⟨2, ![4096, 2048]⟩
abbrev S2048x3392 : Shape := ⟨2, ![2048, 3392]⟩
abbrev S2048x512 : Shape := ⟨2, ![2048, 512]⟩
abbrev S2048x256 : Shape := ⟨2, ![2048, 256]⟩
abbrev S2048x64 : Shape := ⟨2, ![2048, 64]⟩
abbrev S_ : Shape := ⟨0, ![]⟩
abbrev S2048x128 : Shape := ⟨2, ![2048, 128]⟩
abbrev S2048x32 : Shape := ⟨2, ![2048, 32]⟩
abbrev S2048x3584 : Shape := ⟨2, ![2048, 3584]⟩
abbrev S4096x3584 : Shape := ⟨2, ![4096, 3584]⟩
abbrev S1024x1024 : Shape := ⟨2, ![1024, 1024]⟩
abbrev S1024x896 : Shape := ⟨2, ![1024, 896]⟩

abbrev nBuf : Space → Nat
  | .hbm => 20
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x3392, .f32⟩
  | .hbm, ⟨2, _⟩ => ⟨S4096x2048, .bf16⟩
  | .hbm, ⟨3, _⟩ => ⟨S2048x512, .f32⟩
  | .hbm, ⟨4, _⟩ => ⟨S2048x512, .f32⟩
  | .hbm, ⟨5, _⟩ => ⟨S2048x256, .f32⟩
  | .hbm, ⟨6, _⟩ => ⟨S2048x64, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x128, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x64, .f32⟩
  | .hbm, ⟨17, _⟩ => ⟨S2048x3584, .f32⟩
  | .hbm, ⟨18, _⟩ => ⟨S2048x3584, .bf16⟩
  | .hbm, ⟨19, _⟩ => ⟨S4096x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x3392 : Shape := ⟨2, ![2048, 3392]⟩
abbrev S4096x3392 : Shape := ⟨2, ![4096, 3392]⟩
abbrev S4096x512 : Shape := ⟨2, ![4096, 512]⟩
abbrev S4096x256 : Shape := ⟨2, ![4096, 256]⟩
abbrev S4096x64 : Shape := ⟨2, ![4096, 64]⟩
abbrev S4096x32 : Shape := ⟨2, ![4096, 32]⟩
abbrev S_ : Shape := ⟨0, ![]⟩
abbrev S4096x128 : Shape := ⟨2, ![4096, 128]⟩
abbrev S4096x3584 : Shape := ⟨2, ![4096, 3584]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3392, .f32⟩
  | .hbm, ⟨2, _⟩ => ⟨S4096x3392, .f32⟩
  | .hbm, ⟨3, _⟩ => ⟨S4096x512, .f32⟩
  | .hbm, ⟨4, _⟩ => ⟨S4096x512, .f32⟩
  | .hbm, ⟨5, _⟩ => ⟨S4096x256, .f32⟩
  | .hbm, ⟨6, _⟩ => ⟨S4096x64, .f32⟩
  | .hbm, ⟨7, _⟩ => ⟨S4096x2048, .f32⟩
  | .hbm, ⟨8, _⟩ => ⟨S4096x32, .f32⟩
  | .hbm, ⟨9, _⟩ => ⟨S4096x32, .f32⟩
  | .hbm, ⟨10, _⟩ => ⟨S4096x32, .f32⟩
  | .hbm, ⟨11, _⟩ => ⟨S_, .f32⟩
  | .hbm, ⟨12, _⟩ => ⟨S4096x128, .f32⟩
  | .hbm, ⟨13, _⟩ => ⟨S4096x3584, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel12.lean ====
abbrev S4096x2048 : Shape := ⟨2, ![4096, 2048]⟩
abbrev S2048x3392 : Shape := ⟨2, ![2048, 3392]⟩
abbrev S4096x3584 : Shape := ⟨2, ![4096, 3584]⟩
abbrev S2048x512 : Shape := ⟨2, ![2048, 512]⟩
abbrev S2048x256 : Shape := ⟨2, ![2048, 256]⟩
abbrev S2048x64 : Shape := ⟨2, ![2048, 64]⟩
abbrev S_ : Shape := ⟨0, ![]⟩
abbrev S2048x128 : Shape := ⟨2, ![2048, 128]⟩
abbrev S2048x32 : Shape := ⟨2, ![2048, 32]⟩
abbrev S2048x3584 : Shape := ⟨2, ![2048, 3584]⟩
abbrev S1024x896 : Shape := ⟨2, ![1024, 896]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x3392, .f32⟩
  | .hbm, ⟨2, _⟩ => ⟨S4096x3584, .f32⟩
  | .hbm, ⟨3, _⟩ => ⟨S4096x3584, .bf16⟩
  | .hbm, ⟨4, _⟩ => ⟨S2048x512, .f32⟩
  | .hbm, ⟨5, _⟩ => ⟨S2048x512, .f32⟩
  | .hbm, ⟨6, _⟩ => ⟨S2048x256, .f32⟩
  | .hbm, ⟨7, _⟩ => ⟨S2048x64, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x128, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x64, .f32⟩
  | .hbm, ⟨18, _⟩ => ⟨S2048x3584, .f32⟩
  | .hbm, ⟨19, _⟩ => ⟨S2048x3584, .bf16⟩
  | .hbm, ⟨20, _⟩ => ⟨S4096x2048, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x3392 : Shape := ⟨2, ![2048, 3392]⟩
abbrev S4096x3584 : Shape := ⟨2, ![4096, 3584]⟩
abbrev S4096x3392 : Shape := ⟨2, ![4096, 3392]⟩
abbrev S4096x512 : Shape := ⟨2, ![4096, 512]⟩
abbrev S4096x256 : Shape := ⟨2, ![4096, 256]⟩
abbrev S4096x64 : Shape := ⟨2, ![4096, 64]⟩
abbrev S4096x32 : Shape := ⟨2, ![4096, 32]⟩
abbrev S_ : Shape := ⟨0, ![]⟩
abbrev S4096x128 : Shape := ⟨2, ![4096, 128]⟩
abbrev S3392x2048 : Shape := ⟨2, ![3392, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3392, .f32⟩
  | .hbm, ⟨2, _⟩ => ⟨S4096x3584, .f32⟩
  | .hbm, ⟨3, _⟩ => ⟨S4096x3392, .f32⟩
  | .hbm, ⟨4, _⟩ => ⟨S4096x512, .f32⟩
  | .hbm, ⟨5, _⟩ => ⟨S4096x512, .f32⟩
  | .hbm, ⟨6, _⟩ => ⟨S4096x256, .f32⟩
  | .hbm, ⟨7, _⟩ => ⟨S4096x64, .f32⟩
  | .hbm, ⟨8, _⟩ => ⟨S4096x2048, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S_, .f32⟩
  | .hbm, ⟨13, _⟩ => ⟨S4096x128, .f32⟩
  | .hbm, ⟨14, _⟩ => ⟨S4096x3584, .f32⟩
  | .hbm, ⟨15, _⟩ => ⟨S_, .f32⟩
  | .hbm, ⟨16, _⟩ => ⟨S4096x128, .f32⟩
  | .hbm, ⟨17, _⟩ => ⟨S4096x512, .f32⟩
  | .hbm, ⟨18, _⟩ => ⟨S4096x512, .f32⟩
  | .hbm, ⟨19, _⟩ => ⟨S4096x2048, .f32⟩
  | .hbm, ⟨20, _⟩ => ⟨S4096x256, .f32⟩
  | .hbm, ⟨21, _⟩ => ⟨S4096x64, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S4096x32, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S_, .f32⟩
  | .hbm, ⟨30, _⟩ => ⟨S4096x64, .f32⟩
  | .hbm, ⟨31, _⟩ => ⟨S4096x64, .f32⟩
  | .hbm, ⟨32, _⟩ => ⟨S_, .f32⟩
  | .hbm, ⟨33, _⟩ => ⟨S4096x3392, .f32⟩
  | .hbm, ⟨34, _⟩ => ⟨S_, .f32⟩
  | .hbm, ⟨35, _⟩ => ⟨S4096x3392, .f32⟩
  | .hbm, ⟨36, _⟩ => ⟨S4096x3392, .f32⟩
  | .hbm, ⟨37, _⟩ => ⟨S_, .f32⟩
  | .hbm, ⟨38, _⟩ => ⟨S4096x3392, .f32⟩
  | .hbm, ⟨39, _⟩ => ⟨S4096x3392, .f32⟩
  | .hbm, ⟨40, _⟩ => ⟨S_, .f32⟩
  | .hbm, ⟨41, _⟩ => ⟨S4096x3392, .f32⟩
  | .hbm, ⟨42, _⟩ => ⟨S4096x3392, .f32⟩
  | .hbm, ⟨43, _⟩ => ⟨S_, .f32⟩
  | .hbm, ⟨44, _⟩ => ⟨S4096x3392, .f32⟩
  | .hbm, ⟨45, _⟩ => ⟨S4096x3392, .f32⟩
  | .hbm, ⟨46, _⟩ => ⟨S3392x2048, .f32⟩
  | .hbm, ⟨47, _⟩ => ⟨S2048x3392, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel13.lean ====
abbrev S4096x2048 : Shape := ⟨2, ![4096, 2048]⟩
abbrev S2048x3584 : Shape := ⟨2, ![2048, 3584]⟩
abbrev S4096x3584 : Shape := ⟨2, ![4096, 3584]⟩
abbrev S1024x1024 : Shape := ⟨2, ![1024, 1024]⟩
abbrev S1024x896 : Shape := ⟨2, ![1024, 896]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x3584, .f32⟩
  | .hbm, ⟨2, _⟩ => ⟨S4096x3584, .f32⟩
  | .hbm, ⟨3, _⟩ => ⟨S4096x2048, .bf16⟩
  | .hbm, ⟨4, _⟩ => ⟨S4096x3584, .bf16⟩
  | .hbm, ⟨5, _⟩ => ⟨S2048x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x3584 : Shape := ⟨2, ![2048, 3584]⟩
abbrev S4096x3584 : Shape := ⟨2, ![4096, 3584]⟩
abbrev S3584x2048 : Shape := ⟨2, ![3584, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3584, .f32⟩
  | .hbm, ⟨2, _⟩ => ⟨S4096x3584, .f32⟩
  | .hbm, ⟨3, _⟩ => ⟨S4096x3584, .f32⟩
  | .hbm, ⟨4, _⟩ => ⟨S3584x2048, .f32⟩
  | .hbm, ⟨5, _⟩ => ⟨S2048x3584, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S4096x256 : Shape := ⟨2, ![4096, 256]⟩
abbrev S256x2048 : Shape := ⟨2, ![256, 2048]⟩
abbrev S4096x2048 : Shape := ⟨2, ![4096, 2048]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .bf16⟩
  | .hbm, ⟨4, _⟩ => ⟨S256x2048, .bf16⟩
  | .hbm, ⟨5, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .f32⟩
  | .hbm, ⟨4, _⟩ => ⟨S2048x256, .f32⟩
  | .hbm, ⟨5, _⟩ => ⟨S256x2048, .f32⟩
  | .hbm, ⟨6, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x256, .bf16⟩
  | .hbm, ⟨4, _⟩ => ⟨S4096x2048, .bf16⟩
  | .hbm, ⟨5, _⟩ => ⟨S256x2048, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .f32⟩
  | .hbm, ⟨4, _⟩ => ⟨S2048x256, .f32⟩
  | .hbm, ⟨5, _⟩ => ⟨S256x2048, .f32⟩
  | .hbm, ⟨6, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S512x512 : Shape := ⟨2, ![512, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S4096x512, .f32⟩
  | .hbm, ⟨3, _⟩ => ⟨S4096x512, .f32⟩
  | .hbm, ⟨4, _⟩ => ⟨S512x512, .f32⟩
  | .hbm, ⟨5, _⟩ => ⟨S512x512, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .hbm, ⟨3, _⟩ => ⟨S4096x512, .bf16⟩
  | .hbm, ⟨4, _⟩ => ⟨S4096x2048, .bf16⟩
  | .hbm, ⟨5, _⟩ => ⟨S512x2048, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .hbm, ⟨3, _⟩ => ⟨S4096x2048, .f32⟩
  | .hbm, ⟨4, _⟩ => ⟨S2048x512, .f32⟩
  | .hbm, ⟨5, _⟩ => ⟨S512x2048, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8x2048 : Shape := ⟨2, ![8, 2048]⟩
abbrev S4x8x3072 : Shape := ⟨3, ![4, 8, 3072]⟩
abbrev S4x2048x3072 : Shape := ⟨3, ![4, 2048, 3072]⟩
abbrev S_ : Shape := ⟨0, ![]⟩
abbrev S8x256 : Shape := ⟨2, ![8, 256]⟩
abbrev S1x8x1024 : Shape := ⟨3, ![1, 8, 1024]⟩
abbrev S1x256x1024 : Shape := ⟨3, ![1, 256, 1024]⟩
abbrev S8x1024 : Shape := ⟨2, ![8, 1024]⟩
abbrev S256x1024 : Shape := ⟨2, ![256, 1024]⟩

abbrev nBuf : Space → Nat
  | .hbm => 18
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S4x8x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S4x2048x3072, .f32⟩
  | .hbm, ⟨15, _⟩ => ⟨S4x2048x3072, .f32⟩
  | .hbm, ⟨16, _⟩ => ⟨S4x2048x3072, .f32⟩
  | .hbm, ⟨17, _⟩ => ⟨S4x2048x3072, .f32⟩
  | .local _ .vmem, ⟨0, _⟩ => ⟨S8x256, .f32⟩
  | .local _ .vmem, ⟨1, _⟩ => ⟨S8x256, .f32⟩
  | .local _ .vmem, ⟨2, _⟩ => ⟨S1x8x1024, .f32⟩
  | .local _ .vmem, ⟨3, _⟩ => ⟨S1x8x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference19Ideal.lean ====
abbrev S8x2048 : Shape := ⟨2, ![8, 2048]⟩
abbrev S4x8x3072 : Shape := ⟨3, ![4, 8, 3072]⟩
abbrev S4x2048x3072 : Shape := ⟨3, ![4, 2048, 3072]⟩
abbrev S_ : Shape := ⟨0, ![]⟩
abbrev S4x3072x8 : Shape := ⟨3, ![4, 3072, 8]⟩
abbrev S4x3072x2048 : Shape := ⟨3, ![4, 3072, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x8x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S4x3072x8, .f32⟩
  | .hbm, ⟨15, _⟩ => ⟨S4x8x3072, .f32⟩
  | .hbm, ⟨16, _⟩ => ⟨S4x3072x8, .f32⟩
  | .hbm, ⟨17, _⟩ => ⟨S4x3072x2048, .f32⟩
  | .hbm, ⟨18, _⟩ => ⟨S4x2048x3072, .f32⟩
  | .hbm, ⟨19, _⟩ => ⟨S_, .f32⟩
  | .hbm, ⟨20, _⟩ => ⟨S4x2048x3072, .f32⟩
  | .hbm, ⟨21, _⟩ => ⟨S4x2048x3072, .f32⟩
  | .hbm, ⟨22, _⟩ => ⟨S_, .f32⟩
  | .hbm, ⟨23, _⟩ => ⟨S4x2048x3072, .f32⟩
  | .hbm, ⟨24, _⟩ => ⟨S4x2048x3072, .f32⟩
  | .hbm, ⟨25, _⟩ => ⟨S4x2048x3072, .f32⟩
  | .hbm, ⟨26, _⟩ => ⟨S_, .f32⟩
  | .hbm, ⟨27, _⟩ => ⟨S4x2048x3072, .f32⟩
  | .hbm, ⟨28, _⟩ => ⟨S4x2048x3072, .f32⟩
  | .hbm, ⟨29, _⟩ => ⟨S4x2048x3072, .f32⟩
  | .hbm, ⟨30, _⟩ => ⟨S_, .f32⟩
  | .hbm, ⟨31, _⟩ => ⟨S4x2048x3072, .f32⟩
  | .hbm, ⟨32, _⟩ => ⟨S4x2048x3072, .f32⟩
  | .hbm, ⟨33, _⟩ => ⟨S4x2048x3072, .f32⟩
  | .hbm, ⟨34, _⟩ => ⟨S_, .f32⟩
  | .hbm, ⟨35, _⟩ => ⟨S4x2048x3072, .f32⟩
  | .hbm, ⟨36, _⟩ => ⟨S4x2048x3072, .f32⟩
  | .hbm, ⟨37, _⟩ => ⟨S_, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S_, .f32⟩
  | .hbm, ⟨42, _⟩ => ⟨S4x2048x3072, .f32⟩
  | .hbm, ⟨43, _⟩ => ⟨S4x2048x3072, .f32⟩
  | .hbm, ⟨44, _⟩ => ⟨S4x2048x3072, .f32⟩
  | .hbm, ⟨45, _⟩ => ⟨S_, .f32⟩
  | .hbm, ⟨46, _⟩ => ⟨S4x2048x3072, .f32⟩
  | .hbm, ⟨47, _⟩ => ⟨S4x2048x3072, .f32⟩
  | .hbm, ⟨48, _⟩ => ⟨S4x2048x3072, .f32⟩
  | .hbm, ⟨49, _⟩ => ⟨S_, .f32⟩
  | .hbm, ⟨50, _⟩ => ⟨S4x2048x3072, .f32⟩
  | .hbm, ⟨51, _⟩ => ⟨S4x2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel20.lean ====
abbrev S4x2048x848 : Shape := ⟨3, ![4, 2048, 848]⟩
abbrev S8192x848 : Shape := ⟨2, ![8192, 848]⟩
abbrev S256x848 : Shape := ⟨2, ![256, 848]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x848, .f32⟩
  | .hbm, ⟨1, _⟩ => ⟨S4x2048x848, .f32⟩
  | .hbm, ⟨2, _⟩ => ⟨S4x2048x848, .f32⟩
  | .hbm, ⟨3, _⟩ => ⟨S4x2048x848, .f32⟩
  | .hbm, ⟨4, _⟩ => ⟨S8192x848, .f32⟩
  | .hbm, ⟨5, _⟩ => ⟨S8192x848, .f32⟩
  | .hbm, ⟨6, _⟩ => ⟨S8192x848, .f32⟩
  | .hbm, ⟨7, _⟩ => ⟨S8192x848, .f32⟩
  | .hbm, ⟨8, _⟩ => ⟨S8192x848, .f32⟩
  | .hbm, ⟨9, _⟩ => ⟨S8192x848, .f32⟩
  | .hbm, ⟨10, _⟩ => ⟨S8192x848, .f32⟩
  | .local _ .vmem, ⟨0, _⟩ => ⟨S256x848, .f32⟩
  | .local _ .vmem, ⟨1, _⟩ => ⟨S256x848, .f32⟩
  | .local _ .vmem, ⟨2, _⟩ => ⟨S256x848, .f32⟩
  | .local _ .vmem, ⟨3, _⟩ => ⟨S256x848, .f32⟩
  | .local _ .vmem, ⟨4, _⟩ => ⟨S256x848, .f32⟩
  | .local _ .vmem, ⟨5, _⟩ => ⟨S256x848, .f32⟩
  | .local _ .vmem, ⟨6, _⟩ => ⟨S256x848, .f32⟩
  | .local _ .vmem, ⟨7, _⟩ => ⟨S256x848, .f32⟩
  | .local _ .vmem, ⟨8, _⟩ => ⟨S256x848, .f32⟩
  | .local _ .vmem, ⟨9, _⟩ => ⟨S256x848, .f32⟩
  | .local _ .vmem, ⟨10, _⟩ => ⟨S256x848, .f32⟩
  | .local _ .vmem, ⟨11, _⟩ => ⟨S256x848, .f32⟩
  | .local _ .vmem, ⟨12, _⟩ => ⟨S256x848, .f32⟩
  | .local _ .vmem, ⟨13, _⟩ => ⟨S256x848, .f32⟩
  | _, _ => ⟨S4x2048x848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x848 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x848 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x848 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x848 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x848 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x848 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x848 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S4x2048x848 : Shape := ⟨3, ![4, 2048, 848]⟩
abbrev S_ : Shape := ⟨0, ![]⟩
abbrev S8192x848 : Shape := ⟨2, ![8192, 848]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x848, .f32⟩
  | .hbm, ⟨1, _⟩ => ⟨S4x2048x848, .f32⟩
  | .hbm, ⟨2, _⟩ => ⟨S4x2048x848, .f32⟩
  | .hbm, ⟨3, _⟩ => ⟨S4x2048x848, .f32⟩
  | .hbm, ⟨4, _⟩ => ⟨S_, .f32⟩
  | .hbm, ⟨5, _⟩ => ⟨S4x2048x848, .f32⟩
  | .hbm, ⟨6, _⟩ => ⟨S4x2048x848, .f32⟩
  | .hbm, ⟨7, _⟩ => ⟨S_, .f32⟩
  | .hbm, ⟨8, _⟩ => ⟨S4x2048x848, .f32⟩
  | .hbm, ⟨9, _⟩ => ⟨S4x2048x848, .f32⟩
  | .hbm, ⟨10, _⟩ => ⟨S4x2048x848, .f32⟩
  | .hbm, ⟨11, _⟩ => ⟨S_, .f32⟩
  | .hbm, ⟨12, _⟩ => ⟨S4x2048x848, .f32⟩
  | .hbm, ⟨13, _⟩ => ⟨S4x2048x848, .f32⟩
  | .hbm, ⟨14, _⟩ => ⟨S4x2048x848, .f32⟩
  | .hbm, ⟨15, _⟩ => ⟨S_, .f32⟩
  | .hbm, ⟨16, _⟩ => ⟨S4x2048x848, .f32⟩
  | .hbm, ⟨17, _⟩ => ⟨S4x2048x848, .f32⟩
  | .hbm, ⟨18, _⟩ => ⟨S4x2048x848, .f32⟩
  | .hbm, ⟨19, _⟩ => ⟨S_, .f32⟩
  | .hbm, ⟨20, _⟩ => ⟨S4x2048x848, .f32⟩
  | .hbm, ⟨21, _⟩ => ⟨S4x2048x848, .f32⟩
  | .hbm, ⟨22, _⟩ => ⟨S_, .f32⟩
  | .hbm, ⟨23, _⟩ => ⟨S4x2048x848, .f32⟩
  | .hbm, ⟨24, _⟩ => ⟨S4x2048x848, .f32⟩
  | .hbm, ⟨25, _⟩ => ⟨S4x2048x848, .f32⟩
  | .hbm, ⟨26, _⟩ => ⟨S_, .f32⟩
  | .hbm, ⟨27, _⟩ => ⟨S4x2048x848, .f32⟩
  | .hbm, ⟨28, _⟩ => ⟨S4x2048x848, .f32⟩
  | .hbm, ⟨29, _⟩ => ⟨S4x2048x848, .f32⟩
  | .hbm, ⟨30, _⟩ => ⟨S_, .f32⟩
  | .hbm, ⟨31, _⟩ => ⟨S4x2048x848, .f32⟩
  | .hbm, ⟨32, _⟩ => ⟨S4x2048x848, .f32⟩
  | .hbm, ⟨33, _⟩ => ⟨S4x2048x848, .f32⟩
  | .hbm, ⟨34, _⟩ => ⟨S_, .f32⟩
  | .hbm, ⟨35, _⟩ => ⟨S4x2048x848, .f32⟩
  | .hbm, ⟨36, _⟩ => ⟨S4x2048x848, .f32⟩
  | .hbm, ⟨37, _⟩ => ⟨S8192x848, .f32⟩
  | .hbm, ⟨38, _⟩ => ⟨S8192x848, .f32⟩
  | .hbm, ⟨39, _⟩ => ⟨S8192x848, .f32⟩
  | _, _ => ⟨S4x2048x848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S4x128x512 : Shape := ⟨3, ![4, 128, 512]⟩
abbrev S512x512 : Shape := ⟨2, ![512, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference21Ideal.lean ====
abbrev S4x128x512 : Shape := ⟨3, ![4, 128, 512]⟩
abbrev S_ : Shape := ⟨0, ![]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S_, .f32⟩
  | .hbm, ⟨5, _⟩ => ⟨S4x128x512, .f32⟩
  | .hbm, ⟨6, _⟩ => ⟨S4x128x512, .f32⟩
  | .hbm, ⟨7, _⟩ => ⟨S_, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S_, .f32⟩
  | .hbm, ⟨12, _⟩ => ⟨S4x128x512, .f32⟩
  | .hbm, ⟨13, _⟩ => ⟨S4x128x512, .f32⟩
  | .hbm, ⟨14, _⟩ => ⟨S4x128x512, .f32⟩
  | .hbm, ⟨15, _⟩ => ⟨S_, .f32⟩
  | .hbm, ⟨16, _⟩ => ⟨S4x128x512, .f32⟩
  | .hbm, ⟨17, _⟩ => ⟨S4x128x512, .f32⟩
  | .hbm, ⟨18, _⟩ => ⟨S4x128x512, .f32⟩
  | .hbm, ⟨19, _⟩ => ⟨S_, .f32⟩
  | .hbm, ⟨20, _⟩ => ⟨S4x128x512, .f32⟩
  | .hbm, ⟨21, _⟩ => ⟨S4x128x512, .f32⟩
  | .hbm, ⟨22, _⟩ => ⟨S_, .f32⟩
  | .hbm, ⟨23, _⟩ => ⟨S4x128x512, .f32⟩
  | .hbm, ⟨24, _⟩ => ⟨S4x128x512, .f32⟩
  | .hbm, ⟨25, _⟩ => ⟨S4x128x512, .f32⟩
  | .hbm, ⟨26, _⟩ => ⟨S_, .f32⟩
  | .hbm, ⟨27, _⟩ => ⟨S4x128x512, .f32⟩
  | .hbm, ⟨28, _⟩ => ⟨S4x128x512, .f32⟩
  | .hbm, ⟨29, _⟩ => ⟨S4x128x512, .f32⟩
  | .hbm, ⟨30, _⟩ => ⟨S_, .f32⟩
  | .hbm, ⟨31, _⟩ => ⟨S4x128x512, .f32⟩
  | .hbm, ⟨32, _⟩ => ⟨S4x128x512, .f32⟩
  | .hbm, ⟨33, _⟩ => ⟨S4x128x512, .f32⟩
  | .hbm, ⟨34, _⟩ => ⟨S_, .f32⟩
  | .hbm, ⟨35, _⟩ => ⟨S4x128x512, .f32⟩
  | .hbm, ⟨36, _⟩ => ⟨S4x128x512, .f32⟩
  | .hbm, ⟨37, _⟩ => ⟨S512x512, .f32⟩
  | .hbm, ⟨38, _⟩ => ⟨S512x512, .f32⟩
  | .hbm, ⟨39, _⟩ => ⟨S512x512, .f32⟩
  | _, _ => ⟨S4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S4x512x384 : Shape := ⟨3, ![4, 512, 384]⟩
abbrev S2048x384 : Shape := ⟨2, ![2048, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S4x512x384, .f32⟩
  | .hbm, ⟨1, _⟩ => ⟨S4x512x384, .f32⟩
  | .hbm, ⟨2, _⟩ => ⟨S4x512x384, .f32⟩
  | .hbm, ⟨3, _⟩ => ⟨S4x512x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S4x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S4x512x384 : Shape := ⟨3, ![4, 512, 384]⟩
abbrev S_ : Shape := ⟨0, ![]⟩
abbrev S2048x384 : Shape := ⟨2, ![2048, 384]⟩

abbrev nBuf : Space → Nat
  | .hbm => 40
  | .vmem => 0
  | .smem => 0
  | _ => 0

abbrev bufTy : (tb : Table) → Fin (tcTables nBuf tb) → BufTy
  | .hbm, ⟨0, _⟩ => ⟨S4x512x384, .f32⟩
  | .hbm, ⟨1, _⟩ => ⟨S4x512x384, .f32⟩
  | .hbm, ⟨2, _⟩ => ⟨S4x512x384, .f32⟩
  | .hbm, ⟨3, _⟩ => ⟨S4x512x384, .f32⟩
  | .hbm, ⟨4, _⟩ => ⟨S_, .f32⟩
  | .hbm, ⟨5, _⟩ => ⟨S4x512x384, .f32⟩
  | .hbm, ⟨6, _⟩ => ⟨S4x512x384, .f32⟩
  | .hbm, ⟨7, _⟩ => ⟨S_, .f32⟩
  | .hbm, ⟨8, _⟩ => ⟨S4x512x384, .f32⟩
  | .hbm, ⟨9, _⟩ => ⟨S4x512x384, .f32⟩
  | .hbm, ⟨10, _⟩ => ⟨S4x512x384, .f32⟩
  | .hbm, ⟨11, _⟩ => ⟨S_, .f32⟩
  | .hbm, ⟨12, _⟩ => ⟨S4x512x384, .f32⟩
  | .hbm, ⟨13, _⟩ => ⟨S4x512x384, .f32⟩
  | .hbm, ⟨14, _⟩ => ⟨S4x512x384, .f32⟩
  | .hbm, ⟨15, _⟩ => ⟨S_, .f32⟩
  | .hbm, ⟨16, _⟩ => ⟨S4x512x384, .f32⟩
  | .hbm, ⟨17, _⟩ => ⟨S4x512x384, .f32⟩
  | .hbm, ⟨18, _⟩ => ⟨S4x512x384, .f32⟩
  | .hbm, ⟨19, _⟩ => ⟨S_, .f32⟩
  | .hbm, ⟨20, _⟩ => ⟨S4x512x384, .f32⟩
  | .hbm, ⟨21, _⟩ => ⟨S4x512x384, .f32⟩
  | .hbm, ⟨22, _⟩ => ⟨S_, .f32⟩
  | .hbm, ⟨23, _⟩ => ⟨S4x512x384, .f32⟩
  | .hbm, ⟨24, _⟩ => ⟨S4x512x384, .f32⟩
  | .hbm, ⟨25, _⟩ => ⟨S4x512x384, .f32⟩
  | .hbm, ⟨26, _⟩ => ⟨S_, .f32⟩
  | .hbm, ⟨27, _⟩ => ⟨S4x512x384, .f32⟩
  | .hbm, ⟨28, _⟩ => ⟨S4x512x384, .f32⟩
  | .hbm, ⟨29, _⟩ => ⟨S4x512x384, .f32⟩
  | .hbm, ⟨30, _⟩ => ⟨S_, .f32⟩
  | .hbm, ⟨31, _⟩ => ⟨S4x512x384, .f32⟩
  | .hbm, ⟨32, _⟩ => ⟨S4x512x384, .f32⟩
  | .hbm, ⟨33, _⟩ => ⟨S4x512x384, .f32⟩
  | .hbm, ⟨34, _⟩ => ⟨S_, .f32⟩
  | .hbm, ⟨35, _⟩ => ⟨S4x512x384, .f32⟩
  | .hbm, ⟨36, _⟩ => ⟨S4x512x384, .f32⟩
  | .hbm, ⟨37, _⟩ => ⟨S2048x384, .f32⟩
  | .hbm, ⟨38, _⟩ => ⟨S2048x384, .f32⟩
  | .hbm, ⟨39, _⟩ => ⟨S2048x384, .f32⟩
  | _, _ => ⟨S4x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4x256x512 : Shape := ⟨3, ![4, 256, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S4x256x512 : Shape := ⟨3, ![4, 256, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S_, .f32⟩
  | .hbm, ⟨5, _⟩ => ⟨S4x256x512, .f32⟩
  | .hbm, ⟨6, _⟩ => ⟨S4x256x512, .f32⟩
  | .hbm, ⟨7, _⟩ => ⟨S_, .f32⟩
  | .hbm, ⟨8, _⟩ => ⟨S4x256x512, .f32⟩
  | .hbm, ⟨9, _⟩ => ⟨S4x256x512, .f32⟩
  | .hbm, ⟨10, _⟩ => ⟨S4x256x512, .f32⟩
  | .hbm, ⟨11, _⟩ => ⟨S_, .f32⟩
  | .hbm, ⟨12, _⟩ => ⟨S4x256x512, .f32⟩
  | .hbm, ⟨13, _⟩ => ⟨S4x256x512, .f32⟩
  | .hbm, ⟨14, _⟩ => ⟨S4x256x512, .f32⟩
  | .hbm, ⟨15, _⟩ => ⟨S_, .f32⟩
  | .hbm, ⟨16, _⟩ => ⟨S4x256x512, .f32⟩
  | .hbm, ⟨17, _⟩ => ⟨S4x256x512, .f32⟩
  | .hbm, ⟨18, _⟩ => ⟨S4x256x512, .f32⟩
  | .hbm, ⟨19, _⟩ => ⟨S_, .f32⟩
  | .hbm, ⟨20, _⟩ => ⟨S4x256x512, .f32⟩
  | .hbm, ⟨21, _⟩ => ⟨S4x256x512, .f32⟩
  | .hbm, ⟨22, _⟩ => ⟨S_, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S_, .f32⟩
  | .hbm, ⟨31, _⟩ => ⟨S4x256x512, .f32⟩
  | .hbm, ⟨32, _⟩ => ⟨S4x256x512, .f32⟩
  | .hbm, ⟨33, _⟩ => ⟨S4x256x512, .f32⟩
  | .hbm, ⟨34, _⟩ => ⟨S_, .f32⟩
  | .hbm, ⟨35, _⟩ => ⟨S4x256x512, .f32⟩
  | .hbm, ⟨36, _⟩ => ⟨S4x256x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x512x2048 : Shape := ⟨3, ![4, 512, 2048]⟩
abbrev S2048x2048 : Shape := ⟨2, ![2048, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S4x512x2048 : Shape := ⟨3, ![4, 512, 2048]⟩
abbrev S_ : Shape := ⟨0, ![]⟩
abbrev S2048x2048 : Shape := ⟨2, ![2048, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | .hbm, ⟨37, _⟩ => ⟨S2048x2048, .f32⟩
  | .hbm, ⟨38, _⟩ => ⟨S2048x2048, .f32⟩
  | .hbm, ⟨39, _⟩ => ⟨S2048x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S4x2048x2752 : Shape := ⟨3, ![4, 2048, 2752]⟩
abbrev S8192x2752 : Shape := ⟨2, ![8192, 2752]⟩
abbrev S64x2752 : Shape := ⟨2, ![64, 2752]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x2752, .f32⟩
  | .hbm, ⟨1, _⟩ => ⟨S4x2048x2752, .f32⟩
  | .hbm, ⟨2, _⟩ => ⟨S4x2048x2752, .f32⟩
  | .hbm, ⟨3, _⟩ => ⟨S4x2048x2752, .f32⟩
  | .hbm, ⟨4, _⟩ => ⟨S8192x2752, .f32⟩
  | .hbm, ⟨5, _⟩ => ⟨S8192x2752, .f32⟩
  | .hbm, ⟨6, _⟩ => ⟨S8192x2752, .f32⟩
  | .hbm, ⟨7, _⟩ => ⟨S8192x2752, .f32⟩
  | .hbm, ⟨8, _⟩ => ⟨S8192x2752, .f32⟩
  | .hbm, ⟨9, _⟩ => ⟨S8192x2752, .f32⟩
  | .hbm, ⟨10, _⟩ => ⟨S8192x2752, .f32⟩
  | .local _ .vmem, ⟨0, _⟩ => ⟨S64x2752, .f32⟩
  | .local _ .vmem, ⟨1, _⟩ => ⟨S64x2752, .f32⟩
  | .local _ .vmem, ⟨2, _⟩ => ⟨S64x2752, .f32⟩
  | .local _ .vmem, ⟨3, _⟩ => ⟨S64x2752, .f32⟩
  | .local _ .vmem, ⟨4, _⟩ => ⟨S64x2752, .f32⟩
  | .local _ .vmem, ⟨5, _⟩ => ⟨S64x2752, .f32⟩
  | .local _ .vmem, ⟨6, _⟩ => ⟨S64x2752, .f32⟩
  | .local _ .vmem, ⟨7, _⟩ => ⟨S64x2752, .f32⟩
  | .local _ .vmem, ⟨8, _⟩ => ⟨S64x2752, .f32⟩
  | .local _ .vmem, ⟨9, _⟩ => ⟨S64x2752, .f32⟩
  | .local _ .vmem, ⟨10, _⟩ => ⟨S64x2752, .f32⟩
  | .local _ .vmem, ⟨11, _⟩ => ⟨S64x2752, .f32⟩
  | .local _ .vmem, ⟨12, _⟩ => ⟨S64x2752, .f32⟩
  | .local _ .vmem, ⟨13, _⟩ => ⟨S64x2752, .f32⟩
  | _, _ => ⟨S4x2048x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2752 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference25Ideal.lean ====
abbrev S4x2048x2752 : Shape := ⟨3, ![4, 2048, 2752]⟩
abbrev S_ : Shape := ⟨0, ![]⟩
abbrev S8192x2752 : Shape := ⟨2, ![8192, 2752]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x2752, .f32⟩
  | .hbm, ⟨1, _⟩ => ⟨S4x2048x2752, .f32⟩
  | .hbm, ⟨2, _⟩ => ⟨S4x2048x2752, .f32⟩
  | .hbm, ⟨3, _⟩ => ⟨S4x2048x2752, .f32⟩
  | .hbm, ⟨4, _⟩ => ⟨S_, .f32⟩
  | .hbm, ⟨5, _⟩ => ⟨S4x2048x2752, .f32⟩
  | .hbm, ⟨6, _⟩ => ⟨S4x2048x2752, .f32⟩
  | .hbm, ⟨7, _⟩ => ⟨S_, .f32⟩
  | .hbm, ⟨8, _⟩ => ⟨S4x2048x2752, .f32⟩
  | .hbm, ⟨9, _⟩ => ⟨S4x2048x2752, .f32⟩
  | .hbm, ⟨10, _⟩ => ⟨S4x2048x2752, .f32⟩
  | .hbm, ⟨11, _⟩ => ⟨S_, .f32⟩
  | .hbm, ⟨12, _⟩ => ⟨S4x2048x2752, .f32⟩
  | .hbm, ⟨13, _⟩ => ⟨S4x2048x2752, .f32⟩
  | .hbm, ⟨14, _⟩ => ⟨S4x2048x2752, .f32⟩
  | .hbm, ⟨15, _⟩ => ⟨S_, .f32⟩
  | .hbm, ⟨16, _⟩ => ⟨S4x2048x2752, .f32⟩
  | .hbm, ⟨17, _⟩ => ⟨S4x2048x2752, .f32⟩
  | .hbm, ⟨18, _⟩ => ⟨S4x2048x2752, .f32⟩
  | .hbm, ⟨19, _⟩ => ⟨S_, .f32⟩
  | .hbm, ⟨20, _⟩ => ⟨S4x2048x2752, .f32⟩
  | .hbm, ⟨21, _⟩ => ⟨S4x2048x2752, .f32⟩
  | .hbm, ⟨22, _⟩ => ⟨S_, .f32⟩
  | .hbm, ⟨23, _⟩ => ⟨S4x2048x2752, .f32⟩
  | .hbm, ⟨24, _⟩ => ⟨S4x2048x2752, .f32⟩
  | .hbm, ⟨25, _⟩ => ⟨S4x2048x2752, .f32⟩
  | .hbm, ⟨26, _⟩ => ⟨S_, .f32⟩
  | .hbm, ⟨27, _⟩ => ⟨S4x2048x2752, .f32⟩
  | .hbm, ⟨28, _⟩ => ⟨S4x2048x2752, .f32⟩
  | .hbm, ⟨29, _⟩ => ⟨S4x2048x2752, .f32⟩
  | .hbm, ⟨30, _⟩ => ⟨S_, .f32⟩
  | .hbm, ⟨31, _⟩ => ⟨S4x2048x2752, .f32⟩
  | .hbm, ⟨32, _⟩ => ⟨S4x2048x2752, .f32⟩
  | .hbm, ⟨33, _⟩ => ⟨S4x2048x2752, .f32⟩
  | .hbm, ⟨34, _⟩ => ⟨S_, .f32⟩
  | .hbm, ⟨35, _⟩ => ⟨S4x2048x2752, .f32⟩
  | .hbm, ⟨36, _⟩ => ⟨S4x2048x2752, .f32⟩
  | .hbm, ⟨37, _⟩ => ⟨S8192x2752, .f32⟩
  | .hbm, ⟨38, _⟩ => ⟨S8192x2752, .f32⟩
  | .hbm, ⟨39, _⟩ => ⟨S8192x2752, .f32⟩
  | _, _ => ⟨S4x2048x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S4x1376x2048 : Shape := ⟨3, ![4, 1376, 2048]⟩
abbrev S5504x2048 : Shape := ⟨2, ![5504, 2048]⟩
abbrev S344x2048 : Shape := ⟨2, ![344, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4x1376x2048, .f32⟩
  | .hbm, ⟨1, _⟩ => ⟨S4x1376x2048, .f32⟩
  | .hbm, ⟨2, _⟩ => ⟨S4x1376x2048, .f32⟩
  | .hbm, ⟨3, _⟩ => ⟨S4x1376x2048, .f32⟩
  | .hbm, ⟨4, _⟩ => ⟨S5504x2048, .f32⟩
  | .hbm, ⟨5, _⟩ => ⟨S5504x2048, .f32⟩
  | .hbm, ⟨6, _⟩ => ⟨S5504x2048, .f32⟩
  | .hbm, ⟨7, _⟩ => ⟨S5504x2048, .f32⟩
  | .hbm, ⟨8, _⟩ => ⟨S5504x2048, .f32⟩
  | .hbm, ⟨9, _⟩ => ⟨S5504x2048, .f32⟩
  | .hbm, ⟨10, _⟩ => ⟨S5504x2048, .f32⟩
  | .local _ .vmem, ⟨0, _⟩ => ⟨S344x2048, .f32⟩
  | .local _ .vmem, ⟨1, _⟩ => ⟨S344x2048, .f32⟩
  | .local _ .vmem, ⟨2, _⟩ => ⟨S344x2048, .f32⟩
  | .local _ .vmem, ⟨3, _⟩ => ⟨S344x2048, .f32⟩
  | .local _ .vmem, ⟨4, _⟩ => ⟨S344x2048, .f32⟩
  | .local _ .vmem, ⟨5, _⟩ => ⟨S344x2048, .f32⟩
  | .local _ .vmem, ⟨6, _⟩ => ⟨S344x2048, .f32⟩
  | .local _ .vmem, ⟨7, _⟩ => ⟨S344x2048, .f32⟩
  | .local _ .vmem, ⟨8, _⟩ => ⟨S344x2048, .f32⟩
  | .local _ .vmem, ⟨9, _⟩ => ⟨S344x2048, .f32⟩
  | .local _ .vmem, ⟨10, _⟩ => ⟨S344x2048, .f32⟩
  | .local _ .vmem, ⟨11, _⟩ => ⟨S344x2048, .f32⟩
  | .local _ .vmem, ⟨12, _⟩ => ⟨S344x2048, .f32⟩
  | .local _ .vmem, ⟨13, _⟩ => ⟨S344x2048, .f32⟩
  | _, _ => ⟨S4x1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S344x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S344x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference26Ideal.lean ====
abbrev S4x1376x2048 : Shape := ⟨3, ![4, 1376, 2048]⟩
abbrev S_ : Shape := ⟨0, ![]⟩
abbrev S5504x2048 : Shape := ⟨2, ![5504, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x1376x2048, .f32⟩
  | .hbm, ⟨1, _⟩ => ⟨S4x1376x2048, .f32⟩
  | .hbm, ⟨2, _⟩ => ⟨S4x1376x2048, .f32⟩
  | .hbm, ⟨3, _⟩ => ⟨S4x1376x2048, .f32⟩
  | .hbm, ⟨4, _⟩ => ⟨S_, .f32⟩
  | .hbm, ⟨5, _⟩ => ⟨S4x1376x2048, .f32⟩
  | .hbm, ⟨6, _⟩ => ⟨S4x1376x2048, .f32⟩
  | .hbm, ⟨7, _⟩ => ⟨S_, .f32⟩
  | .hbm, ⟨8, _⟩ => ⟨S4x1376x2048, .f32⟩
  | .hbm, ⟨9, _⟩ => ⟨S4x1376x2048, .f32⟩
  | .hbm, ⟨10, _⟩ => ⟨S4x1376x2048, .f32⟩
  | .hbm, ⟨11, _⟩ => ⟨S_, .f32⟩
  | .hbm, ⟨12, _⟩ => ⟨S4x1376x2048, .f32⟩
  | .hbm, ⟨13, _⟩ => ⟨S4x1376x2048, .f32⟩
  | .hbm, ⟨14, _⟩ => ⟨S4x1376x2048, .f32⟩
  | .hbm, ⟨15, _⟩ => ⟨S_, .f32⟩
  | .hbm, ⟨16, _⟩ => ⟨S4x1376x2048, .f32⟩
  | .hbm, ⟨17, _⟩ => ⟨S4x1376x2048, .f32⟩
  | .hbm, ⟨18, _⟩ => ⟨S4x1376x2048, .f32⟩
  | .hbm, ⟨19, _⟩ => ⟨S_, .f32⟩
  | .hbm, ⟨20, _⟩ => ⟨S4x1376x2048, .f32⟩
  | .hbm, ⟨21, _⟩ => ⟨S4x1376x2048, .f32⟩
  | .hbm, ⟨22, _⟩ => ⟨S_, .f32⟩
  | .hbm, ⟨23, _⟩ => ⟨S4x1376x2048, .f32⟩
  | .hbm, ⟨24, _⟩ => ⟨S4x1376x2048, .f32⟩
  | .hbm, ⟨25, _⟩ => ⟨S4x1376x2048, .f32⟩
  | .hbm, ⟨26, _⟩ => ⟨S_, .f32⟩
  | .hbm, ⟨27, _⟩ => ⟨S4x1376x2048, .f32⟩
  | .hbm, ⟨28, _⟩ => ⟨S4x1376x2048, .f32⟩
  | .hbm, ⟨29, _⟩ => ⟨S4x1376x2048, .f32⟩
  | .hbm, ⟨30, _⟩ => ⟨S_, .f32⟩
  | .hbm, ⟨31, _⟩ => ⟨S4x1376x2048, .f32⟩
  | .hbm, ⟨32, _⟩ => ⟨S4x1376x2048, .f32⟩
  | .hbm, ⟨33, _⟩ => ⟨S4x1376x2048, .f32⟩
  | .hbm, ⟨34, _⟩ => ⟨S_, .f32⟩
  | .hbm, ⟨35, _⟩ => ⟨S4x1376x2048, .f32⟩
  | .hbm, ⟨36, _⟩ => ⟨S4x1376x2048, .f32⟩
  | .hbm, ⟨37, _⟩ => ⟨S5504x2048, .f32⟩
  | .hbm, ⟨38, _⟩ => ⟨S5504x2048, .f32⟩
  | .hbm, ⟨39, _⟩ => ⟨S5504x2048, .f32⟩
  | _, _ => ⟨S4x1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S768x1024 : Shape := ⟨2, ![768, 1024]⟩
abbrev S192x1024 : Shape := ⟨2, ![192, 1024]⟩

abbrev nBuf : Space → Nat
  | .hbm => 7
  | .vmem => 14
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference27Ideal.lean ====
abbrev S768x1024 : Shape := ⟨2, ![768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S_, .f32⟩
  | .hbm, ⟨5, _⟩ => ⟨S768x1024, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S768x1024, .f32⟩
  | .hbm, ⟨11, _⟩ => ⟨S_, .f32⟩
  | .hbm, ⟨12, _⟩ => ⟨S768x1024, .f32⟩
  | .hbm, ⟨13, _⟩ => ⟨S768x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S768x1024, .f32⟩
  | .hbm, ⟨19, _⟩ => ⟨S_, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S768x1024, .f32⟩
  | .hbm, ⟨34, _⟩ => ⟨S_, .f32⟩
  | .hbm, ⟨35, _⟩ => ⟨S768x1024, .f32⟩
  | .hbm, ⟨36, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Payload.lean ====
module

public import proofs.«01_k».proof.Proof.Gen.KernelIdeal.Skeleton
public import Idealize.ShloMosaic.Lib.Pointwise
public import Idealize.ShloMosaic.Lib.WordCmp

/-! What one grid point computes, read at an index: the scores of a block, their exponentials, the
    gradient of the scores, and the two contributions added into the carried sums. -/

set_option maxRecDepth 16384

@[expose] public noncomputable section

open Idealize.ShloMosaic Idealize.ShloMosaic.TcCoe Idealize.SL.Sem

namespace Cert.KernelIdeal.Block

open Cert.KernelIdeal Cert.KernelIdeal.Gen

/-- A select on a comparison of two index words is an `if` on the comparison of the indices. -/
theorem causal_select {a b : ℕ} (ha : a < 4096) (hb : b < 4096) {α : Type} (x y : α) :
    Scalar.select (IntOp.cmpi .sle (BitVec.ofNat 32 a) (BitVec.ofNat 32 b)) x y = if a ≤ b then x else y := by
  rw [WordCmp.cmpi_sle_ofNat (by omega) (by omega)]
  by_cases h : a ≤ b <;> simp [h, Scalar.select]

/-- The scale of the scores, as the real number its word denotes. -/
abbrev scale : EReal := Ideal.ofBits .f32 0x3D93CD3A#32

variable (q qr kn kr v : FVec Ideal S512x128 .bf16) (o : FVec Ideal S512x128 .f32)
  (lse delta : FVec Ideal S1x512x1 .f32)

/-- The scaled score of query row `r` against key row `k`. -/
def score (r k : Fin 512) : EReal :=
  ((∑ d : Fin 128, q (ix2 r d) * kn (ix2 k d)) + ∑ d : Fin 128, qr (ix2 r d) * kr (ix2 k d)) * scale

/-- The weight of key row `k` for query row `r`. -/
def weight (r k : Fin 512) : EReal := Ideal.exp (score q qr kn kr r k - lse (ix3 0 r 0))

/-- What a weight is multiplied by in the gradient of the scores. -/
def slope (r k : Fin 512) : EReal := (∑ d : Fin 128, o (ix2 r d) * v (ix2 k d)) - delta (ix3 0 r 0)

theorem pay7_at (r k : Fin 512) : k0_pay7 (F := Ideal) q qr kn kr lse (ix2 r k) = weight q qr kn kr lse r k := by
  pointwise [k0_pay7, weight, score]

theorem pay9_at (r k : Fin 512) : k0_pay9 (F := Ideal) q qr kn kr lse (ix2 r k) = weight q qr kn kr lse r k := by
  pointwise [k0_pay9, k0_pay7, weight, score]

theorem pay8_at (r k : Fin 512) : k0_pay8 (F := Ideal) q qr kn kr lse o v delta (ix2 r k)
    = weight q qr kn kr lse r k * slope v o delta r k * scale := by
  pointwise [k0_pay8, k0_pay7, weight, score, slope]

theorem pay10_at (r k : Fin 512) : k0_pay10 (F := Ideal) q qr kn kr lse (ix2 r k)
    = if (k : ℕ) ≤ r then weight q qr kn kr lse r k else 0 := by
  pointwise [k0_pay10, weight, score]
  exact causal_select (by omega) (by omega) _ _

theorem pay11_at (r k : Fin 512) : k0_pay11 (F := Ideal) q qr kn kr lse o v delta (ix2 r k)
    = (k0_pay10 (F := Ideal) q qr kn kr lse (ix2 r k)) * slope v o delta r k * scale := by
  pointwise [k0_pay11, slope]

theorem pay3_at (acc : FVec Ideal S512x128 .f32) (w : FVec Ideal S512x512 .bf16) (k : Fin 512) (d : Fin 128) :
    k0_pay3 acc o w (ix2 k d) = acc (ix2 k d) + ∑ r : Fin 512, w (ix2 r k) * o (ix2 r d) := by
  pointwise [k0_pay3]

theorem pay5_at (acc : FVec Ideal S512x128 .f32) (w : FVec Ideal S512x512 .f32) (k : Fin 512) (d : Fin 128) :
    k0_pay5 w acc o (ix2 k d) = acc (ix2 k d) + ∑ r : Fin 512, w (ix2 r k) * o (ix2 r d) := by
  pointwise [k0_pay5]

theorem pay4_at (acc : FVec Ideal S512x256 .f32) (w : FVec Ideal S512x512 .bf16) (k : Fin 512) (d : Fin 256) :
    k0_pay4 w acc q qr (ix2 k d) = acc (ix2 k d) + ∑ r : Fin 512, w (ix2 r k)
      * (if h : (d : ℕ) < 128 then q (ix2 r ⟨d, h⟩) else qr (ix2 r ⟨d - 128, by omega⟩)) := by
  pointwise [k0_pay4]

theorem pay6_at (acc : FVec Ideal S512x256 .f32) (w : FVec Ideal S512x512 .bf16) (k : Fin 512) (d : Fin 256) :
    k0_pay6 w acc q qr (ix2 k d) = acc (ix2 k d) + ∑ r : Fin 512, w (ix2 r k)
      * (if h : (d : ℕ) < 128 then q (ix2 r ⟨d, h⟩) else qr (ix2 r ⟨d - 128, by omega⟩)) := by
  pointwise [k0_pay6]

theorem pay1_at (i : S512x256.Idx) : k0_pay1 (F := Ideal) i = 0 := by pointwise [k0_pay1]

theorem pay2_at (i : S512x128.Idx) : k0_pay2 (F := Ideal) i = 0 := by pointwise [k0_pay2]

end Cert.KernelIdeal.Block

end
-- ==== Proof.Points.lean ====
module

public import proofs.«01_k».proof.Proof.Gen.KernelIdeal.Frame
public import proofs.«01_k».proof.Proof.Payload
public import Idealize.ShloMosaic.Lib.Pipeline.ValueKit

/-! The two carried sums of the kernel, point by point: at every grid point each grows by that point's
    contribution, where a query row contributes to a key row exactly when it sees it. -/

set_option maxRecDepth 16384

@[expose] public noncomputable section

open Idealize.ShloMosaic Idealize.ShloMosaic.TcCoe Idealize.SL.Sem

namespace Cert.KernelIdeal.Points

open Cert.KernelIdeal Cert.KernelIdeal.Gen Cert.KernelIdeal.Block

variable (m : (ℓ : Loc nD τ sig) → Buf (Elt Ideal) ℓ) (c : Dev nD)

/-- The weight of key row `k` of the block for query row `r`, zero where the query does not see the key. -/
def seen (t : Fin cfg0.N) (r k : Fin 512) : EReal :=
  if t.val / 8 % 8 * 512 + (k : ℕ) ≤ t.val % 8 * 512 + (r : ℕ)
    then weight (iblk m c 0 t) (iblk m c 1 t) (iblk m c 2 t) (iblk m c 4 t) (iblk m c 6 t) r k else 0

/-- The gradient of the score of key row `k` for query row `r`. -/
def grad (t : Fin cfg0.N) (r k : Fin 512) : EReal :=
  seen m c t r k * slope (iblk m c 3 t) (iblk m c 5 t) (iblk m c 7 t) r k * scale

/-- What a point adds to the gradient of the values. -/
def termV (t : Fin cfg0.N) (k : Fin 512) (d : Fin 128) : EReal :=
  ∑ r : Fin 512, seen m c t r k * (iblk m c 5 t : FVec Ideal S512x128 .f32) (ix2 r d)

/-- What a point adds to the gradient of the keys, plain lanes first and rotated lanes after them. -/
def termK (t : Fin cfg0.N) (k : Fin 512) (d : Fin 256) : EReal :=
  ∑ r : Fin 512, grad m c t r k * (if h : (d : ℕ) < 128 then (iblk m c 0 t : FVec Ideal S512x128 .bf16) (ix2 r ⟨d, h⟩)
    else (iblk m c 1 t : FVec Ideal S512x128 .bf16) (ix2 r ⟨d - 128, by omega⟩))

/-! ### A point's contribution in each of the three situations -/

theorem seen_step (t : Fin cfg0.N) (h : t.val / 8 % 8 + 1 ≤ t.val % 8) (r k : Fin 512) :
    seen m c t r k = k0_pay9 (F := Ideal) (iblk m c 0 t) (iblk m c 1 t) (iblk m c 2 t) (iblk m c 4 t) (iblk m c 6 t) (ix2 r k) := by
  rw [pay9_at, seen, if_pos (by omega)]

theorem seen_diag (t : Fin cfg0.N) (h : t.val / 8 % 8 = t.val % 8) (r k : Fin 512) :
    seen m c t r k = k0_pay10 (F := Ideal) (iblk m c 0 t) (iblk m c 1 t) (iblk m c 2 t) (iblk m c 4 t) (iblk m c 6 t) (ix2 r k) := by
  rw [pay10_at, seen, h]
  by_cases hk : (k : ℕ) ≤ r
  · rw [if_pos hk, if_pos (by omega)]
  · rw [if_neg hk, if_neg (by omega)]

theorem seen_none (t : Fin cfg0.N) (h1 : ¬t.val / 8 % 8 + 1 ≤ t.val % 8) (h2 : ¬t.val / 8 % 8 = t.val % 8) (r k : Fin 512) :
    seen m c t r k = 0 := by
  rw [seen, if_neg (by omega)]

theorem grad_step (t : Fin cfg0.N) (h : t.val / 8 % 8 + 1 ≤ t.val % 8) (r k : Fin 512) :
    grad m c t r k = k0_pay8 (F := Ideal) (iblk m c 0 t) (iblk m c 1 t) (iblk m c 2 t) (iblk m c 4 t) (iblk m c 6 t)
      (iblk m c 5 t) (iblk m c 3 t) (iblk m c 7 t) (ix2 r k) := by
  rw [pay8_at, grad, seen, if_pos (by omega)]

theorem grad_diag (t : Fin cfg0.N) (h : t.val / 8 % 8 = t.val % 8) (r k : Fin 512) :
    grad m c t r k = k0_pay11 (F := Ideal) (iblk m c 0 t) (iblk m c 1 t) (iblk m c 2 t) (iblk m c 4 t) (iblk m c 6 t)
      (iblk m c 5 t) (iblk m c 3 t) (iblk m c 7 t) (ix2 r k) := by
  rw [pay11_at, grad, seen_diag m c t h]

theorem stepV (t : Fin cfg0.N) (h : t.val / 8 % 8 + 1 ≤ t.val % 8) (acc : FVec Ideal S512x128 .f32) (k : Fin 512) (d : Fin 128) :
    k0_pay3 (F := Ideal) acc (iblk m c 5 t)
      (k0_pay9 (F := Ideal) (iblk m c 0 t) (iblk m c 1 t) (iblk m c 2 t) (iblk m c 4 t) (iblk m c 6 t)) (ix2 k d)
      = acc (ix2 k d) + termV m c t k d := by
  rw [pay3_at, termV]
  simp only [seen_step m c t h]

theorem diagV (t : Fin cfg0.N) (h : t.val / 8 % 8 = t.val % 8) (acc : FVec Ideal S512x128 .f32) (k : Fin 512) (d : Fin 128) :
    k0_pay5 (F := Ideal)
      (k0_pay10 (F := Ideal) (iblk m c 0 t) (iblk m c 1 t) (iblk m c 2 t) (iblk m c 4 t) (iblk m c 6 t)) acc (iblk m c 5 t) (ix2 k d)
      = acc (ix2 k d) + termV m c t k d := by
  rw [pay5_at, termV]
  simp only [seen_diag m c t h]

theorem noneV (t : Fin cfg0.N) (h1 : ¬t.val / 8 % 8 + 1 ≤ t.val % 8) (h2 : ¬t.val / 8 % 8 = t.val % 8) (k : Fin 512) (d : Fin 128) :
    termV m c t k d = 0 := by
  rw [termV]
  simp only [seen_none m c t h1 h2, zero_mul, Finset.sum_const_zero]

theorem stepK (t : Fin cfg0.N) (h : t.val / 8 % 8 + 1 ≤ t.val % 8) (acc : FVec Ideal S512x256 .f32) (k : Fin 512) (d : Fin 256) :
    k0_pay4 (F := Ideal)
      (k0_pay8 (F := Ideal) (iblk m c 0 t) (iblk m c 1 t) (iblk m c 2 t) (iblk m c 4 t) (iblk m c 6 t)
        (iblk m c 5 t) (iblk m c 3 t) (iblk m c 7 t)) acc (iblk m c 0 t) (iblk m c 1 t) (ix2 k d)
      = acc (ix2 k d) + termK m c t k d := by
  rw [pay4_at, termK]
  simp only [grad_step m c t h]

theorem diagK (t : Fin cfg0.N) (h : t.val / 8 % 8 = t.val % 8) (acc : FVec Ideal S512x256 .f32) (k : Fin 512) (d : Fin 256) :
    k0_pay6 (F := Ideal)
      (k0_pay11 (F := Ideal) (iblk m c 0 t) (iblk m c 1 t) (iblk m c 2 t) (iblk m c 4 t) (iblk m c 6 t)
        (iblk m c 5 t) (iblk m c 3 t) (iblk m c 7 t)) acc (iblk m c 0 t) (iblk m c 1 t) (ix2 k d)
      = acc (ix2 k d) + termK m c t k d := by
  rw [pay6_at, termK]
  simp only [grad_diag m c t h]

theorem noneK (t : Fin cfg0.N) (h1 : ¬t.val / 8 % 8 + 1 ≤ t.val % 8) (h2 : ¬t.val / 8 % 8 = t.val % 8) (k : Fin 512) (d : Fin 256) :
    termK m c t k d = 0 := by
  rw [termK]
  simp only [grad, seen_none m c t h1 h2, zero_mul, Finset.sum_const_zero]

/-! ### The carried sums from point to point -/

/-- The carried sum of the values after a point. -/
def accV (n : ℕ) (h : n < cfg0.N) : FVec Ideal S512x128 .f32 := (outsAt0 m c n h).2.2.2

/-- The carried sum of the keys after a point. -/
def accK (n : ℕ) (h : n < cfg0.N) : FVec Ideal S512x256 .f32 := (outsAt0 m c n h).2.2.1

theorem accV_reset (t : Fin cfg0.N) (h0 : t.val % 8 = 0) (k : Fin 512) (d : Fin 128) :
    accV m c t.val t.isLt (ix2 k d) = 0 + termV m c t k d := by
  rw [accV]
  by_cases h2 : t.val / 8 % 8 = t.val % 8
  · rw [outsAt0_A m c t h0 (by omega) h2 (by omega)]
    frame_out
    rw [diagV m c t h2, pay2_at]
  · rw [outsAt0_D m c t h0 (by omega) h2 (by omega), noneV m c t (by omega) h2, add_zero]
    frame_out
    rw [pay2_at]

theorem accV_next (t : Fin cfg0.N) (h0 : ¬t.val % 8 = 0) (k : Fin 512) (d : Fin 128) :
    accV m c t.val t.isLt (ix2 k d) = accV m c (t.val - 1) (by omega) (ix2 k d) + termV m c t k d := by
  rw [accV]
  by_cases h1 : t.val / 8 % 8 + 1 ≤ t.val % 8
  · by_cases h3 : t.val % 8 = 7
    · rw [outsAt0_C m c t h0 h1 (by omega) h3]
      frame_out
      rw [stepV m c t h1]
      exact congrArg (· + _) (congrFun ((Memref.isWhole_whole cc0_scratch1).read_unread _) _)
    · rw [outsAt0_B m c t h0 h1 (by omega) h3]
      frame_out
      rw [stepV m c t h1]
      exact congrArg (· + _) (congrFun ((Memref.isWhole_whole cc0_scratch1).read_unread _) _)
  · by_cases h2 : t.val / 8 % 8 = t.val % 8
    · by_cases h3 : t.val % 8 = 7
      · rw [outsAt0_G m c t h0 h1 h2 h3]
        frame_out
        rw [diagV m c t h2]
        exact congrArg (· + _) (congrFun ((Memref.isWhole_whole cc0_scratch1).read_unread _) _)
      · rw [outsAt0_E m c t h0 h1 h2 h3]
        frame_out
        rw [diagV m c t h2]
        exact congrArg (· + _) (congrFun ((Memref.isWhole_whole cc0_scratch1).read_unread _) _)
    · rw [outsAt0_F m c t h0 h1 h2 (by omega), noneV m c t h1 h2, add_zero]
      rfl

theorem accK_reset (t : Fin cfg0.N) (h0 : t.val % 8 = 0) (k : Fin 512) (d : Fin 256) :
    accK m c t.val t.isLt (ix2 k d) = 0 + termK m c t k d := by
  rw [accK]
  by_cases h2 : t.val / 8 % 8 = t.val % 8
  · rw [outsAt0_A m c t h0 (by omega) h2 (by omega)]
    frame_out
    rw [diagK m c t h2, pay1_at]
  · rw [outsAt0_D m c t h0 (by omega) h2 (by omega), noneK m c t (by omega) h2, add_zero]
    frame_out
    rw [pay1_at]

theorem accK_next (t : Fin cfg0.N) (h0 : ¬t.val % 8 = 0) (k : Fin 512) (d : Fin 256) :
    accK m c t.val t.isLt (ix2 k d) = accK m c (t.val - 1) (by omega) (ix2 k d) + termK m c t k d := by
  rw [accK]
  by_cases h1 : t.val / 8 % 8 + 1 ≤ t.val % 8
  · by_cases h3 : t.val % 8 = 7
    · rw [outsAt0_C m c t h0 h1 (by omega) h3]
      frame_out
      rw [stepK m c t h1]
      exact congrArg (· + _) (congrFun ((Memref.isWhole_whole cc0_scratch0).read_unread _) _)
    · rw [outsAt0_B m c t h0 h1 (by omega) h3]
      frame_out
      rw [stepK m c t h1]
      exact congrArg (· + _) (congrFun ((Memref.isWhole_whole cc0_scratch0).read_unread _) _)
  · by_cases h2 : t.val / 8 % 8 = t.val % 8
    · by_cases h3 : t.val % 8 = 7
      · rw [outsAt0_G m c t h0 h1 h2 h3]
        frame_out
        rw [diagK m c t h2]
        exact congrArg (· + _) (congrFun ((Memref.isWhole_whole cc0_scratch0).read_unread _) _)
      · rw [outsAt0_E m c t h0 h1 h2 h3]
        frame_out
        rw [diagK m c t h2]
        exact congrArg (· + _) (congrFun ((Memref.isWhole_whole cc0_scratch0).read_unread _) _)
    · rw [outsAt0_F m c t h0 h1 h2 (by omega), noneK m c t h1 h2, add_zero]
      rfl

/-- The carried sum of the values at the end of a run of eight points. -/
theorem accV_run (t : Fin cfg0.N) (h : t.val % 8 = 7) (k : Fin 512) (d : Fin 128) :
    accV m c t.val t.isLt (ix2 k d)
      = ∑ s : Fin 8, termV m c ⟨8 * (t.val / 8) + s.val, Pipeline.run_point_lt_of_flush t h s⟩ k d := by
  have key := Pipeline.eq_sum_fin_of_reset_step_apply_of_flush
    (fun n h (i : S512x128.Idx) => accV m c n h i) 8 (fun _ => (0 : EReal)) (fun t i => termV m c t (i 0) (i 1))
    (fun t h i => by obtain ⟨k, d, rfl⟩ : ∃ k d, i = ix2 k d := ⟨i 0, i 1, eq_ix2 i⟩; exact accV_reset m c t h k d)
    (fun t h i => by obtain ⟨k, d, rfl⟩ : ∃ k d, i = ix2 k d := ⟨i 0, i 1, eq_ix2 i⟩; exact accV_next m c t h k d)
    t h (ix2 k d)
  exact key.trans (zero_add _)

/-- The carried sum of the keys at the end of a run of eight points. -/
theorem accK_run (t : Fin cfg0.N) (h : t.val % 8 = 7) (k : Fin 512) (d : Fin 256) :
    accK m c t.val t.isLt (ix2 k d)
      = ∑ s : Fin 8, termK m c ⟨8 * (t.val / 8) + s.val, Pipeline.run_point_lt_of_flush t h s⟩ k d := by
  have key := Pipeline.eq_sum_fin_of_reset_step_apply_of_flush
    (fun n h (i : S512x256.Idx) => accK m c n h i) 8 (fun _ => (0 : EReal)) (fun t i => termK m c t (i 0) (i 1))
    (fun t h i => by obtain ⟨k, d, rfl⟩ : ∃ k d, i = ix2 k d := ⟨i 0, i 1, eq_ix2 i⟩; exact accK_reset m c t h k d)
    (fun t h i => by obtain ⟨k, d, rfl⟩ : ∃ k d, i = ix2 k d := ⟨i 0, i 1, eq_ix2 i⟩; exact accK_next m c t h k d)
    t h (ix2 k d)
  exact key.trans (zero_add _)

/-! ### What is written back -/

theorem out8_last (t : Fin cfg0.N) (h3 : t.val % 8 = 7) (k : Fin 512) (d : Fin 256) :
    ((outsAt0 m c t.val t.isLt).1 : FVec Ideal S512x256 .f32) (ix2 k d)
      = if h : (d : ℕ) < 128 then accK m c t.val t.isLt (ix2 k d) else accV m c t.val t.isLt (ix2 k ⟨d - 128, by omega⟩) := by
  rw [accK, accV]
  by_cases h1 : t.val / 8 % 8 + 1 ≤ t.val % 8
  · rw [outsAt0_C m c t (by omega) h1 (by omega) h3]
    frame_out
    generalize k0_pay3 (F := Ideal) _ _ _ = Q
    generalize k0_pay4 (F := Ideal) _ _ _ _ = P
    rw [View.readCov_eq_canon']
    have hP := View.canon_cons_unit_lit (Val := Elt Ideal) (e := .f32) (S := S512x256) (off := ![0, 0]) inb_S512x256_S512x256_0_0 P [] (by decide)
    simp only [show ∀ i, View.canon (Val := Elt Ideal) (e := .f32) [⟨Rect.unit ![0, 0] ![512, 256] inb_S512x256_S512x256_0_0, P⟩] i = P i from fun i => congrFun hP i]
    canon_tiles x h
    case piece1 =>
      have e0 : (k : ℕ) = x 0 := h0
      have e1 : (d : ℕ) = x 1 := h1
      rw [dif_pos (by omega)]
      refine congrArg P (funext fun a => Fin.ext ?_)
      match a with
      | ⟨0, _⟩ => show 0 + 1 * (x 0 : ℕ) = k; omega
      | ⟨1, _⟩ => show 0 + 1 * (x 1 : ℕ) = d; omega
    case piece0 =>
      have e0 : (k : ℕ) = x 0 := h0
      have e1 : (d : ℕ) = 128 + x 1 := h1
      rw [dif_neg (by omega)]
      refine congrArg Q (funext fun a => Fin.ext ?_)
      match a with
      | ⟨0, _⟩ => exact e0.symm
      | ⟨1, _⟩ => show (x 1 : ℕ) = d - 128; omega
  · rw [outsAt0_G m c t (by omega) h1 (by omega) h3]
    frame_out
    generalize k0_pay5 (F := Ideal) _ _ _ = Q
    generalize k0_pay6 (F := Ideal) _ _ _ _ = P
    rw [View.readCov_eq_canon']
    have hP := View.canon_cons_unit_lit (Val := Elt Ideal) (e := .f32) (S := S512x256) (off := ![0, 0]) inb_S512x256_S512x256_0_0 P [] (by decide)
    simp only [show ∀ i, View.canon (Val := Elt Ideal) (e := .f32) [⟨Rect.unit ![0, 0] ![512, 256] inb_S512x256_S512x256_0_0, P⟩] i = P i from fun i => congrFun hP i]
    canon_tiles x h
    case piece1 =>
      have e0 : (k : ℕ) = x 0 := h0
      have e1 : (d : ℕ) = x 1 := h1
      rw [dif_pos (by omega)]
      refine congrArg P (funext fun a => Fin.ext ?_)
      match a with
      | ⟨0, _⟩ => show 0 + 1 * (x 0 : ℕ) = k; omega
      | ⟨1, _⟩ => show 0 + 1 * (x 1 : ℕ) = d; omega
    case piece0 =>
      have e0 : (k : ℕ) = x 0 := h0
      have e1 : (d : ℕ) = 128 + x 1 := h1
      rw [dif_neg (by omega)]
      refine congrArg Q (funext fun a => Fin.ext ?_)
      match a with
      | ⟨0, _⟩ => exact e0.symm
      | ⟨1, _⟩ => show (x 1 : ℕ) = d - 128; omega

theorem out9_last (t : Fin cfg0.N) (h3 : t.val % 8 = 7) (k : Fin 512) (d : Fin 128) :
    ((outsAt0 m c t.val t.isLt).2.1 : FVec Ideal S512x128 .f32) (ix2 k d) = accK m c t.val t.isLt (ix2 k ⟨d + 128, by omega⟩) := by
  rw [accK]
  by_cases h1 : t.val / 8 % 8 + 1 ≤ t.val % 8
  · rw [outsAt0_C m c t (by omega) h1 (by omega) h3]
    frame_out
    generalize k0_pay4 (F := Ideal) _ _ _ _ = P
    rw [View.readCov_eq_canon']
    have hP := View.canon_cons_unit_lit (Val := Elt Ideal) (e := .f32) (S := S512x256) (off := ![0, 0]) inb_S512x256_S512x256_0_0 P [] (by decide)
    simp only [show ∀ i, View.canon (Val := Elt Ideal) (e := .f32) [⟨Rect.unit ![0, 0] ![512, 256] inb_S512x256_S512x256_0_0, P⟩] i = P i from fun i => congrFun hP i]
    refine congrArg P (funext fun a => Fin.ext ?_)
    match a with
    | ⟨0, _⟩ => show 0 + 1 * (k : ℕ) = k; omega
    | ⟨1, _⟩ => show 128 + 1 * (d : ℕ) = d + 128; omega
  · rw [outsAt0_G m c t (by omega) h1 (by omega) h3]
    frame_out
    generalize k0_pay6 (F := Ideal) _ _ _ _ = P
    rw [View.readCov_eq_canon']
    have hP := View.canon_cons_unit_lit (Val := Elt Ideal) (e := .f32) (S := S512x256) (off := ![0, 0]) inb_S512x256_S512x256_0_0 P [] (by decide)
    simp only [show ∀ i, View.canon (Val := Elt Ideal) (e := .f32) [⟨Rect.unit ![0, 0] ![512, 256] inb_S512x256_S512x256_0_0, P⟩] i = P i from fun i => congrFun hP i]
    refine congrArg P (funext fun a => Fin.ext ?_)
    match a with
    | ⟨0, _⟩ => show 0 + 1 * (k : ℕ) = k; omega
    | ⟨1, _⟩ => show 128 + 1 * (d : ℕ) = d + 128; omega

end Cert.KernelIdeal.Points

end
-- ==== Proof.Host.lean ====
module

public import proofs.«01_k».proof.Proof.Gen.KernelIdeal.Frame
public import proofs.«01_k».proof.Proof.Gen.ReferenceIdeal.Read
public import Idealize.ShloMosaic.Lib.Pipeline.ValueKit

/-! What the host code hands to the kernel, read at an index: the packed queries and keys, the logarithm of
    each row's sum, and each row's product of output and cotangent. -/

set_option maxRecDepth 16384

@[expose] public noncomputable section

open Idealize.ShloMosaic Idealize.ShloMosaic.TcCoe Idealize.SL.Sem

namespace Cert.KernelIdeal.Host

open Cert.KernelIdeal Cert.KernelIdeal.Gen

variable (m : (ℓ : Loc nD τ sig) → Buf (Elt Ideal) ℓ) (c : Dev nD)

/-- The arguments, as arrays. -/
abbrev a0 : FVec Ideal S4096x8x128 .f32 := m ((c : Thread nD τ).loc main_arg0)
abbrev a1 : FVec Ideal S4096x8x64 .f32 := m ((c : Thread nD τ).loc main_arg1)
abbrev a2 : FVec Ideal S4096x8x128 .f32 := m ((c : Thread nD τ).loc main_arg2)
abbrev a3 : FVec Ideal S4096x64 .f32 := m ((c : Thread nD τ).loc main_arg3)
abbrev a4 : FVec Ideal S4096x8x128 .f32 := m ((c : Thread nD τ).loc main_arg4)
abbrev a5 : FVec Ideal S4096x2048 .f32 := m ((c : Thread nD τ).loc main_arg5)

/-- The queries' plain lanes, the heads side by side. -/
def qn (x : FVec Ideal S4096x8x128 .f32) : FVec Ideal S4096x1024 .bf16 :=
  truncf .bf16 (shapeCast S4096x1024 x shapeCasts_S4096x8x128_S4096x1024) bitsLt_bf16_f32

/-- The queries' rotated lanes, twice over for each head. -/
def qr (x : FVec Ideal S4096x8x64 .f32) : FVec Ideal S4096x1024 .bf16 :=
  truncf .bf16 (shapeCast S4096x1024 (concatenate S4096x8x128 2 [⟨S4096x8x64, x⟩, ⟨S4096x8x64, x⟩]
    concatenates_S4096x8x64_S4096x8x64_S4096x8x128_d2 : FVec Ideal S4096x8x128 .f32) shapeCasts_S4096x8x128_S4096x1024) bitsLt_bf16_f32

/-- The keys' plain lanes and the values, side by side for each head. -/
def kv (x y : FVec Ideal S4096x8x128 .f32) : FVec Ideal S4096x2048 .bf16 :=
  truncf .bf16 (shapeCast S4096x2048 (concatenate S4096x8x256 2 [⟨S4096x8x128, x⟩, ⟨S4096x8x128, y⟩]
    concatenates_S4096x8x128_S4096x8x128_S4096x8x256_d2 : FVec Ideal S4096x8x256 .f32) shapeCasts_S4096x8x256_S4096x2048) bitsLt_bf16_f32

/-- The keys' rotated lanes, filled up with zeros. -/
def kr (x : FVec Ideal S4096x64 .f32) : FVec Ideal S4096x128 .bf16 :=
  truncf .bf16 (concatenate S4096x128 1 [⟨S4096x64, x⟩, ⟨S4096x64, broadcastInDim S4096x64 ![] bcast_S_S4096x64 (constant S_ .f32 0x00000000#32 : FVec Ideal S_ .f32)⟩]
    concatenates_S4096x64_S4096x64_S4096x128_d1 : FVec Ideal S4096x128 .f32) bitsLt_bf16_f32

/-- Each row's largest score. -/
def top (s : FVec Ideal S8x4096x4096 .f32) : FVec Ideal S8x4096 .f32 :=
  Host.reduce FloatOps.maximumf s (constant S_ .f32 0xFF800000#32 : FVec Ideal S_ .f32) reducesTo_S8x4096x4096_S8x4096_d2 h_S_

/-- The logarithm of each row's sum of exponentials, from the masked scores `s` and their row maxima `t`. -/
def logSum (s : FVec Ideal S8x4096x4096 .f32) (t : FVec Ideal S8x4096 .f32) : FVec Ideal S8x4096x1 .f32 :=
  addf (broadcastInDim S8x4096x1 ![0, 1] bcast_S8x4096_S8x4096x1_0_1 t)
    (Host.log (broadcastInDim S8x4096x1 ![0, 1] bcast_S8x4096_S8x4096x1_0_1
      (Host.reduceAdd (Host.exp (subf s (broadcastInDim S8x4096x4096 ![0, 1, 2] bcast_S8x4096x1_S8x4096x4096_0_1_2
        (broadcastInDim S8x4096x1 ![0, 1] bcast_S8x4096_S8x4096x1_0_1 t))))
        (constant S_ .f32 0x00000000#32 : FVec Ideal S_ .f32) reducesTo_S8x4096x4096_S8x4096_d2 h_S_)))

/-- Each row's product of cotangent and output. -/
def rowDot (x y : FVec Ideal S4096x8x128 .f32) : FVec Ideal S8x4096x1 .f32 :=
  broadcastInDim S8x4096x1 ![0, 1] bcast_S8x4096_S8x4096x1_0_1 (transpose S8x4096 [1, 0]
    (Host.reduceAdd (mulf x y) (constant S_ .f32 0x00000000#32 : FVec Ideal S_ .f32) reducesTo_S4096x8x128_S4096x8_d2 h_S_ : FVec Ideal S4096x8 .f32)
    transposes_S4096x8_S8x4096_1_0)

/-! ### The operands are these -/

theorem v1_eq : (V m c main_v1 : FVec Ideal S4096x1024 .bf16) = qn (a0 m c) := rfl
theorem v4_eq : (V m c main_v4 : FVec Ideal S4096x1024 .bf16) = qr (a1 m c) := rfl
theorem v7_eq : (V m c main_v7 : FVec Ideal S4096x2048 .bf16) = kv (a2 m c) (a4 m c) := rfl
theorem v10_eq : (V m c main_v10 : FVec Ideal S4096x128 .bf16) = kr (a3 m c) := rfl

/-- The masked scores, as the reference writes them. -/
abbrev masked : FVec Ideal S8x4096x4096 .f32 :=
  Cert.ReferenceIdeal.Read.val_main_v14_0 (F := Ideal) (a0 m c) (a1 m c) (a2 m c) (a3 m c)

theorem v25_eq : (V m c main_v25 : FVec Ideal S8x4096x4096 .f32) = masked m c := rfl

theorem v34_eq : (V m c main_v34 : FVec Ideal S8x4096x1 .f32) = logSum (masked m c) (top (masked m c)) := by
  show StableHlo.after (hostOps0 ++ (hostOps0_1 ++ (hostOps0_2 ++ (hostOps0_3 ++ (hostOps0_4 ++ []))))) _ _ = _
  simp only [List.cons_append, List.nil_append, StableHlo.after_cons, StableHlo.after_nil]
  after_results_simp
  rfl

theorem v68_eq : (V m c main_v68 : FVec Ideal S8x4096x1 .f32)
    = rowDot (Cert.ReferenceIdeal.Read.val_main_v46 (F := Ideal) (a5 m c))
        (Cert.ReferenceIdeal.Read.val_main_v44 (F := Ideal) (a0 m c) (a1 m c) (a2 m c) (a3 m c) (a4 m c)) := by
  show StableHlo.after (hostOps0 ++ (hostOps0_1 ++ (hostOps0_2 ++ (hostOps0_3 ++ (hostOps0_4 ++ []))))) _ _ = _
  simp only [List.cons_append, List.nil_append, StableHlo.after_cons, StableHlo.after_nil]
  after_results_simp
  rfl

/-! ### and read at an index -/

theorem qn_at (x : FVec Ideal S4096x8x128 .f32) (q : Fin 4096) (j : Fin 1024) :
    qn x (ix2 q j) = x (ix3 q ⟨j / 128, by omega⟩ ⟨j % 128, by omega⟩) := by
  pointwise [qn]

theorem qr_at (x : FVec Ideal S4096x8x64 .f32) (q : Fin 4096) (j : Fin 1024) :
    qr x (ix2 q j) = x (ix3 q ⟨j / 128, by omega⟩ ⟨j % 64, by omega⟩) := by
  pointwise [qr]
  split_ifs <;> blk_ext

theorem kv_at (x y : FVec Ideal S4096x8x128 .f32) (k : Fin 4096) (j : Fin 2048) : kv x y (ix2 k j)
    = if h : (j : ℕ) % 256 < 128 then x (ix3 k ⟨j / 256, by omega⟩ ⟨j % 256, h⟩)
      else y (ix3 k ⟨j / 256, by omega⟩ ⟨j % 256 - 128, by omega⟩) := by
  pointwise [kv]

theorem kr_at (x : FVec Ideal S4096x64 .f32) (k : Fin 4096) (d : Fin 128) : kr x (ix2 k d)
    = if h : (d : ℕ) < 64 then x (ix2 k ⟨d, h⟩) else 0 := by
  pointwise [kr]

theorem top_at (s : FVec Ideal S8x4096x4096 .f32) (h : Fin 8) (q : Fin 4096) :
    top s (ix2 h q) = Finset.univ.fold max ⊥ fun k : Fin 4096 => s (ix3 h q k) := by
  pointwise [top]
  rw [show Ideal.ofBits .f32 0xFF800000#32 = ⊥ from by simp [Ideal.ofBits, Ideal.ieee]]

theorem logSum_at (s : FVec Ideal S8x4096x4096 .f32) (t : FVec Ideal S8x4096 .f32) (h : Fin 8) (q : Fin 4096) :
    logSum s t (ix3 h q 0) = t (ix2 h q) + Ideal.log (∑ k : Fin 4096, Ideal.exp (s (ix3 h q k) - t (ix2 h q))) := by
  pointwise [logSum]

theorem rowDot_at (x y : FVec Ideal S4096x8x128 .f32) (h : Fin 8) (q : Fin 4096) :
    rowDot x y (ix3 h q 0) = ∑ d : Fin 128, x (ix3 q h d) * y (ix3 q h d) := by
  pointwise [rowDot]

end Cert.KernelIdeal.Host

end
-- ==== Proof.Reads.lean ====
module

public import proofs.«01_k».proof.Proof.Points
public import proofs.«01_k».proof.Proof.Host

/-! The blocks a grid point reads, as entries of the arguments: the point's queries start at 512 times its
    query block, its keys at 512 times its key block, and its head is its number over 64. -/

set_option maxRecDepth 16384

@[expose] public noncomputable section

open Idealize.ShloMosaic Idealize.ShloMosaic.TcCoe Idealize.SL.Sem

namespace Cert.KernelIdeal.Reads

open Cert.KernelIdeal Cert.KernelIdeal.Gen Cert.KernelIdeal.Host

variable (m : (ℓ : Loc nD τ sig) → Buf (Elt Ideal) ℓ) (c : Dev nD)

/-- The block every window shows at a point. -/
theorem idx : ∀ t : Fin cfg0.N,
    win0_0.index t = ![max (t.val / 8 % 8) (t.val % 8), t.val / 64]
    ∧ win0_1.index t = ![max (t.val / 8 % 8) (t.val % 8), t.val / 64]
    ∧ win0_2.index t = ![t.val / 8 % 8, 2 * (t.val / 64)]
    ∧ win0_3.index t = ![t.val / 8 % 8, 2 * (t.val / 64) + 1]
    ∧ win0_4.index t = ![t.val / 8 % 8, 0]
    ∧ win0_5.index t = ![max (t.val / 8 % 8) (t.val % 8), t.val / 64 + 4]
    ∧ win0_6.index t = ![t.val / 64, max (t.val / 8 % 8) (t.val % 8), 0]
    ∧ win0_7.index t = ![t.val / 64, max (t.val / 8 % 8) (t.val % 8), 0] :=
  (by decide +kernel : ∀ t : Fin grid0.N, _)

theorem point_lt (t : Fin cfg0.N) : t.val < 512 := lt_of_lt_of_eq t.isLt (show cfg0.N = 512 from N_0)

/-- The head of a point. -/
def hd (t : Fin cfg0.N) : Fin 8 := ⟨t.val / 64, by have := point_lt t; omega⟩

/-- The query that row `r` of a point's block is. -/
def row (t : Fin cfg0.N) (r : Fin 512) : Fin 4096 := ⟨t.val % 8 * 512 + r, by omega⟩

/-- The key that row `k` of a point's block is. -/
def col (t : Fin cfg0.N) (k : Fin 512) : Fin 4096 := ⟨t.val / 8 % 8 * 512 + k, by omega⟩

variable (t : Fin cfg0.N) (hs : t.val / 8 % 8 ≤ t.val % 8)
include hs

theorem read0 (r : Fin 512) (d : Fin 128) : (iblk m c 0 t : FVec Ideal S512x128 .bf16) (ix2 r d) = a0 m c (ix3 (row t r) (hd t) d) := by
  have ht := point_lt t
  refine Eq.trans ?_ ((congrFun (v1_eq m c) (ix2 (row t r) ⟨t.val / 64 * 128 + d, by omega⟩)).trans ((qn_at _ _ _).trans ?_))
  · simp only [row]
    blk_ext [iblk, idx t]
  · simp only [hd]
    blk_ext

theorem read1 (r : Fin 512) (d : Fin 128) : (iblk m c 1 t : FVec Ideal S512x128 .bf16) (ix2 r d)
    = a1 m c (ix3 (row t r) (hd t) ⟨d % 64, by omega⟩) := by
  have ht := point_lt t
  refine Eq.trans ?_ ((congrFun (v4_eq m c) (ix2 (row t r) ⟨t.val / 64 * 128 + d, by omega⟩)).trans ((qr_at _ _ _).trans ?_))
  · simp only [row]
    blk_ext [iblk, idx t]
  · simp only [hd]
    blk_ext

theorem read5 (r : Fin 512) (d : Fin 128) : (iblk m c 5 t : FVec Ideal S512x128 .f32) (ix2 r d)
    = a5 m c (ix2 (row t r) ⟨512 + (hd t * 128 + d), by omega⟩) := by
  have ht := point_lt t
  simp only [row, hd]
  blk_ext [iblk, V, idx t]

theorem view6 (X : FVec Ideal S8x4096x1 .f32) (r : Fin 512) :
    (((cfg0.win 6).blk t).view.read (Elt Ideal) X : FVec Ideal S1x512x1 .f32) (ix3 0 r 0) = X (ix3 (hd t) (row t r) 0) := by
  have ht := point_lt t
  simp only [row, hd]
  blk_ext [idx t]

theorem block6 (r : Fin 512) : (iblk m c 6 t : FVec Ideal S1x512x1 .f32) (ix3 0 r 0)
    = (V m c main_v34 : FVec Ideal S8x4096x1 .f32) (ix3 (hd t) (row t r) 0) := by
  unfold iblk
  exact view6 t hs (V m c main_v34) r

theorem read6 (r : Fin 512) : (iblk m c 6 t : FVec Ideal S1x512x1 .f32) (ix3 0 r 0)
    = logSum (masked m c) (top (masked m c)) (ix3 (hd t) (row t r) 0) := by
  rw [block6 m c t hs, v34_eq m c]

theorem view7 (X : FVec Ideal S8x4096x1 .f32) (r : Fin 512) :
    (((cfg0.win 7).blk t).view.read (Elt Ideal) X : FVec Ideal S1x512x1 .f32) (ix3 0 r 0) = X (ix3 (hd t) (row t r) 0) := by
  have ht := point_lt t
  simp only [row, hd]
  blk_ext [idx t]

theorem block7 (r : Fin 512) : (iblk m c 7 t : FVec Ideal S1x512x1 .f32) (ix3 0 r 0)
    = (V m c main_v68 : FVec Ideal S8x4096x1 .f32) (ix3 (hd t) (row t r) 0) := by
  unfold iblk
  exact view7 t hs (V m c main_v68) r

theorem read7 (r : Fin 512) : (iblk m c 7 t : FVec Ideal S1x512x1 .f32) (ix3 0 r 0)
    = rowDot (Cert.ReferenceIdeal.Read.val_main_v46 (F := Ideal) (a5 m c))
        (Cert.ReferenceIdeal.Read.val_main_v44 (F := Ideal) (a0 m c) (a1 m c) (a2 m c) (a3 m c) (a4 m c)) (ix3 (hd t) (row t r) 0) := by
  rw [block7 m c t hs, v68_eq m c]

omit hs

theorem read2 (k : Fin 512) (d : Fin 128) : (iblk m c 2 t : FVec Ideal S512x128 .bf16) (ix2 k d) = a2 m c (ix3 (col t k) (hd t) d) := by
  have ht := point_lt t
  refine Eq.trans ?_ ((congrFun (v7_eq m c) (ix2 (col t k) ⟨2 * (t.val / 64) * 128 + d, by omega⟩)).trans ((kv_at _ _ _ _).trans ?_))
  · simp only [col]
    blk_ext [iblk, idx t]
  · rw [dif_pos (by show (2 * (t.val / 64) * 128 + (d : ℕ)) % 256 < 128; omega)]
    simp only [hd]
    blk_ext

theorem read3 (k : Fin 512) (d : Fin 128) : (iblk m c 3 t : FVec Ideal S512x128 .bf16) (ix2 k d) = a4 m c (ix3 (col t k) (hd t) d) := by
  have ht := point_lt t
  refine Eq.trans ?_ ((congrFun (v7_eq m c) (ix2 (col t k) ⟨(2 * (t.val / 64) + 1) * 128 + d, by omega⟩)).trans ((kv_at _ _ _ _).trans ?_))
  · simp only [col]
    blk_ext [iblk, idx t]
  · rw [dif_neg (by show ¬((2 * (t.val / 64) + 1) * 128 + (d : ℕ)) % 256 < 128; omega)]
    simp only [hd]
    blk_ext

theorem read4 (k : Fin 512) (d : Fin 128) : (iblk m c 4 t : FVec Ideal S512x128 .bf16) (ix2 k d)
    = if h : (d : ℕ) < 64 then a3 m c (ix2 (col t k) ⟨d, h⟩) else 0 := by
  refine Eq.trans ?_ ((congrFun (v10_eq m c) (ix2 (col t k) d)).trans (kr_at _ _ _))
  simp only [col]
  blk_ext [iblk, idx t]

end Cert.KernelIdeal.Reads

end
-- ==== Proof.RefAt.lean ====
module

public import proofs.«01_k».proof.Proof.Gen.ReferenceIdeal.Read
public import Idealize.ShloMosaic.Lib.Pointwise
public import Idealize.ShloMosaic.Lib.WordCmp

/-! The reference read at an index, stage by stage: the masked scores, the exponentials and their sums, the
    gradient of the scores, and the two results. -/

set_option maxRecDepth 16384

@[expose] public noncomputable section

open Idealize.ShloMosaic Idealize.ShloMosaic.TcCoe Idealize.SL.Sem

namespace Cert.ReferenceIdeal.At

open Cert.ReferenceIdeal Cert.ReferenceIdeal.Gen Cert.ReferenceIdeal.Read

/-- A select on a comparison of two position words is an `if` on the comparison of the positions. -/
theorem causal_select {a b : ℕ} (ha : a < 4096) (hb : b < 4096) {α : Type} (x y : α) :
    Scalar.select (IntOp.cmpi .sle (BitVec.ofNat 32 a) (BitVec.ofNat 32 b)) x y = if a ≤ b then x else y := by
  rw [WordCmp.cmpi_sle_ofNat (by omega) (by omega)]
  by_cases h : a ≤ b <;> simp [h, Scalar.select]

/-- The scale of the scores, as the real number its word denotes. -/
abbrev scale : EReal := Ideal.ofBits .f32 0x3D93CD3A#32

variable (x0 : FVec Ideal S4096x8x128 .f32) (x1 : FVec Ideal S4096x8x64 .f32) (x2 : FVec Ideal S4096x8x128 .f32)
  (x3 : FVec Ideal S4096x64 .f32) (x4 : FVec Ideal S4096x8x128 .f32) (x5 : FVec Ideal S4096x2048 .f32)

/-- The scaled score of query `q` against key `k` in head `h`. -/
def score (h : Fin 8) (q k : Fin 4096) : EReal :=
  ((∑ d : Fin 128, x0 (ix3 q h d) * x2 (ix3 k h d)) + ∑ d : Fin 64, x1 (ix3 q h d) * x3 (ix2 k d)) * scale

theorem masked_at (h : Fin 8) (q k : Fin 4096) : val_main_v14_0 (F := Ideal) x0 x1 x2 x3 (ix3 h q k)
    = if (k : ℕ) ≤ q then score x0 x1 x2 x3 h q k else ⊥ := by
  pointwise [val_main_v14_0, val_main_v14_1, val_main_v13, val_main_v12, val_main_v11, val_main_v10, val_main_v9, val_main_v8,
    val_main_v7, val_main_v6, val_main_v5, val_main_v4, val_main_v3, val_main_v2, val_main_v1, val_main_v0, val_main_cst,
    val_main_cst_0, val_main_call0_v0, val_main_call0_v2, score]
  show Scalar.select _ _ (Ideal.ofBits .f32 0xFF800000#32) = _
  rw [show Ideal.ofBits .f32 0xFF800000#32 = ⊥ from by simp [Ideal.ofBits, Ideal.ieee]]
  exact causal_select k.isLt q.isLt _ _

/-- The largest of minus infinity and a number is the number. -/
theorem max_word (t : EReal) : FloatOps.maximumf (F := Ideal) (φ := .f32) (FloatOps.ofBits (F := Ideal) .f32 0xFF800000#32) t = t := by
  show max (Ideal.ofBits .f32 0xFF800000#32) t = t
  rw [show Ideal.ofBits .f32 0xFF800000#32 = ⊥ from by simp [Ideal.ofBits, Ideal.ieee]]
  exact max_bot_left _

theorem top_at (h : Fin 8) (q : Fin 4096) : val_main_v22 (F := Ideal) x0 x1 x2 x3 (ix2 h q)
    = val_main_v15 (F := Ideal) x0 x1 x2 x3 (ix2 h q) := by
  rw [val_main_v22_apply, val_main_v21_apply, val_main_cst_3_apply]
  exact max_word _

theorem exp_at (h : Fin 8) (q k : Fin 4096) : val_main_v35 (F := Ideal) x0 x1 x2 x3 (ix3 h q k)
    = Ideal.exp (val_main_v14_0 (F := Ideal) x0 x1 x2 x3 (ix3 h q k) - val_main_v22 (F := Ideal) x0 x1 x2 x3 (ix2 h q)) := by
  pointwise [val_main_v35, val_main_v34, val_main_v33, val_main_v32]

theorem sum_at (h : Fin 8) (q : Fin 4096) : val_main_v36 (F := Ideal) x0 x1 x2 x3 (ix2 h q)
    = ∑ k : Fin 4096, val_main_v35 (F := Ideal) x0 x1 x2 x3 (ix3 h q k) := by
  pointwise [val_main_v36, val_main_cst_9]

theorem weight_at (h : Fin 8) (q k : Fin 4096) : val_main_v39 (F := Ideal) x0 x1 x2 x3 (ix3 h q k)
    = Ideal.div (val_main_v35 (F := Ideal) x0 x1 x2 x3 (ix3 h q k)) (val_main_v36 (F := Ideal) x0 x1 x2 x3 (ix2 h q)) := by
  pointwise [val_main_v39, val_main_v38, val_main_v37]

theorem out_at (h : Fin 8) (q : Fin 4096) (d : Fin 128) : val_main_v44 (F := Ideal) x0 x1 x2 x3 x4 (ix3 q h d)
    = ∑ k : Fin 4096, x4 (ix3 k h d) * val_main_v39 (F := Ideal) x0 x1 x2 x3 (ix3 h q k) := by
  pointwise [val_main_v44, val_main_v43]

theorem ct_at (h : Fin 8) (q : Fin 4096) (d : Fin 128) : val_main_v46 (F := Ideal) x5 (ix3 q h d)
    = x5 (ix2 q ⟨512 + (h * 128 + d), by omega⟩) := by
  pointwise [val_main_v46, val_main_v45]

theorem dp_at (h : Fin 8) (q k : Fin 4096) : val_main_v48 (F := Ideal) x4 x5 (ix3 h q k)
    = ∑ d : Fin 128, x5 (ix2 q ⟨512 + (h * 128 + d), by omega⟩) * x4 (ix3 k h d) := by
  pointwise [val_main_v48, val_main_v47, val_main_v46, val_main_v45]

theorem inv_at (h : Fin 8) (q : Fin 4096) : val_main_v42 (F := Ideal) x0 x1 x2 x3 (ix3 h q 0)
    = Ideal.div 1 (val_main_v36 (F := Ideal) x0 x1 x2 x3 (ix2 h q) * val_main_v36 (F := Ideal) x0 x1 x2 x3 (ix2 h q)) := by
  pointwise [val_main_v42, val_main_v41, val_main_v40, val_main_v37, val_main_cst_10]

theorem corr_at (h : Fin 8) (q : Fin 4096) : val_main_v59 (F := Ideal) x0 x1 x2 x3 x4 x5 (ix2 h q)
    = -∑ k : Fin 4096, val_main_v48 (F := Ideal) x4 x5 (ix3 h q k) * val_main_v42 (F := Ideal) x0 x1 x2 x3 (ix3 h q 0)
        * val_main_v35 (F := Ideal) x0 x1 x2 x3 (ix3 h q k) := by
  pointwise [val_main_v59, val_main_v56, val_main_v55, val_main_v54, val_main_v53, val_main_v52, val_main_v51, val_main_cst_11, val_main_cst_12]
  exact Fin.sum_univ_one _

theorem grad_at (h : Fin 8) (q k : Fin 4096) : val_main_v65 (F := Ideal) x0 x1 x2 x3 x4 x5 (ix3 h q k)
    = (if (k : ℕ) ≤ q then (Ideal.div (val_main_v48 (F := Ideal) x4 x5 (ix3 h q k)) (val_main_v36 (F := Ideal) x0 x1 x2 x3 (ix2 h q))
        + val_main_v59 (F := Ideal) x0 x1 x2 x3 x4 x5 (ix2 h q)) * val_main_v35 (F := Ideal) x0 x1 x2 x3 (ix3 h q k) else 0) * scale := by
  pointwise [val_main_v65, val_main_v64, val_main_v63, val_main_v62, val_main_v61, val_main_v60, val_main_v58, val_main_v57, val_main_v37,
    val_main_v14_1, val_main_v13, val_main_v12, val_main_v11, val_main_v10, val_main_v9, val_main_v8, val_main_v7, val_main_call1_cst, val_main_call1_v0, val_main_cst_13]
  refine (causal_select k.isLt q.isLt _ _).trans ?_
  split_ifs
  · rfl
  · exact (zero_mul _).symm

theorem res0_at (k : Fin 4096) (j : Fin 2048) : val_main_v75 (F := Ideal) x0 x1 x2 x3 x4 x5 (ix2 k j)
    = if h : (j : ℕ) % 256 < 128
      then ∑ q : Fin 4096, val_main_v65 (F := Ideal) x0 x1 x2 x3 x4 x5 (ix3 ⟨j / 256, by omega⟩ q k) * x0 (ix3 q ⟨j / 256, by omega⟩ ⟨j % 256, h⟩)
      else ∑ q : Fin 4096, x5 (ix2 q ⟨512 + (j / 256 * 128 + (j % 256 - 128)), by omega⟩)
        * val_main_v39 (F := Ideal) x0 x1 x2 x3 (ix3 ⟨j / 256, by omega⟩ q k) := by
  pointwise [val_main_v75, val_main_v74, val_main_v71, val_main_v70, val_main_v50, val_main_v49, val_main_v47, val_main_v46, val_main_v45]

theorem res1_at (k : Fin 4096) (j : Fin 1024) : val_main_v77 (F := Ideal) x0 x1 x2 x3 x4 x5 (ix2 k j)
    = ∑ q : Fin 4096, val_main_v65 (F := Ideal) x0 x1 x2 x3 x4 x5 (ix3 ⟨j / 128, by omega⟩ q k) * x1 (ix3 q ⟨j / 128, by omega⟩ ⟨j % 64, by omega⟩) := by
  pointwise [val_main_v77, val_main_v76, val_main_v67, val_main_v66]
  split_ifs <;> exact Finset.sum_congr rfl fun q _ => congrArg
    (fun z => val_main_v65 (F := Ideal) x0 x1 x2 x3 x4 x5 (ix3 ⟨j / 128, by omega⟩ q k) * x1 (ix3 q ⟨j / 128, by omega⟩ z))
    (Fin.ext (by first | (show (j : ℕ) % 128 = j % 64; omega) | (show (j : ℕ) % 128 - 64 = j % 64; omega)))

end Cert.ReferenceIdeal.At

end
-- ==== Proof.Array.lean ====
module

public import proofs.«01_k».proof.Proof.Reads
public import proofs.«01_k».proof.Proof.RefAt
public import proofs.«01_k».proof.Proof.Gen.KernelIdeal.Value
public import Idealize.ShloMosaic.Lib.Pointwise

/-! The two result arrays as sums over all queries. -/

set_option maxRecDepth 16384

@[expose] public noncomputable section

open Idealize.ShloMosaic Idealize.ShloMosaic.TcCoe Idealize.SL.Sem

namespace Cert.KernelIdeal.Array

open Cert.KernelIdeal Cert.KernelIdeal.Gen Cert.KernelIdeal.Host Cert.KernelIdeal.Reads Cert.KernelIdeal.Points Cert.KernelIdeal.Value

variable (m : (ℓ : Loc nD τ sig) → Buf (Elt Ideal) ℓ) (c : Dev nD)

/-- The logarithm of a row's sum of exponentials. -/
def lse (h : Fin 8) (q : Fin 4096) : EReal := logSum (masked m c) (top (masked m c)) (ix3 h q 0)

/-- A row's product of cotangent and output. -/
def delta (h : Fin 8) (q : Fin 4096) : EReal :=
  rowDot (Cert.ReferenceIdeal.Read.val_main_v46 (F := Ideal) (a5 m c))
    (Cert.ReferenceIdeal.Read.val_main_v44 (F := Ideal) (a0 m c) (a1 m c) (a2 m c) (a3 m c) (a4 m c)) (ix3 h q 0)

/-- The weight of key `k` for query `q`, zero where the query does not see the key. -/
def wt (h : Fin 8) (q k : Fin 4096) : EReal :=
  if (k : ℕ) ≤ q then Ideal.exp (Cert.ReferenceIdeal.At.score (a0 m c) (a1 m c) (a2 m c) (a3 m c) h q k - lse m c h q) else 0

/-- The gradient of the score of key `k` for query `q`. -/
def gr (h : Fin 8) (q k : Fin 4096) : EReal :=
  wt m c h q k * ((∑ d : Fin 128, a5 m c (ix2 q ⟨512 + (h * 128 + d), by omega⟩) * a4 m c (ix3 k h d)) - delta m c h q) * Block.scale

/-- The product of the rotated lanes is unchanged by the lanes that are filled with zeros. -/
theorem half_sum (x : Fin 64 → EReal) (y : Fin 64 → EReal) :
    ∑ d : Fin 128, x ⟨d % 64, by omega⟩ * (if h : (d : ℕ) < 64 then y ⟨d, h⟩ else 0) = ∑ d : Fin 64, x d * y d := by
  rw [Fin.sum_univ_two_halves 64 64 rfl]
  have hz : ∑ d : Fin 64, x ⟨(64 + (d : ℕ)) % 64, by omega⟩ * (if h : 64 + (d : ℕ) < 64 then y ⟨64 + (d : ℕ), h⟩ else 0) = 0 :=
    Finset.sum_eq_zero fun d _ => by rw [dif_neg (by omega), mul_zero]
  refine (congrArg₂ (· + ·) (Finset.sum_congr rfl fun d _ => ?_) hz).trans (add_zero _)
  show x ⟨(d : ℕ) % 64, _⟩ * (if h : (d : ℕ) < 64 then y ⟨d, h⟩ else 0) = _
  rw [dif_pos d.isLt]
  exact congrArg (fun z => x z * y d) (Fin.ext (Nat.mod_eq_of_lt d.isLt))

theorem seen_eq (t : Fin cfg0.N) (r k : Fin 512) : seen m c t r k = wt m c (hd t) (row t r) (col t k) := by
  rw [seen, wt]
  by_cases hk : t.val / 8 % 8 * 512 + (k : ℕ) ≤ t.val % 8 * 512 + (r : ℕ)
  · have hs : t.val / 8 % 8 ≤ t.val % 8 := by omega
    rw [if_pos hk, if_pos (by exact hk), Block.weight, read6 m c t hs, lse]
    refine congrArg (fun z => Ideal.exp (z - _)) ?_
    rw [Block.score, Cert.ReferenceIdeal.At.score]
    refine congrArg (fun z => z * Block.scale) (congrArg₂ (· + ·) ?_ ?_)
    · exact Finset.sum_congr rfl fun d _ => congrArg₂ (· * ·) (read0 m c t hs r d) (read2 m c t k d)
    · refine (Finset.sum_congr rfl fun d _ => congrArg₂ (fun x y : EReal => x * y) (read1 m c t hs r d) (read4 m c t k d)).trans ?_
      exact half_sum (fun d => a1 m c (ix3 (row t r) (hd t) d)) (fun d => a3 m c (ix2 (col t k) d))
  · rw [if_neg hk, if_neg (by exact hk)]

/-- Where a query does not see a key, the gradient is zero. -/
theorem seen_zero (t : Fin cfg0.N) (hs : ¬t.val / 8 % 8 ≤ t.val % 8) (r k : Fin 512) : seen m c t r k = 0 := by
  rw [seen, if_neg (by omega)]

theorem grad_eq (t : Fin cfg0.N) (r k : Fin 512) : grad m c t r k = gr m c (hd t) (row t r) (col t k) := by
  by_cases hs : t.val / 8 % 8 ≤ t.val % 8
  · rw [grad, gr, seen_eq, Block.slope, read7 m c t hs, delta]
    refine congrArg (fun z => wt m c (hd t) (row t r) (col t k) * (z - _) * Block.scale) ?_
    exact Finset.sum_congr rfl fun d _ => congrArg₂ (· * ·) (read5 m c t hs r d) (read3 m c t k d)
  · rw [grad, gr, ← seen_eq, seen_zero m c t hs, zero_mul, zero_mul, zero_mul, zero_mul]

theorem termV_eq (t : Fin cfg0.N) (k : Fin 512) (d : Fin 128) :
    termV m c t k d = ∑ r : Fin 512, wt m c (hd t) (row t r) (col t k) * a5 m c (ix2 (row t r) ⟨512 + (hd t * 128 + d), by omega⟩) := by
  rw [termV]
  refine Finset.sum_congr rfl fun r _ => ?_
  by_cases hs : t.val / 8 % 8 ≤ t.val % 8
  · exact congrArg₂ (· * ·) (seen_eq m c t r k) (read5 m c t hs r d)
  · rw [← seen_eq, seen_zero m c t hs, zero_mul, zero_mul]

theorem termK_eq (t : Fin cfg0.N) (k : Fin 512) (d : Fin 256) :
    termK m c t k d = ∑ r : Fin 512, gr m c (hd t) (row t r) (col t k)
      * (if h : (d : ℕ) < 128 then a0 m c (ix3 (row t r) (hd t) ⟨d, h⟩) else a1 m c (ix3 (row t r) (hd t) ⟨(d - 128) % 64, by omega⟩)) := by
  rw [termK]
  refine Finset.sum_congr rfl fun r _ => ?_
  by_cases hs : t.val / 8 % 8 ≤ t.val % 8
  · by_cases hd : (d : ℕ) < 128
    · rw [dif_pos hd, dif_pos hd]
      exact congrArg₂ (· * ·) (grad_eq m c t r k) (read0 m c t hs r _)
    · rw [dif_neg hd, dif_neg hd]
      exact congrArg₂ (· * ·) (grad_eq m c t r k) (read1 m c t hs r _)
  · rw [← grad_eq, grad, seen_zero m c t hs, zero_mul, zero_mul, zero_mul, zero_mul]

/-- A point of the run that ends at `t` has `t`'s head and keys, and its own queries. -/
theorem run_point (t : Fin cfg0.N) (h7 : t.val % 8 = 7) (s : Fin 8) :
    (8 * (t.val / 8) + s.val) % 8 = s ∧ (8 * (t.val / 8) + s.val) / 8 % 8 = t.val / 8 % 8 ∧ (8 * (t.val / 8) + s.val) / 64 = t.val / 64 := by
  omega

theorem accV_eq (t : Fin cfg0.N) (h7 : t.val % 8 = 7) (k : Fin 512) (d : Fin 128) :
    accV m c t.val t.isLt (ix2 k d)
      = ∑ q : Fin 4096, wt m c (hd t) q (col t k) * a5 m c (ix2 q ⟨512 + (hd t * 128 + d), by omega⟩) := by
  rw [accV_run m c t h7]
  simp only [termV_eq]
  refine Fin.sum_mul_add_congr fun s r hl => ?_
  obtain ⟨e1, e2, e3⟩ := run_point t h7 s
  simp only [hd, row, col, e1, e2, e3]

theorem accK_eq (t : Fin cfg0.N) (h7 : t.val % 8 = 7) (k : Fin 512) (d : Fin 256) :
    accK m c t.val t.isLt (ix2 k d)
      = ∑ q : Fin 4096, gr m c (hd t) q (col t k)
        * (if h : (d : ℕ) < 128 then a0 m c (ix3 q (hd t) ⟨d, h⟩) else a1 m c (ix3 q (hd t) ⟨(d - 128) % 64, by omega⟩)) := by
  rw [accK_run m c t h7]
  simp only [termK_eq]
  refine Fin.sum_mul_add_congr fun s r hl => ?_
  obtain ⟨e1, e2, e3⟩ := run_point t h7 s
  simp only [hd, row, col, e1, e2, e3]

/-- The first result: for each head the gradient of the keys' plain lanes, then the gradient of the values. -/
theorem G8_at (k : Fin 4096) (j : Fin 2048) : (G8 m c : FVec Ideal S4096x2048 .f32) (ix2 k j)
    = if h : (j : ℕ) % 256 < 128
      then ∑ q : Fin 4096, gr m c ⟨j / 256, by omega⟩ q k * a0 m c (ix3 q ⟨j / 256, by omega⟩ ⟨j % 256, h⟩)
      else ∑ q : Fin 4096, wt m c ⟨j / 256, by omega⟩ q k * a5 m c (ix2 q ⟨512 + (j / 256 * 128 + (j % 256 - 128)), by omega⟩) := by
  have hp : pt8Of (ix2 k j) = 8 * ((k : ℕ) / 512 + 8 * ((j : ℕ) / 256)) + 7 := by
    show 8 * (1 * ((k : ℕ) / 512 - 0) + 8 * ((j : ℕ) / 256 - 0)) + 7 = _
    omega
  have hN : pt8Of (ix2 k j) < cfg0.N := lt_of_lt_of_eq (by rw [hp]; omega) (show cfg0.N = 512 from N_0).symm
  have hl : loc8Of (ix2 k j) = ix2 ⟨(k : ℕ) % 512, by omega⟩ ⟨(j : ℕ) % 256, by omega⟩ := by
    rw [eq_ix2 (loc8Of (ix2 k j))]
    rfl
  rw [G8, dif_pos hN, ← outsAt0_sweep m c _ hN, hl]
  have h7 : (⟨pt8Of (ix2 k j), hN⟩ : Fin cfg0.N).val % 8 = 7 := by
    show pt8Of (ix2 k j) % 8 = 7
    rw [hp]
    omega
  refine (out8_last m c ⟨pt8Of (ix2 k j), hN⟩ h7 _ _).trans ?_
  have eh : hd ⟨pt8Of (ix2 k j), hN⟩ = ⟨(j : ℕ) / 256, by omega⟩ := Fin.ext (by simp only [hd, hp]; omega)
  have ec : col ⟨pt8Of (ix2 k j), hN⟩ ⟨(k : ℕ) % 512, by omega⟩ = k := Fin.ext (by simp only [col, hp]; omega)
  by_cases h : (j : ℕ) % 256 < 128
  · rw [dif_pos h, dif_pos h, accK_eq m c _ h7, eh, ec]
    exact Finset.sum_congr rfl fun q _ => congrArg (fun z => gr m c ⟨(j : ℕ) / 256, by omega⟩ q k * z) (dif_pos h)
  · rw [dif_neg h, dif_neg h, accV_eq m c _ h7]
    refine Finset.sum_congr rfl fun q _ => congrArg₂ (· * ·) ?_ ?_
    · rw [eh, ec]
    · exact congrArg (fun z => a5 m c (ix2 q z)) (Fin.ext (by
        show 512 + ((hd ⟨pt8Of (ix2 k j), hN⟩ : ℕ) * 128 + ((j : ℕ) % 256 - 128)) = 512 + ((j : ℕ) / 256 * 128 + ((j : ℕ) % 256 - 128))
        rw [eh]))

/-- The second result: for each head the gradient of the keys' rotated lanes, twice over. -/
theorem G9_at (k : Fin 4096) (j : Fin 1024) : (G9 m c : FVec Ideal S4096x1024 .f32) (ix2 k j)
    = ∑ q : Fin 4096, gr m c ⟨j / 128, by omega⟩ q k * a1 m c (ix3 q ⟨j / 128, by omega⟩ ⟨j % 64, by omega⟩) := by
  have hp : pt9Of (ix2 k j) = 8 * ((k : ℕ) / 512 + 8 * ((j : ℕ) / 128)) + 7 := by
    show 8 * (1 * ((k : ℕ) / 512 - 0) + 8 * ((j : ℕ) / 128 - 0)) + 7 = _
    omega
  have hN : pt9Of (ix2 k j) < cfg0.N := lt_of_lt_of_eq (by rw [hp]; omega) (show cfg0.N = 512 from N_0).symm
  have hl : loc9Of (ix2 k j) = ix2 ⟨(k : ℕ) % 512, by omega⟩ ⟨(j : ℕ) % 128, by omega⟩ := by
    rw [eq_ix2 (loc9Of (ix2 k j))]
    rfl
  rw [G9, dif_pos hN, ← outsAt0_sweep m c _ hN, hl]
  have h7 : (⟨pt9Of (ix2 k j), hN⟩ : Fin cfg0.N).val % 8 = 7 := by
    show pt9Of (ix2 k j) % 8 = 7
    rw [hp]
    omega
  refine (out9_last m c ⟨pt9Of (ix2 k j), hN⟩ h7 _ _).trans ?_
  have eh : hd ⟨pt9Of (ix2 k j), hN⟩ = ⟨(j : ℕ) / 128, by omega⟩ := Fin.ext (by simp only [hd, hp]; omega)
  have ec : col ⟨pt9Of (ix2 k j), hN⟩ ⟨(k : ℕ) % 512, by omega⟩ = k := Fin.ext (by simp only [col, hp]; omega)
  rw [accK_eq m c _ h7, eh, ec]
  refine Finset.sum_congr rfl fun q _ => congrArg (fun z => gr m c ⟨(j : ℕ) / 128, by omega⟩ q k * z) ?_
  refine (dif_neg (by show ¬(j : ℕ) % 128 + 128 < 128; omega)).trans ?_
  exact congrArg (fun z => a1 m c (ix3 q ⟨(j : ℕ) / 128, by omega⟩ z)) (Fin.ext (by show ((j : ℕ) % 128 + 128 - 128) % 64 = j % 64; omega))

end Cert.KernelIdeal.Array

end
-- ==== Proof.RealMath.lean ====
module

public import Idealize.ShloMosaic.PureOps.Ideal

/-! The gradient of a masked softmax on the reals, written once from the normalised weights and the
    logarithm of their sum, once from the quotient rule; and the few facts that carry a value of the
    extended reals to the reals. -/

@[expose] public noncomputable section

namespace Cert.RealMath

open Idealize.ShloMosaic

/-- A finite sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many values that are below `⊤`, one of which is real, is real. -/
theorem fold_max_real {ι : Type*} [Fintype ι] (f : ι → EReal) (hf : ∀ i, f i ≠ ⊤) (j : ι) (hj : f j ≠ ⊥) :
    ∃ M : ℝ, Finset.univ.fold max ⊥ f = (M : EReal) := by
  classical
  have h1 : Finset.univ.fold max ⊥ f ≠ ⊤ := by
    apply ne_of_lt
    rw [Finset.fold_max_lt]
    exact ⟨bot_lt_top, fun i _ => lt_top_iff_ne_top.mpr (hf i)⟩
  have h2 : Finset.univ.fold max ⊥ f ≠ ⊥ := by
    refine bot_lt_iff_ne_bot.mp ((Finset.lt_fold_max _).mpr ?_)
    exact Or.inr ⟨j, Finset.mem_univ _, bot_lt_iff_ne_bot.mpr hj⟩
  exact ⟨_, (EReal.coe_toReal h1 h2).symm⟩

/-- The sum of the exponentials over the keys a query sees. -/
def expSum {n : ℕ} (see : Fin n → Prop) [DecidablePred see] (S : Fin n → ℝ) (M : ℝ) : ℝ :=
  ∑ k, if see k then Real.exp (S k - M) else 0

theorem expSum_pos {n : ℕ} (see : Fin n → Prop) [DecidablePred see] (S : Fin n → ℝ) (M : ℝ) (j : Fin n) (hj : see j) :
    0 < expSum see S M := by
  refine Finset.sum_pos' (fun k _ => ?_) ⟨j, Finset.mem_univ _, ?_⟩
  · split_ifs
    · exact (Real.exp_pos _).le
    · exact le_rfl
  · rw [if_pos hj]; exact Real.exp_pos _

/-- The exponential of a score less the logarithm of the sum is the normalised weight. -/
theorem exp_sub_log {s M L : ℝ} (hL : 0 < L) : Real.exp (s - (M + Real.log L)) = Real.exp (s - M) / L := by
  rw [← sub_sub, Real.exp_sub, Real.exp_log hL]

/-- The gradient of the scores, the one by the quotient rule and the other by the weights. -/
theorem quotient_rule {n : ℕ} (E dP : Fin n → ℝ) {L : ℝ} (hL : 0 < L) (k : Fin n) :
    (dP k / L + -(∑ j, dP j * (1 / (L * L)) * E j)) * E k = E k / L * (dP k - ∑ j, dP j * (E j / L)) := by
  have h : (∑ j, dP j * (1 / (L * L)) * E j) = (∑ j, dP j * (E j / L)) / L := by
    rw [Finset.sum_div]
    refine Finset.sum_congr rfl fun j _ => ?_
    field_simp
  rw [h]; field_simp; ring

end Cert.RealMath

end
-- ==== Proof.Equation.lean ====
module

public import proofs.«01_k».proof.Proof.Array
public import proofs.«01_k».proof.Proof.RealMath

/-! At finite arguments the kernel's weights and gradients are the reference's: both are the real numbers of
    one masked softmax. -/

set_option maxRecDepth 16384

@[expose] public noncomputable section

open Idealize.ShloMosaic Idealize.ShloMosaic.TcCoe Idealize.SL.Sem

namespace Cert.KernelIdeal.Equation

open Cert.KernelIdeal Cert.KernelIdeal.Gen Cert.KernelIdeal.Host Cert.KernelIdeal.Array Cert.RealMath
open Cert.ReferenceIdeal.Read Cert.ReferenceIdeal.At

/-- The scale is a real number. -/
theorem scale_real : ∃ κ : ℝ, Block.scale = (κ : EReal) := by
  refine ⟨_, (EReal.coe_toReal ?_ ?_).symm⟩ <;> simp [Block.scale, Ideal.ofBits, Ideal.ieee]
  · exact EReal.coe_ne_top (9686330 * (2 ^ 27)⁻¹)
  · exact EReal.coe_ne_bot (9686330 * (2 ^ 27)⁻¹)

variable (x0 : FVec Ideal S4096x8x128 .f32) (x1 : FVec Ideal S4096x8x64 .f32) (x2 : FVec Ideal S4096x8x128 .f32)
  (x3 : FVec Ideal S4096x64 .f32) (x4 : FVec Ideal S4096x8x128 .f32) (x5 : FVec Ideal S4096x2048 .f32)

variable (X0 : S4096x8x128.Idx → ℝ) (X1 : S4096x8x64.Idx → ℝ) (X2 : S4096x8x128.Idx → ℝ) (X3 : S4096x64.Idx → ℝ)
  (X4 : S4096x8x128.Idx → ℝ) (X5 : S4096x2048.Idx → ℝ) (κ : ℝ)

/-- The scaled score as a real number. -/
def S (h : Fin 8) (q k : Fin 4096) : ℝ :=
  ((∑ d : Fin 128, X0 (ix3 q h d) * X2 (ix3 k h d)) + ∑ d : Fin 64, X1 (ix3 q h d) * X3 (ix2 k d)) * κ

/-- The product of the cotangent's row with the values' row as a real number. -/
def D (h : Fin 8) (q k : Fin 4096) : ℝ := ∑ d : Fin 128, X5 (ix2 q ⟨512 + (h * 128 + d), by omega⟩) * X4 (ix3 k h d)

section Lift

variable {x0 x1 x2 x3 x4 x5 X0 X1 X2 X3 X4 X5 κ}

theorem score_real (h0 : ∀ i, x0 i = ((X0 i : ℝ) : EReal)) (h1 : ∀ i, x1 i = ((X1 i : ℝ) : EReal)) (h2 : ∀ i, x2 i = ((X2 i : ℝ) : EReal))
    (h3 : ∀ i, x3 i = ((X3 i : ℝ) : EReal)) (hκ : Block.scale = (κ : EReal)) (h : Fin 8) (q k : Fin 4096) :
    score x0 x1 x2 x3 h q k = (S X0 X1 X2 X3 κ h q k : EReal) := by
  simp only [score, S, h0, h1, h2, h3, EReal.coe_mul, EReal.coe_add, coe_sum]
  exact congrArg (fun z : EReal => _ * z) hκ

theorem dp_real (h4 : ∀ i, x4 i = ((X4 i : ℝ) : EReal)) (h5 : ∀ i, x5 i = ((X5 i : ℝ) : EReal)) (h : Fin 8) (q k : Fin 4096) :
    val_main_v48 (F := Ideal) x4 x5 (ix3 h q k) = (D X4 X5 h q k : EReal) := by
  rw [dp_at, D]
  simp only [h4, h5, EReal.coe_mul, coe_sum]

end Lift

/-- One row of the softmax: its largest score, the exponentials of the keys it sees, and their sum. -/
structure Row (h : Fin 8) (q : Fin 4096) where
  /-- the largest score -/
  M : ℝ
  /-- the exponentials -/
  E : Fin 4096 → ℝ
  /-- their sum -/
  L : ℝ
  pos : 0 < L
  zero : ∀ k : Fin 4096, ¬(k : ℕ) ≤ q → E k = 0
  top_eq : val_main_v15 (F := Ideal) x0 x1 x2 x3 (ix2 h q) = (M : EReal)
  exp_eq : ∀ k, Ideal.exp (val_main_v14_0 (F := Ideal) x0 x1 x2 x3 (ix3 h q k) - (M : EReal)) = (E k : EReal)
  sum_eq : ∑ k, (E k : EReal) = (L : EReal)
  weight_eq : ∀ k : Fin 4096, (k : ℕ) ≤ q →
    Ideal.exp (score x0 x1 x2 x3 h q k - ((M : EReal) + Ideal.log (L : EReal))) = ((E k / L : ℝ) : EReal)

theorem row_exists (hS : ∃ T : Fin 8 → Fin 4096 → Fin 4096 → ℝ, ∀ h q k, score x0 x1 x2 x3 h q k = (T h q k : EReal)) (h : Fin 8) (q : Fin 4096) :
    Nonempty (Row x0 x1 x2 x3 h q) := by
  obtain ⟨T, hT⟩ := hS
  have hm : ∀ k, val_main_v14_0 (F := Ideal) x0 x1 x2 x3 (ix3 h q k) = if (k : ℕ) ≤ q then (T h q k : EReal) else ⊥ := fun k => by
    rw [masked_at, hT]
  obtain ⟨M, hM⟩ := fold_max_real (fun k : Fin 4096 => if (k : ℕ) ≤ q then (T h q k : EReal) else ⊥)
    (fun k => by split_ifs; exacts [EReal.coe_ne_top _, bot_ne_top]) q (by rw [if_pos le_rfl]; exact EReal.coe_ne_bot _)
  have hpos := expSum_pos (fun k : Fin 4096 => (k : ℕ) ≤ q) (T h q) M q le_rfl
  refine ⟨⟨M, fun k => if (k : ℕ) ≤ q then Real.exp (T h q k - M) else 0, expSum (fun k : Fin 4096 => (k : ℕ) ≤ q) (T h q) M, hpos,
    fun k hk => if_neg hk, ?_, fun k => ?_, (coe_sum _ _).symm, fun k hk => ?_⟩⟩
  · have e := top_at (val_main_v14_0 (F := Ideal) x0 x1 x2 x3) h q
    refine Eq.trans (Eq.trans (show _ = top (val_main_v14_0 (F := Ideal) x0 x1 x2 x3) (ix2 h q) from rfl) e) ?_
    simp only [hm]
    exact hM
  · rw [hm]
    split_ifs
    · rw [← EReal.coe_sub, Ideal.exp_coe]
    · rw [EReal.bot_sub, Ideal.exp_bot, EReal.coe_zero]
  · rw [hT, Ideal.log_coe, if_neg (not_le.mpr hpos), ← EReal.coe_add, ← EReal.coe_sub, Ideal.exp_coe, exp_sub_log hpos, if_pos hk]

variable {x0 x1 x2 x3} {h : Fin 8} {q : Fin 4096}

namespace Row

variable (R : Row x0 x1 x2 x3 h q)
include R

theorem exp_real (k : Fin 4096) : val_main_v35 (F := Ideal) x0 x1 x2 x3 (ix3 h q k) = (R.E k : EReal) := by
  rw [exp_at, Cert.ReferenceIdeal.At.top_at, R.top_eq, R.exp_eq]

theorem sum_real : val_main_v36 (F := Ideal) x0 x1 x2 x3 (ix2 h q) = (R.L : EReal) := by
  rw [sum_at]
  simp only [R.exp_real]
  exact R.sum_eq

theorem weight_real (k : Fin 4096) : val_main_v39 (F := Ideal) x0 x1 x2 x3 (ix3 h q k) = ((R.E k / R.L : ℝ) : EReal) := by
  rw [weight_at, R.exp_real, R.sum_real, Ideal.div_coe R.pos.ne', ← EReal.coe_mul, mul_one_div]

theorem inv_real : val_main_v42 (F := Ideal) x0 x1 x2 x3 (ix3 h q 0) = ((1 / (R.L * R.L) : ℝ) : EReal) := by
  rw [inv_at, R.sum_real, ← EReal.coe_mul, Ideal.div_coe (mul_pos R.pos R.pos).ne', one_mul]

variable {x4 : FVec Ideal S4096x8x128 .f32} {x5 : FVec Ideal S4096x2048 .f32} {X4 : S4096x8x128.Idx → ℝ} {X5 : S4096x2048.Idx → ℝ}
  {κ : ℝ} (h4 : ∀ i, x4 i = ((X4 i : ℝ) : EReal)) (h5 : ∀ i, x5 i = ((X5 i : ℝ) : EReal)) (hκ : Block.scale = (κ : EReal))
include h4 h5

theorem corr_real : val_main_v59 (F := Ideal) x0 x1 x2 x3 x4 x5 (ix2 h q)
    = ((-(∑ j, D X4 X5 h q j * (1 / (R.L * R.L)) * R.E j) : ℝ) : EReal) := by
  rw [corr_at, R.inv_real]
  simp only [dp_real h4 h5, R.exp_real, ← EReal.coe_mul, ← coe_sum, ← EReal.coe_neg]

include hκ

/-- The reference's gradient of a score. -/
theorem grad_real (k : Fin 4096) : val_main_v65 (F := Ideal) x0 x1 x2 x3 x4 x5 (ix3 h q k)
    = ((R.E k / R.L * (D X4 X5 h q k - ∑ j, D X4 X5 h q j * (R.E j / R.L)) * κ : ℝ) : EReal) := by
  rw [grad_at, R.corr_real h4 h5, R.exp_real, R.sum_real, dp_real h4 h5, Ideal.div_coe R.pos.ne']
  rw [show Cert.ReferenceIdeal.At.scale = (κ : EReal) from hκ]
  rw [← quotient_rule _ _ R.pos]
  split_ifs with hk
  · rw [← EReal.coe_mul, ← EReal.coe_add, ← EReal.coe_mul, ← EReal.coe_mul, mul_one_div]
  · rw [R.zero k hk, mul_zero, zero_mul, zero_mul, EReal.coe_zero]

end Row

section Kernel

variable (m : (ℓ : Loc nD τ sig) → Buf (Elt Ideal) ℓ) (c : Dev nD)

theorem lse_eq {h : Fin 8} {q : Fin 4096} (R : Row (a0 m c) (a1 m c) (a2 m c) (a3 m c) h q) :
    lse m c h q = (R.M : EReal) + Ideal.log (R.L : EReal) := by
  have ht : top (masked m c) (ix2 h q) = (R.M : EReal) := R.top_eq
  rw [lse, logSum_at, ht]
  simp only [R.exp_eq, R.sum_eq]

/-- The kernel's weight is the reference's. -/
theorem wt_real {h : Fin 8} {q : Fin 4096} (R : Row (a0 m c) (a1 m c) (a2 m c) (a3 m c) h q) (k : Fin 4096) :
    wt m c h q k = ((R.E k / R.L : ℝ) : EReal) := by
  rw [wt, lse_eq m c R]
  split_ifs with hk
  · exact R.weight_eq k hk
  · rw [R.zero k hk, zero_div, EReal.coe_zero]

theorem delta_real {h : Fin 8} {q : Fin 4096} (R : Row (a0 m c) (a1 m c) (a2 m c) (a3 m c) h q)
    {X4 : S4096x8x128.Idx → ℝ} {X5 : S4096x2048.Idx → ℝ} (h4 : ∀ i, a4 m c i = ((X4 i : ℝ) : EReal)) (h5 : ∀ i, a5 m c i = ((X5 i : ℝ) : EReal)) :
    delta m c h q = ((∑ j, D X4 X5 h q j * (R.E j / R.L) : ℝ) : EReal) := by
  rw [delta, rowDot_at]
  simp only [ct_at, out_at, R.weight_real, h4, h5, ← EReal.coe_mul, ← coe_sum]
  refine congrArg Real.toEReal ?_
  simp only [D, Finset.mul_sum, Finset.sum_mul]
  rw [Finset.sum_comm]
  exact Finset.sum_congr rfl fun k _ => Finset.sum_congr rfl fun d _ => (mul_assoc _ _ _).symm

/-- The kernel's gradient of a score. -/
theorem gr_real {h : Fin 8} {q : Fin 4096} (R : Row (a0 m c) (a1 m c) (a2 m c) (a3 m c) h q)
    {X4 : S4096x8x128.Idx → ℝ} {X5 : S4096x2048.Idx → ℝ} (h4 : ∀ i, a4 m c i = ((X4 i : ℝ) : EReal)) (h5 : ∀ i, a5 m c i = ((X5 i : ℝ) : EReal))
    {κ : ℝ} (hκ : Block.scale = (κ : EReal)) (k : Fin 4096) :
    gr m c h q k = ((R.E k / R.L * (D X4 X5 h q k - ∑ j, D X4 X5 h q j * (R.E j / R.L)) * κ : ℝ) : EReal) := by
  rw [gr, wt_real m c R, delta_real m c R h4 h5, hκ, ← dp_at, dp_real h4 h5, ← EReal.coe_sub, ← EReal.coe_mul, ← EReal.coe_mul]

/-- At finite arguments the two results are the reference's. -/
theorem results (f0 : ∃ X : S4096x8x128.Idx → ℝ, ∀ i, a0 m c i = ((X i : ℝ) : EReal)) (f1 : ∃ X : S4096x8x64.Idx → ℝ, ∀ i, a1 m c i = ((X i : ℝ) : EReal))
    (f2 : ∃ X : S4096x8x128.Idx → ℝ, ∀ i, a2 m c i = ((X i : ℝ) : EReal)) (f3 : ∃ X : S4096x64.Idx → ℝ, ∀ i, a3 m c i = ((X i : ℝ) : EReal))
    (f4 : ∃ X : S4096x8x128.Idx → ℝ, ∀ i, a4 m c i = ((X i : ℝ) : EReal)) (f5 : ∃ X : S4096x2048.Idx → ℝ, ∀ i, a5 m c i = ((X i : ℝ) : EReal)) :
    (Cert.KernelIdeal.Value.G8 m c : FVec Ideal S4096x2048 .f32) = val_main_v75 (F := Ideal) (a0 m c) (a1 m c) (a2 m c) (a3 m c) (a4 m c) (a5 m c)
    ∧ (Cert.KernelIdeal.Value.G9 m c : FVec Ideal S4096x1024 .f32) = val_main_v77 (F := Ideal) (a0 m c) (a1 m c) (a2 m c) (a3 m c) (a4 m c) (a5 m c) := by
  obtain ⟨X0, h0⟩ := f0
  obtain ⟨X1, h1⟩ := f1
  obtain ⟨X2, h2⟩ := f2
  obtain ⟨X3, h3⟩ := f3
  obtain ⟨X4, h4⟩ := f4
  obtain ⟨X5, h5⟩ := f5
  obtain ⟨κ, hκ⟩ := scale_real
  have row := row_exists (a0 m c) (a1 m c) (a2 m c) (a3 m c) ⟨_, score_real h0 h1 h2 h3 hκ⟩
  have hg : ∀ (h : Fin 8) (q k : Fin 4096), gr m c h q k
      = val_main_v65 (F := Ideal) (a0 m c) (a1 m c) (a2 m c) (a3 m c) (a4 m c) (a5 m c) (ix3 h q k) := fun h q k => by
    obtain ⟨R⟩ := row h q
    rw [gr_real m c R h4 h5 hκ, R.grad_real h4 h5 hκ]
  have hw : ∀ (h : Fin 8) (q k : Fin 4096), wt m c h q k = val_main_v39 (F := Ideal) (a0 m c) (a1 m c) (a2 m c) (a3 m c) (ix3 h q k) := fun h q k => by
    obtain ⟨R⟩ := row h q
    rw [wt_real m c R, R.weight_real]
  constructor
  · funext i
    obtain ⟨k, j, rfl⟩ : ∃ (k : Fin 4096) (j : Fin 2048), i = ix2 k j := ⟨i 0, i 1, eq_ix2 i⟩
    rw [res0_at]
    refine (G8_at m c k j).trans ?_
    simp only [hg, hw]
    by_cases h : (j : ℕ) % 256 < 128
    · rw [dif_pos h, dif_pos h]
    · rw [dif_neg h, dif_neg h]
      have e : (∑ q : Fin 4096, (val_main_v39 (F := Ideal) (a0 m c) (a1 m c) (a2 m c) (a3 m c) (ix3 ⟨j / 256, by omega⟩ q k) : EReal)
          * (a5 m c (ix2 q ⟨512 + (j / 256 * 128 + (j % 256 - 128)), by omega⟩) : EReal))
          = ∑ q : Fin 4096, (a5 m c (ix2 q ⟨512 + (j / 256 * 128 + (j % 256 - 128)), by omega⟩) : EReal)
            * (val_main_v39 (F := Ideal) (a0 m c) (a1 m c) (a2 m c) (a3 m c) (ix3 ⟨j / 256, by omega⟩ q k) : EReal) :=
        Finset.sum_congr rfl fun q _ => mul_comm (G := EReal) _ _
      exact e
  · funext i
    obtain ⟨k, j, rfl⟩ : ∃ (k : Fin 4096) (j : Fin 1024), i = ix2 k j := ⟨i 0, i 1, eq_ix2 i⟩
    rw [res1_at]
    refine (G9_at m c k j).trans ?_
    simp only [hg]

end Kernel

end Cert.KernelIdeal.Equation

end
-- ==== Proof.Finite.lean ====
module

public import proofs.«01_k».proof.Pre_finite
public import Idealize.ShloMosaic.Lib.Pointwise

/-! The finiteness condition read back: an array whose elements all lie strictly below infinity in absolute
    value is an array of real numbers. -/

set_option maxRecDepth 16384

@[expose] public noncomputable section

open Idealize.ShloMosaic

namespace Cert.Pre_finite.Holds

open Cert.Pre_finite

/-- The shape facts the condition states. -/
theorem facts : Cert.Pre_finite.Facts where
  bcast_S_S4096x8x128 := by decide +kernel
  bcast_S_S4096x8x64 := by decide +kernel
  bcast_S_S4096x64 := by decide +kernel
  bcast_S_S4096x2048 := by decide +kernel

/-- A number below infinity in absolute value is real. -/
theorem real_of_lt (x : EReal) (h : (FloatOps.cmpf (F := Ideal) (φ := .f32) .olt (max x (-x)) (Ideal.ofBits .f32 0x7F800000#32)) = 1#1) :
    ((x.toReal : ℝ) : EReal) = x := by
  have hinf : Ideal.ofBits .f32 0x7F800000#32 = ⊤ := by simp [Ideal.ofBits, Ideal.ieee]
  rw [hinf] at h
  have hlt : max x (-x) < ⊤ := by
    by_contra hn
    revert h
    simp [FloatOps.cmpf, Ideal.cmp, hn]
  refine EReal.coe_toReal (fun e => ?_) (fun e => ?_)
  · rw [e] at hlt; simp at hlt
  · rw [e] at hlt; simp at hlt

/-- An array that passes the test is real. -/
theorem real_of_test {s : Shape} (x : FVec Ideal s .f32) (hb : S_.BroadcastsInDim s (![] : Fin 0 → Fin s.rank))
    (h : cmpf .olt (Host.absf x) (broadcastInDim s ![] hb (constant S_ .f32 0x7F800000#32 : FVec Ideal S_ .f32)) = fun _ => 1#1) :
    ∃ X : s.Idx → ℝ, ∀ i, x i = ((X i : ℝ) : EReal) :=
  ⟨fun i => (x i).toReal, fun i => (real_of_lt (x i) (congrFun h i)).symm⟩

end Cert.Pre_finite.Holds

end
-- ==== Proof.Layouts.lean ====
module

public import Idealize.ShloMosaic.Lib.Pipeline.ValueKit

/-! What the products have in common: a sum carried over a run of grid points; the arrangements of the operands, columns in groups of 2752, each group followed by 64 columns of
    zeros, read at an index; and a sum along such an axis. -/

set_option maxRecDepth 16384

@[expose] public noncomputable section

open Idealize.ShloMosaic Idealize.ShloMosaic.TcCoe Idealize.SL.Sem

namespace Cert.Layouts

/-- A block that is cleared at the first point of each run of `J` and grows at every point by a product of two blocks
    holds, at the last point of a run, the sum of the run's products. -/
theorem carried_sum {N J M₁ M₂ K : ℕ} [NeZero J] (X : (n : ℕ) → n < N → (⟨2, ![M₁, M₂]⟩ : Shape).Idx → EReal)
    (f : Fin N → Fin M₁ → Fin K → EReal) (g : Fin N → Fin M₂ → Fin K → EReal)
    (first : ∀ t : Fin N, t.val % J = 0 → ∀ r k, X t.val t.isLt (ix2 r k) = 0 + ∑ d, f t r d * g t k d)
    (next : ∀ t : Fin N, ¬t.val % J = 0 → ∀ r k, X t.val t.isLt (ix2 r k) = X (t.val - 1) (by omega) (ix2 r k) + ∑ d, f t r d * g t k d)
    (t : Fin N) (h : t.val % J = J - 1) (r : Fin M₁) (k : Fin M₂) :
    X t.val t.isLt (ix2 r k) = ∑ s : Fin J, ∑ d : Fin K,
      f ⟨J * (t.val / J) + s.val, Pipeline.run_point_lt_of_flush t h s⟩ r d * g ⟨J * (t.val / J) + s.val, Pipeline.run_point_lt_of_flush t h s⟩ k d := by
  have key := Pipeline.eq_sum_fin_of_reset_step_apply_of_flush X J (fun _ => (0 : EReal)) (fun t i => ∑ d, f t (i 0) d * g t (i 1) d)
    (fun t h i => by obtain ⟨r, k, rfl⟩ : ∃ r k, i = ix2 r k := ⟨i 0, i 1, eq_ix2 i⟩; exact first t h r k)
    (fun t h i => by obtain ⟨r, k, rfl⟩ : ∃ r k, i = ix2 r k := ⟨i 0, i 1, eq_ix2 i⟩; exact next t h r k)
    t h (ix2 r k)
  exact key.trans (zero_add _)

/-- The number the zeros are made of. -/
theorem zero_f32 : (FloatOps.sitofp FTy.f32 (0#32) : Ideal .f32) = (0 : EReal) := by simp [FloatOps.sitofp]

theorem zero_bf16 : (FloatOps.sitofp FTy.bf16 (0#32) : Ideal .bf16) = (0 : EReal) := by simp [FloatOps.sitofp]

/-- A number with its place among `n` groups of 2752, as the entry of the wider axis of `n` groups of 2816; zero in
    the last 64 places of a group. -/
def spread (n : ℕ) (f : Fin (n * 2752) → EReal) (q : Fin (n * 2816)) : EReal :=
  if h : (q : ℕ) % 2816 < 2752 then f ⟨(q : ℕ) / 2816 * 2752 + (q : ℕ) % 2816, by have := q.isLt; omega⟩ else 0

/-- A sum of products in which one factor is such an entry is such an entry itself. -/
theorem sum_mul_spread {N : ℕ} (n : ℕ) (f : Fin N → EReal) (g : Fin N → Fin (n * 2752) → EReal) (q : Fin (n * 2816)) :
    ∑ j, f j * spread n (g j) q = spread n (fun k => ∑ j, f j * g j k) q := by
  by_cases h : (q : ℕ) % 2816 < 2752
  · simp only [spread, dif_pos h]
  · simp only [spread, dif_neg h, mul_zero, Finset.sum_const_zero]

theorem sum_spread_mul {N : ℕ} (n : ℕ) (f : Fin N → EReal) (g : Fin N → Fin (n * 2752) → EReal) (q : Fin (n * 2816)) :
    ∑ j, spread n (g j) q * f j = spread n (fun k => ∑ j, g j k * f j) q := by
  simp only [mul_comm (G := EReal) (spread n _ q), mul_comm (G := EReal) (g _ _)]
  exact sum_mul_spread n f g q

/-- The zeros add nothing to a sum of products. -/
theorem sum_spread (n : ℕ) (f g : Fin (n * 2752) → EReal) :
    ∑ q : Fin (n * 2816), spread n f q * spread n g q = ∑ k : Fin (n * 2752), f k * g k := by
  refine Eq.trans (Fin.sum_mul_add_congr (S := n) (n := 2816) (F := fun s r => spread n f ⟨s * 2816 + r, by omega⟩ * spread n g ⟨s * 2816 + r, by omega⟩)
    (fun s r hl => rfl) rfl).symm ?_
  refine Eq.trans ?_ (Fin.sum_mul_add_congr (S := n) (n := 2752) (F := fun s r => f ⟨s * 2752 + r, by omega⟩ * g ⟨s * 2752 + r, by omega⟩)
    (fun s r hl => rfl) rfl)
  refine Finset.sum_congr rfl fun s _ => ?_
  rw [Fin.sum_univ_two_halves 2752 64 rfl]
  have hz : ∑ r : Fin 64, spread n f ⟨s * 2816 + (2752 + (r : ℕ)), by omega⟩ * spread n g ⟨s * 2816 + (2752 + (r : ℕ)), by omega⟩ = 0 :=
    Finset.sum_eq_zero fun r _ => by rw [spread, dif_neg (by show ¬((s : ℕ) * 2816 + (2752 + (r : ℕ))) % 2816 < 2752; omega), zero_mul]
  refine (congrArg₂ (· + ·) (Finset.sum_congr rfl fun r _ => ?_) hz).trans (add_zero _)
  have hr : ((s : ℕ) * 2816 + (r : ℕ)) % 2816 < 2752 := by omega
  have e : (⟨((s : ℕ) * 2816 + (r : ℕ)) / 2816 * 2752 + ((s : ℕ) * 2816 + (r : ℕ)) % 2816, by omega⟩ : Fin (n * 2752)) = ⟨s * 2752 + r, by omega⟩ :=
    Fin.ext (by show ((s : ℕ) * 2816 + (r : ℕ)) / 2816 * 2752 + ((s : ℕ) * 2816 + (r : ℕ)) % 2816 = s * 2752 + r; omega)
  have ef : ∀ w : Fin (n * 2752) → EReal, spread n w ⟨s * 2816 + (r : ℕ), by omega⟩ = w ⟨s * 2752 + r, by omega⟩ := fun w => by
    rw [spread, dif_pos (by exact hr)]
    exact congrArg w e
  exact congrArg₂ (fun x y : EReal => x * y) (ef f) (ef g)

/-- The columns of the up projection, in four groups. -/
theorem cols4 (x : FVec Ideal ⟨2, ![4096, 11008]⟩ .f32) (h₁ h₂ h₃ h₄) (r : Fin 4096) (q : Fin 11264) :
    (shapeCast ⟨2, ![4096, 11264]⟩ (pad ⟨3, ![4096, 4, 2816]⟩ ![0, 0, 0] ![0, 0, 64] ![0, 0, 0]
      (shapeCast ⟨3, ![4096, 4, 2752]⟩ x h₁) (sitofp .f32 (constantI ⟨0, ![]⟩ 32 0#32) : FVec Ideal ⟨0, ![]⟩ .f32) h₂ h₃) h₄ : FVec Ideal ⟨2, ![4096, 11264]⟩ .f32) (ix2 r q)
      = spread 4 (fun k => x (ix2 r k)) q := by
  pointwise [spread]
  rw [zero_f32]
  split_ifs <;> first | rfl | omega

/-- The columns of the hidden layer, in two groups. -/
theorem cols2 (x : FVec Ideal ⟨2, ![4096, 5504]⟩ .f32) (h₁ h₂ h₃ h₄) (r : Fin 4096) (q : Fin 5632) :
    (shapeCast ⟨2, ![4096, 5632]⟩ (pad ⟨3, ![4096, 2, 2816]⟩ ![0, 0, 0] ![0, 0, 64] ![0, 0, 0]
      (shapeCast ⟨3, ![4096, 2, 2752]⟩ x h₁) (sitofp .f32 (constantI ⟨0, ![]⟩ 32 0#32) : FVec Ideal ⟨0, ![]⟩ .f32) h₂ h₃) h₄ : FVec Ideal ⟨2, ![4096, 5632]⟩ .f32) (ix2 r q)
      = spread 2 (fun k => x (ix2 r k)) q := by
  pointwise [spread]
  rw [zero_f32]
  split_ifs <;> first | rfl | omega

/-- The weights of the up projection, the four groups of columns one after the other. -/
theorem up (x : FVec Ideal ⟨2, ![2048, 11008]⟩ .f32) (h₁ h₂ h₃ h₄) (s : Fin 4) (r : Fin 2048) (q : Fin 2816) :
    (pad ⟨3, ![4, 2048, 2816]⟩ ![0, 0, 0] ![0, 0, 64] ![0, 0, 0] (transpose ⟨3, ![4, 2048, 2752]⟩ [1, 0, 2]
      (shapeCast ⟨3, ![2048, 4, 2752]⟩ x h₁) h₂) (sitofp .f32 (constantI ⟨0, ![]⟩ 32 0#32) : FVec Ideal ⟨0, ![]⟩ .f32) h₃ h₄ : FVec Ideal ⟨3, ![4, 2048, 2816]⟩ .f32) (ix3 s r q)
      = spread 4 (fun k => x (ix2 r k)) ⟨s * 2816 + q, by omega⟩ := by
  pointwise [spread]
  have e₁ : ((s : ℕ) * 2816 + q) % 2816 = q := by omega
  have e₂ : ((s : ℕ) * 2816 + q) / 2816 = s := by omega
  simp only [zero_f32, e₁, e₂]

/-- The same, the zeros put in before the groups are moved. -/
theorem up_late (x : FVec Ideal ⟨2, ![2048, 11008]⟩ .f32) (h₁ h₂ h₃ h₄) (s : Fin 4) (r : Fin 2048) (q : Fin 2816) :
    (transpose ⟨3, ![4, 2048, 2816]⟩ [1, 0, 2] (pad ⟨3, ![2048, 4, 2816]⟩ ![0, 0, 0] ![0, 0, 64] ![0, 0, 0]
      (shapeCast ⟨3, ![2048, 4, 2752]⟩ x h₁) (sitofp .f32 (constantI ⟨0, ![]⟩ 32 0#32) : FVec Ideal ⟨0, ![]⟩ .f32) h₂ h₃) h₄ : FVec Ideal ⟨3, ![4, 2048, 2816]⟩ .f32) (ix3 s r q)
      = spread 4 (fun k => x (ix2 r k)) ⟨s * 2816 + q, by omega⟩ := by
  pointwise [spread]
  have e₁ : ((s : ℕ) * 2816 + q) % 2816 = q := by omega
  have e₂ : ((s : ℕ) * 2816 + q) / 2816 = s := by omega
  simp only [zero_f32, e₁, e₂]

/-- The rows of the hidden layer's weights, in two groups. -/
theorem rows2 (x : FVec Ideal ⟨2, ![5504, 2048]⟩ .f32) (h₁ h₂ h₃ h₄) (q : Fin 5632) (j : Fin 2048) :
    (shapeCast ⟨2, ![5632, 2048]⟩ (pad ⟨3, ![2, 2816, 2048]⟩ ![0, 0, 0] ![0, 64, 0] ![0, 0, 0]
      (shapeCast ⟨3, ![2, 2752, 2048]⟩ x h₁) (sitofp .f32 (constantI ⟨0, ![]⟩ 32 0#32) : FVec Ideal ⟨0, ![]⟩ .f32) h₂ h₃) h₄ : FVec Ideal ⟨2, ![5632, 2048]⟩ .f32) (ix2 q j)
      = spread 2 (fun k => x (ix2 k j)) q := by
  pointwise [spread]
  rw [zero_f32]
  split_ifs <;> first | rfl | omega

/-- The same weights, put together from four parts. -/
theorem rows2_parts (x : FVec Ideal ⟨2, ![5504, 2048]⟩ .f32) (h₁ h₂ h₃ h₄ h₅ h₆) (q : Fin 5632) (j : Fin 2048) :
    (shapeCast ⟨2, ![5632, 2048]⟩ (pad ⟨3, ![2, 2816, 2048]⟩ ![0, 0, 0] ![0, 64, 0] ![0, 0, 0]
      (shapeCast ⟨3, ![2, 2752, 2048]⟩ (truncf .bf16 (shapeCast ⟨3, ![4, 1376, 2048]⟩ x h₁ : FVec Ideal ⟨3, ![4, 1376, 2048]⟩ .f32) h₂) h₃ : FVec Ideal ⟨3, ![2, 2752, 2048]⟩ .bf16)
      (sitofp .bf16 (constantI ⟨0, ![]⟩ 32 0#32) : FVec Ideal ⟨0, ![]⟩ .bf16) h₄ h₅) h₆ : FVec Ideal ⟨2, ![5632, 2048]⟩ .bf16) (ix2 q j)
      = spread 2 (fun k => x (ix2 k j)) q := by
  pointwise [spread]
  rw [zero_bf16]
  have e : ((q : ℕ) / 2816 * 2 + (q : ℕ) % 2816 / 1376) * 1376 + (q : ℕ) % 2816 % 1376 = (q : ℕ) / 2816 * 2752 + (q : ℕ) % 2816 := by omega
  simp only [e]
  split_ifs <;> first | rfl | omega

end Cert.Layouts

end
-- ==== Proof.Prod2.lean ====
module

public import proofs.«01_k».proof.Proof.Gen.Kernel2Ideal.Value
public import proofs.«01_k».proof.Proof.Gen.Reference2Ideal.Read
public import proofs.«01_k».proof.Proof.Layouts

/-! The gradient of the up projection's input. -/

set_option maxRecDepth 16384

@[expose] public noncomputable section

open Idealize.ShloMosaic Idealize.ShloMosaic.TcCoe Idealize.SL.Sem

namespace Cert.Kernel2Ideal.Product

open Cert.Kernel2Ideal Cert.Kernel2Ideal.Gen Cert.Kernel2Ideal.Value Cert.Layouts

variable (m : (ℓ : Loc nD τ sig) → Buf (Elt Ideal) ℓ) (c : Dev nD)

abbrev w : FVec Ideal S2048x11008 .f32 := m ((c : Thread nD τ).loc main_arg1)
abbrev dy : FVec Ideal S4096x11008 .f32 := m ((c : Thread nD τ).loc main_arg2)

theorem left_at (r : Fin 4096) (q : Fin 11264) : (V m c main_v3 : FVec Ideal S4096x11264 .bf16) (ix2 r q) = spread 4 (fun k => dy m c (ix2 r k)) q :=
  cols4 (dy m c) _ pads_S4096x4x2752_S4096x4x2816_000_000_0640 h_S_ _ r q

theorem right_at (s : Fin 4) (r : Fin 2048) (q : Fin 2816) : (V m c main_v7 : FVec Ideal S4x2048x2816 .bf16) (ix3 s r q)
    = spread 4 (fun k => w m c (ix2 r k)) ⟨s * 2816 + q, by omega⟩ :=
  up (w m c) _ _ pads_S4x2048x2752_S4x2048x2816_000_000_0640 h_S_ s r q

theorem idx : ∀ t : Fin cfg0.N,
    win0_0.index t = ![t.val / 16, t.val % 8] ∧ win0_1.index t = ![t.val % 8 / 2, t.val / 8 % 2, t.val % 2] :=
  (by decide +kernel : ∀ t : Fin grid0.N, _)

theorem point_lt (t : Fin cfg0.N) : t.val < 64 := lt_of_lt_of_eq t.isLt (show cfg0.N = 64 from N_0)

theorem view0 (t : Fin cfg0.N) (X : FVec Ideal S4096x11264 .bf16) (r : Fin 1024) (d : Fin 1408) :
    (((cfg0.win 0).blk t).view.read (Elt Ideal) X : FVec Ideal S1024x1408 .bf16) (ix2 r d)
      = X (ix2 ⟨t.val / 16 * 1024 + r, by have := point_lt t; omega⟩ ⟨t.val % 8 * 1408 + d, by omega⟩) := by
  blk_ext [idx t]

theorem view1 (t : Fin cfg0.N) (X : FVec Ideal S4x2048x2816 .bf16) (k : Fin 1024) (d : Fin 1408) :
    (((cfg0.win 1).blk t).view.read (Elt Ideal) X : FVec Ideal S1x1024x1408 .bf16) (ix3 0 k d)
      = X (ix3 ⟨t.val % 8 / 2, by omega⟩ ⟨t.val / 8 % 2 * 1024 + k, by omega⟩ ⟨t.val % 2 * 1408 + d, by omega⟩) := by
  blk_ext [idx t]

theorem clear_at (r k : Fin 1024) : k0_pay1 (F := Ideal) (ix2 r k) = 0 := by
  pointwise [k0_pay1]

theorem step_at (x : FVec Ideal S1024x1024 .f32) (a : FVec Ideal S1024x1408 .bf16) (b : FVec Ideal S1x1024x1408 .bf16) (r k : Fin 1024) :
    k0_pay2 (F := Ideal) x a b (ix2 r k) = x (ix2 r k) + ∑ d : Fin 1408, a (ix2 r d) * b (ix3 0 k d) := by
  pointwise [k0_pay2]

/-- What is carried from point to point. -/
def acc (n : ℕ) (hn : n < cfg0.N) : FVec Ideal S1024x1024 .f32 := (outsAt0 m c n hn).2

/-- The two operands' blocks at a point. -/
def lhs (t : Fin cfg0.N) (r : Fin 1024) (d : Fin 1408) : EReal := (iblk m c 0 t : FVec Ideal S1024x1408 .bf16) (ix2 r d)
def rhs (t : Fin cfg0.N) (k : Fin 1024) (d : Fin 1408) : EReal := (iblk m c 1 t : FVec Ideal S1x1024x1408 .bf16) (ix3 0 k d)

theorem lhs_at (t : Fin cfg0.N) (r : Fin 1024) (d : Fin 1408) : lhs m c t r d
    = spread 4 (fun j => dy m c (ix2 ⟨t.val / 16 * 1024 + r, by have := point_lt t; omega⟩ j)) ⟨t.val % 8 * 1408 + d, by omega⟩ := by
  unfold lhs iblk
  exact (view0 t (V m c main_v3) r d).trans (left_at m c _ _)

theorem rhs_at (t : Fin cfg0.N) (k : Fin 1024) (d : Fin 1408) : rhs m c t k d
    = spread 4 (fun j => w m c (ix2 ⟨t.val / 8 % 2 * 1024 + k, by omega⟩ j)) ⟨t.val % 8 * 1408 + d, by omega⟩ := by
  unfold rhs iblk
  refine (view1 t (V m c main_v7) k d).trans ((right_at m c _ _ _).trans ?_)
  have e : t.val % 8 / 2 * 2816 + (t.val % 2 * 1408 + d.val) = t.val % 8 * 1408 + d := by omega
  simp only [e]

theorem acc_first (t : Fin cfg0.N) (h0 : t.val % 8 = 0) (r k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 8 = 0) (r k : Fin 1024) :
    acc m c t.val t.isLt (ix2 r k) = acc m c (t.val - 1) (by omega) (ix2 r k) + ∑ d, lhs m c t r d * rhs m c t k d := by
  rw [acc]
  by_cases h1 : t.val % 8 = 7
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 8 = 7) : (outsAt0 m c t.val t.isLt).1 = acc m c t.val t.isLt := by
  rw [acc, outsAt0_C m c t (by omega) h1]
  frame_out

theorem at_run (t : Fin cfg0.N) (h1 : t.val % 8 = 7) (r k : Fin 1024) :
    acc m c t.val t.isLt (ix2 r k) = ∑ q : Fin 11264,
      spread 4 (fun j => dy m c (ix2 ⟨t.val / 16 * 1024 + r, by have := point_lt t; omega⟩ j)) q
        * spread 4 (fun j => w m c (ix2 ⟨t.val / 8 % 2 * 1024 + k, by omega⟩ j)) q := by
  rw [carried_sum (acc m c) (lhs m c) (rhs m c) (acc_first m c) (acc_next m c) t h1 r k]
  refine Fin.sum_mul_add_congr fun s d hl => congrArg₂ (fun x y : EReal => x * y) ?_ ?_
  · have e₁ : (8 * (t.val / 8) + s.val) / 16 = t.val / 16 := by omega
    have e₂ : (8 * (t.val / 8) + s.val) % 8 = s := by omega
    simp only [lhs_at, e₁, e₂]
  · have e₁ : (8 * (t.val / 8) + s.val) / 8 % 2 = t.val / 8 % 2 := by omega
    have e₂ : (8 * (t.val / 8) + s.val) % 8 = s := by omega
    simp only [rhs_at, e₁, e₂]

theorem G2_at (r : Fin 4096) (k : Fin 2048) : (G2 m c : FVec Ideal S4096x2048 .f32) (ix2 r k)
    = ∑ j : Fin 11008, dy m c (ix2 r j) * w m c (ix2 k j) := by
  have hp : pt2Of (ix2 r k) = 8 * (2 * ((r : ℕ) / 1024) + (k : ℕ) / 1024) + 7 := by
    show 8 * (2 * ((r : ℕ) / 1024 - 0) + 1 * ((k : ℕ) / 1024 - 0)) + 7 = _
    omega
  have hN : pt2Of (ix2 r k) < cfg0.N := lt_of_lt_of_eq (by rw [hp]; omega) (show cfg0.N = 64 from N_0).symm
  have hl : loc2Of (ix2 r k) = ix2 ⟨(r : ℕ) % 1024, by omega⟩ ⟨(k : ℕ) % 1024, by omega⟩ := by
    rw [eq_ix2 (loc2Of (ix2 r k))]
    rfl
  have h7 : pt2Of (ix2 r k) % 8 = 7 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 16 * 1024 + (r : ℕ) % 1024, by rw [hp]; omega⟩ : Fin 4096) = r := Fin.ext (by simp only [hp]; omega)
  have ek : (⟨pt2Of (ix2 r k) / 8 % 2 * 1024 + (k : ℕ) % 1024, by omega⟩ : Fin 2048) = k := Fin.ext (by simp only [hp]; omega)
  refine Eq.trans ?_ (sum_spread 4 (fun j => dy m c (ix2 r j)) (fun j => w m c (ix2 k j)))
  exact Finset.sum_congr rfl fun q _ => congrArg₂ (fun x y => spread 4 (fun j => dy m c (ix2 x j)) q * spread 4 (fun j => w m c (ix2 y j)) q) er ek

theorem result : (G2 m c : FVec Ideal S4096x2048 .f32) = Cert.Reference2Ideal.Read.val_main_v3 (F := Ideal) (w m c) (dy m c) := by
  funext i
  obtain ⟨r, k, rfl⟩ : ∃ r k, i = ix2 r k := ⟨i 0, i 1, eq_ix2 i⟩
  have e : ∑ j : Fin 11008, dy m c (ix2 r j) * w m c (ix2 k j) = Cert.Reference2Ideal.Read.val_main_v3 (F := Ideal) (w m c) (dy m c) (ix2 r k) := by
    rw [Cert.Reference2Ideal.Read.val_main_v3_apply]
    exact Finset.sum_congr rfl fun j _ => congrArg₂ (fun x y : EReal => x * y)
      (congrArg (dy m c) (eq_ix2 (Cert.Reference2Ideal.Read.lidx_main_v3 (ix2 r k) j)).symm)
      (congrArg (w m c) (eq_ix2 (Cert.Reference2Ideal.Read.ridx_main_v3 (ix2 r k) j)).symm)
  exact (G2_at m c r k).trans e

end Cert.Kernel2Ideal.Product

end
-- ==== Proof.Prod3.lean ====
module

public import proofs.«01_k».proof.Proof.Gen.Kernel3Ideal.Value
public import proofs.«01_k».proof.Proof.Gen.Reference3Ideal.Read
public import proofs.«01_k».proof.Proof.Layouts

/-! The gradient of the up projection's weights, with the columns of zeros the version puts in. -/

set_option maxRecDepth 16384

@[expose] public noncomputable section

open Idealize.ShloMosaic Idealize.ShloMosaic.TcCoe Idealize.SL.Sem

namespace Cert.Kernel3Ideal.Product

open Cert.Kernel3Ideal Cert.Kernel3Ideal.Gen Cert.Kernel3Ideal.Value Cert.Layouts

variable (m : (ℓ : Loc nD τ sig) → Buf (Elt Ideal) ℓ) (c : Dev nD)

abbrev x : FVec Ideal S4096x2048 .f32 := m ((c : Thread nD τ).loc main_arg0)
abbrev dy : FVec Ideal S4096x11008 .f32 := m ((c : Thread nD τ).loc main_arg2)

theorem right_at (r : Fin 4096) (q : Fin 11264) : (V m c main_v3 : FVec Ideal S4096x11264 .bf16) (ix2 r q) = spread 4 (fun k => dy m c (ix2 r k)) q :=
  cols4 (dy m c) _ pads_S4096x4x2752_S4096x4x2816_000_000_0640 h_S_ _ r q

theorem idx : ∀ t : Fin cfg0.N,
    win0_0.index t = ![t.val % 4, t.val / 32] ∧ win0_1.index t = ![t.val % 4, t.val / 4 % 8]
    ∧ win0_2.index t = ![t.val / 4 % 8 / 2, t.val / 32, t.val / 4 % 2] :=
  (by decide +kernel : ∀ t : Fin grid0.N, _)

theorem point_lt (t : Fin cfg0.N) : t.val < 64 := lt_of_lt_of_eq t.isLt (show cfg0.N = 64 from N_0)

theorem view0 (t : Fin cfg0.N) (X : FVec Ideal S4096x2048 .bf16) (d r : Fin 1024) :
    (((cfg0.win 0).blk t).view.read (Elt Ideal) X : FVec Ideal S1024x1024 .bf16) (ix2 d r)
      = X (ix2 ⟨t.val % 4 * 1024 + d, by omega⟩ ⟨t.val / 32 * 1024 + r, by have := point_lt t; omega⟩) := by
  blk_ext [idx t]

theorem view1 (t : Fin cfg0.N) (X : FVec Ideal S4096x11264 .bf16) (d : Fin 1024) (k : Fin 1408) :
    (((cfg0.win 1).blk t).view.read (Elt Ideal) X : FVec Ideal S1024x1408 .bf16) (ix2 d k)
      = X (ix2 ⟨t.val % 4 * 1024 + d, by omega⟩ ⟨t.val / 4 % 8 * 1408 + k, by omega⟩) := by
  blk_ext [idx t]

theorem view2 (t : Fin cfg0.N) (X : FVec Ideal S4x2048x2816 .f32) (r : Fin 1024) (k : Fin 1408) :
    (((cfg0.win 2).blk t).view.read (Elt Ideal) X : FVec Ideal S1x1024x1408 .f32) (ix3 0 r k)
      = X (ix3 ⟨t.val / 4 % 8 / 2, by omega⟩ ⟨t.val / 32 * 1024 + r, by have := point_lt t; omega⟩ ⟨t.val / 4 % 2 * 1408 + k, by omega⟩) := by
  blk_ext [idx t]

theorem clear_at (r : Fin 1024) (k : Fin 1408) : k0_pay1 (F := Ideal) (ix2 r k) = 0 := by
  pointwise [k0_pay1]

theorem step_at (x : FVec Ideal S1024x1408 .f32) (a : FVec Ideal S1024x1024 .bf16) (b : FVec Ideal S1024x1408 .bf16) (r : Fin 1024) (k : Fin 1408) :
    k0_pay2 (F := Ideal) x a b (ix2 r k) = x (ix2 r k) + ∑ d : Fin 1024, a (ix2 d r) * b (ix2 d k) := by
  pointwise [k0_pay2]

theorem write_at (x : FVec Ideal S1024x1408 .f32) (r : Fin 1024) (k : Fin 1408) : k0_pay3 (F := Ideal) x (ix3 0 r k) = x (ix2 r k) := by
  pointwise [k0_pay3]

/-- What is carried from point to point. -/
def acc (n : ℕ) (hn : n < cfg0.N) : FVec Ideal S1024x1408 .f32 := (outsAt0 m c n hn).2

/-- The two operands' blocks at a point. -/
def lhs (t : Fin cfg0.N) (r d : Fin 1024) : EReal := (iblk m c 0 t : FVec Ideal S1024x1024 .bf16) (ix2 d r)
def rhs (t : Fin cfg0.N) (k : Fin 1408) (d : Fin 1024) : EReal := (iblk m c 1 t : FVec Ideal S1024x1408 .bf16) (ix2 d k)

theorem lhs_at (t : Fin cfg0.N) (r d : Fin 1024) : lhs m c t r d
    = x m c (ix2 ⟨t.val % 4 * 1024 + d, by omega⟩ ⟨t.val / 32 * 1024 + r, by have := point_lt t; omega⟩) := by
  unfold lhs iblk
  exact view0 t (V m c main_v4) d r

theorem rhs_at (t : Fin cfg0.N) (k : Fin 1408) (d : Fin 1024) : rhs m c t k d
    = spread 4 (fun j => dy m c (ix2 ⟨t.val % 4 * 1024 + d, by omega⟩ j)) ⟨t.val / 4 % 8 * 1408 + k, by omega⟩ := by
  unfold rhs iblk
  exact (view1 t (V m c main_v3) d k).trans (right_at m c _ _)

theorem acc_first (t : Fin cfg0.N) (h0 : t.val % 4 = 0) (r : Fin 1024) (k : Fin 1408) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r : Fin 1024) (k : Fin 1408) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = k0_pay3 (F := Ideal) (acc m c t.val t.isLt) := by
  rw [acc, outsAt0_C m c t (by omega) h1]
  frame_out

theorem at_run (t : Fin cfg0.N) (h1 : t.val % 4 = 3) (r : Fin 1024) (k : Fin 1408) :
    acc m c t.val t.isLt (ix2 r k) = ∑ q : Fin 4096,
      x m c (ix2 q ⟨t.val / 32 * 1024 + r, by have := point_lt t; omega⟩) * spread 4 (fun j => dy m c (ix2 q j)) ⟨t.val / 4 % 8 * 1408 + k, by omega⟩ := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 32 = t.val / 32 := by omega
    have e₂ : (4 * (t.val / 4) + s.val) % 4 = s := by omega
    simp only [lhs_at, e₁, e₂]
  · have e₁ : (4 * (t.val / 4) + s.val) / 4 % 8 = t.val / 4 % 8 := by omega
    have e₂ : (4 * (t.val / 4) + s.val) % 4 = s := by omega
    simp only [rhs_at, e₁, e₂]

theorem reference_at (r : Fin 2048) (k : Fin 11008) :
    Cert.Reference3Ideal.Read.val_main_v2 (F := Ideal) (x m c) (dy m c) (ix2 r k) = ∑ q : Fin 4096, x m c (ix2 q r) * dy m c (ix2 q k) := by
  rw [Cert.Reference3Ideal.Read.val_main_v2_apply, Cert.Reference3Ideal.Read.val_main_v1_apply]
  refine Finset.sum_congr rfl fun q _ => (mul_comm (G := EReal) _ _).trans (congrArg₂ (fun x y : EReal => x * y) ?_ ?_)
  · exact congrArg (x m c) (eq_ix2 (Cert.Reference3Ideal.Read.ridx_main_v1 (Cert.Reference3Ideal.Read.idx_main_v2 (ix2 r k)) q))
  · exact congrArg (dy m c) (eq_ix2 (Cert.Reference3Ideal.Read.lidx_main_v1 (Cert.Reference3Ideal.Read.idx_main_v2 (ix2 r k)) q))

/-- The gradient, its columns in four groups. -/
abbrev G : FVec Ideal S4x2048x2816 .f32 := Cert.Reference3Ideal.Read.val_main_v6 (F := Ideal) (x m c) (dy m c)

theorem G_at (s : Fin 4) (r : Fin 2048) (k : Fin 2816) :
    G m c (ix3 s r k) = ∑ q : Fin 4096, x m c (ix2 q r) * spread 4 (fun l => dy m c (ix2 q l)) ⟨s * 2816 + k, by omega⟩ := by
  refine (up_late (Cert.Reference3Ideal.Read.val_main_v2 (F := Ideal) (x m c) (dy m c)) _
    Cert.Reference3Ideal.Gen.pads_S2048x4x2752_S2048x4x2816_000_000_0640 Cert.Reference3Ideal.Gen.h_S_ _ s r k).trans ?_
  simp only [reference_at]
  exact (sum_mul_spread 4 (fun q => x m c (ix2 q r)) (fun q l => dy m c (ix2 q l)) _).symm

/-- What a point writes back is its block of the gradient. -/
theorem flushed_eq (t : Fin cfg0.N) (hf : (cfg0.win 2).flush t = true) :
    (dats m 0 c).flushed 2 t = ((cfg0.win 2).blk t).view.read (Elt Ideal) (G m c) := by
  have h3 : t.val % 4 = 3 := (flush0_2 t).mp hf
  rw [flushed2, out_last m c t h3]
  funext y
  obtain ⟨r, k, rfl⟩ : ∃ r k, y = (ix3 0 r k : S1x1024x1408.Idx) := ⟨y 1, y 2, by
    refine (eq_ix3 (y : S1x1024x1408.Idx)).trans ?_
    exact congrArg (fun z => (ix3 z (y 1) (y 2) : S1x1024x1408.Idx)) (Fin.ext (by have : (y 0).val < 1 := (y 0).isLt; show (y 0).val = 0; omega))⟩
  have e : (cfg0.win 2).xinj (grid0.coords t) (ix3 0 r k : S1x1024x1408.Idx) = (ix3 0 r k : S1x1024x1408.Idx) := by
    funext a
    match a with
    | ⟨0, _⟩ => rfl
    | ⟨1, _⟩ => rfl
    | ⟨2, _⟩ => rfl
  refine Eq.trans ?_ (view2 t (G m c) r k).symm
  show k0_pay3 (F := Ideal) (acc m c t.val t.isLt) ((cfg0.win 2).xinj (grid0.coords t) (ix3 0 r k : S1x1024x1408.Idx)) = _
  rw [e]
  refine (write_at _ r k).trans ((at_run m c t h3 r k).trans (Eq.trans ?_ (G_at m c _ _ _).symm))
  have e : t.val / 4 % 8 / 2 * 2816 + (t.val / 4 % 2 * 1408 + k.val) = t.val / 4 % 8 * 1408 + k := by omega
  simp only [e]

theorem mem_block (t : Fin cfg0.N) (i : S4x2048x2816.Idx) : i ∈ ((cfg0.win 2).blk t).view.set
    ↔ ∀ a : Fin 3, win0_2.index t a * S1x1024x1408.size a ≤ (i a).val ∧ (i a).val < win0_2.index t a * S1x1024x1408.size a + S1x1024x1408.size a := by
  change i ∈ ((View.whole main_v5).slice (win0_2.rect t)).set ↔ _
  rw [View.set_slice_whole, Rect.mem_set_unit]
  rfl

/-- Every entry is in the block of a point that writes back. -/
theorem covered (i : S4x2048x2816.Idx) : ∃ t : Fin cfg0.N, (cfg0.win 2).flush t = true ∧ i ∈ ((cfg0.win 2).blk t).view.set := by
  have b0 : (i 0).val < 4 := (i 0).isLt
  have b1 : (i 1).val < 2048 := (i 1).isLt
  have b2 : (i 2).val < 2816 := (i 2).isLt
  obtain ⟨t, ht⟩ : ∃ t : Fin cfg0.N, t.val = 32 * ((i 1).val / 1024) + 4 * (2 * (i 0).val + (i 2).val / 1408) + 3 :=
    ⟨⟨_, lt_of_lt_of_eq (by omega) (show cfg0.N = 64 from N_0).symm⟩, rfl⟩
  refine ⟨t, (flush0_2 t).mpr (by omega), (mem_block t i).mpr fun a => ?_⟩
  have hi := (idx t).2.2
  have i0 : win0_2.index t 0 = t.val / 4 % 8 / 2 := congrFun hi 0
  have i1 : win0_2.index t 1 = t.val / 32 := congrFun hi 1
  have i2 : win0_2.index t 2 = t.val / 4 % 2 := congrFun hi 2
  match a with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 1408 ≤ (i 2).val ∧ (i 2).val < win0_2.index t 2 * 1408 + 1408; omega

theorem result : (dats m 0 c).arrAt 2 cfg0.N = G m c :=
  (dats m 0 c).arrAt_eq_of_cover 2 (G m c) (fun t hf => flushed_eq m c t hf) (fun i => covered i)

end Cert.Kernel3Ideal.Product

end
-- ==== Proof.Prod4.lean ====
module

public import proofs.«01_k».proof.Proof.Gen.Kernel4Ideal.Value
public import proofs.«01_k».proof.Proof.Gen.Reference4Ideal.Read
public import proofs.«01_k».proof.Proof.Layouts

/-! The gradient of the down projection's input, with the columns of zeros the version puts in. -/

set_option maxRecDepth 16384

@[expose] public noncomputable section

open Idealize.ShloMosaic Idealize.ShloMosaic.TcCoe Idealize.SL.Sem

namespace Cert.Kernel4Ideal.Product

open Cert.Kernel4Ideal Cert.Kernel4Ideal.Gen Cert.Kernel4Ideal.Value Cert.Layouts

variable (m : (ℓ : Loc nD τ sig) → Buf (Elt Ideal) ℓ) (c : Dev nD)

abbrev dy : FVec Ideal S4096x2048 .f32 := m ((c : Thread nD τ).loc main_arg2)
abbrev w : FVec Ideal S5504x2048 .f32 := m ((c : Thread nD τ).loc main_arg1)

theorem right_at (q : Fin 5632) (j : Fin 2048) : (V m c main_v5 : FVec Ideal S5632x2048 .bf16) (ix2 q j) = spread 2 (fun k => w m c (ix2 k j)) q :=
  rows2_parts (w m c) _ bitsLt_bf16_f32 _ pads_S2x2752x2048_S2x2816x2048_000_0640_000 h_S_ _ q j

theorem idx : ∀ t : Fin cfg0.N, win0_0.index t = ![t.val / 22, t.val % 2] ∧ win0_1.index t = ![t.val / 2 % 11, t.val % 2] :=
  (by decide +kernel : ∀ t : Fin grid0.N, _)

theorem point_lt (t : Fin cfg0.N) : t.val < 88 := lt_of_lt_of_eq t.isLt (show cfg0.N = 88 from N_0)

theorem view0 (t : Fin cfg0.N) (X : FVec Ideal S4096x2048 .bf16) (r d : Fin 1024) :
    (((cfg0.win 0).blk t).view.read (Elt Ideal) X : FVec Ideal S1024x1024 .bf16) (ix2 r d)
      = X (ix2 ⟨t.val / 22 * 1024 + r, by have := point_lt t; omega⟩ ⟨t.val % 2 * 1024 + d, by omega⟩) := by
  blk_ext [idx t]

theorem view1 (t : Fin cfg0.N) (X : FVec Ideal S5632x2048 .bf16) (k : Fin 512) (d : Fin 1024) :
    (((cfg0.win 1).blk t).view.read (Elt Ideal) X : FVec Ideal S512x1024 .bf16) (ix2 k d)
      = X (ix2 ⟨t.val / 2 % 11 * 512 + k, by omega⟩ ⟨t.val % 2 * 1024 + d, by omega⟩) := by
  blk_ext [idx t]

theorem clear_at (r : Fin 1024) (k : Fin 512) : k0_pay1 (F := Ideal) (ix2 r k) = 0 := by
  pointwise [k0_pay1]

theorem step_at (x : FVec Ideal S1024x512 .f32) (a : FVec Ideal S1024x1024 .bf16) (b : FVec Ideal S512x1024 .bf16) (r : Fin 1024) (k : Fin 512) :
    k0_pay2 (F := Ideal) x a b (ix2 r k) = x (ix2 r k) + ∑ d : Fin 1024, a (ix2 r d) * b (ix2 k d) := by
  pointwise [k0_pay2]

/-- What is carried from point to point. -/
def acc (n : ℕ) (hn : n < cfg0.N) : FVec Ideal S1024x512 .f32 := (outsAt0 m c n hn).2

/-- The two operands' blocks at a point. -/
def lhs (t : Fin cfg0.N) (r d : Fin 1024) : EReal := (iblk m c 0 t : FVec Ideal S1024x1024 .bf16) (ix2 r d)
def rhs (t : Fin cfg0.N) (k : Fin 512) (d : Fin 1024) : EReal := (iblk m c 1 t : FVec Ideal S512x1024 .bf16) (ix2 k d)

theorem lhs_at (t : Fin cfg0.N) (r d : Fin 1024) : lhs m c t r d
    = dy m c (ix2 ⟨t.val / 22 * 1024 + r, by have := point_lt t; omega⟩ ⟨t.val % 2 * 1024 + d, by omega⟩) := by
  unfold lhs iblk
  exact view0 t (V m c main_v0) r d

theorem rhs_at (t : Fin cfg0.N) (k : Fin 512) (d : Fin 1024) : rhs m c t k d
    = spread 2 (fun j => w m c (ix2 j ⟨t.val % 2 * 1024 + d, by omega⟩)) ⟨t.val / 2 % 11 * 512 + k, by omega⟩ := by
  unfold rhs iblk
  exact (view1 t (V m c main_v5) k d).trans (right_at m c _ _)

theorem acc_first (t : Fin cfg0.N) (h0 : t.val % 2 = 0) (r : Fin 1024) (k : Fin 512) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 2 = 0) (r : Fin 1024) (k : Fin 512) :
    acc m c t.val t.isLt (ix2 r k) = acc m c (t.val - 1) (by omega) (ix2 r k) + ∑ d, lhs m c t r d * rhs m c t k d := by
  rw [acc, outsAt0_B m c t h0 (by omega)]
  frame_out
  rw [step_at]
  exact congrArg (· + _) (congrFun ((Memref.isWhole_whole cc0_scratch0).read_unread _) _)

/-- At the last point of a run what is carried is written out. -/
theorem out_last (t : Fin cfg0.N) (h1 : t.val % 2 = 1) : (outsAt0 m c t.val t.isLt).1 = acc m c t.val t.isLt := by
  rw [acc, outsAt0_B m c t (by omega) h1]
  frame_out

theorem at_run (t : Fin cfg0.N) (h1 : t.val % 2 = 1) (r : Fin 1024) (k : Fin 512) :
    acc m c t.val t.isLt (ix2 r k) = ∑ q : Fin 2048,
      dy m c (ix2 ⟨t.val / 22 * 1024 + r, by have := point_lt t; omega⟩ q) * spread 2 (fun j => w m c (ix2 j q)) ⟨t.val / 2 % 11 * 512 + k, by omega⟩ := by
  rw [carried_sum (acc m c) (lhs m c) (rhs m c) (acc_first m c) (acc_next m c) t h1 r k]
  refine Fin.sum_mul_add_congr fun s d hl => congrArg₂ (fun x y : EReal => x * y) ?_ ?_
  · have e₁ : (2 * (t.val / 2) + s.val) / 22 = t.val / 22 := by omega
    have e₂ : (2 * (t.val / 2) + s.val) % 2 = s := by omega
    simp only [lhs_at, e₁, e₂]
  · have e₁ : (2 * (t.val / 2) + s.val) / 2 % 11 = t.val / 2 % 11 := by omega
    have e₂ : (2 * (t.val / 2) + s.val) % 2 = s := by omega
    simp only [rhs_at, e₁, e₂]

theorem G2_at (r : Fin 4096) (k : Fin 5632) : (G2 m c : FVec Ideal S4096x5632 .f32) (ix2 r k)
    = ∑ j : Fin 2048, dy m c (ix2 r j) * spread 2 (fun l => w m c (ix2 l j)) k := by
  have hp : pt2Of (ix2 r k) = 2 * (11 * ((r : ℕ) / 1024) + (k : ℕ) / 512) + 1 := by
    show 2 * (11 * ((r : ℕ) / 1024 - 0) + 1 * ((k : ℕ) / 512 - 0)) + 1 = _
    omega
  have hN : pt2Of (ix2 r k) < cfg0.N := lt_of_lt_of_eq (by rw [hp]; omega) (show cfg0.N = 88 from N_0).symm
  have hl : loc2Of (ix2 r k) = ix2 ⟨(r : ℕ) % 1024, by omega⟩ ⟨(k : ℕ) % 512, by omega⟩ := by
    rw [eq_ix2 (loc2Of (ix2 r k))]
    rfl
  have h7 : pt2Of (ix2 r k) % 2 = 1 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 22 * 1024 + (r : ℕ) % 1024, by rw [hp]; omega⟩ : Fin 4096) = r := Fin.ext (by simp only [hp]; omega)
  have ek : (⟨pt2Of (ix2 r k) / 2 % 11 * 512 + (k : ℕ) % 512, by omega⟩ : Fin 5632) = k := Fin.ext (by simp only [hp]; omega)
  exact Finset.sum_congr rfl fun q _ => congrArg₂ (fun y z => dy m c (ix2 y q) * spread 2 (fun l => w m c (ix2 l q)) z) er ek

theorem reference_at (r : Fin 4096) (k : Fin 5504) :
    Cert.Reference4Ideal.Read.val_main_v3 (F := Ideal) (w m c) (dy m c) (ix2 r k) = ∑ j : Fin 2048, dy m c (ix2 r j) * w m c (ix2 k j) := by
  rw [Cert.Reference4Ideal.Read.val_main_v3_apply]
  exact Finset.sum_congr rfl fun j _ => congrArg₂ (fun x y : EReal => x * y)
    (congrArg (dy m c) (eq_ix2 (Cert.Reference4Ideal.Read.lidx_main_v3 (ix2 r k) j)))
    (congrArg (w m c) (eq_ix2 (Cert.Reference4Ideal.Read.ridx_main_v3 (ix2 r k) j)))

theorem result : (G2 m c : FVec Ideal S4096x5632 .f32) = Cert.Reference4Ideal.Read.val_main_v6 (F := Ideal) (w m c) (dy m c) := by
  funext i
  obtain ⟨r, k, rfl⟩ : ∃ r k, i = ix2 r k := ⟨i 0, i 1, eq_ix2 i⟩
  have e : ∑ j : Fin 2048, dy m c (ix2 r j) * spread 2 (fun l => w m c (ix2 l j)) k
      = Cert.Reference4Ideal.Read.val_main_v6 (F := Ideal) (w m c) (dy m c) (ix2 r k) := by
    refine Eq.trans ?_ (cols2 (Cert.Reference4Ideal.Read.val_main_v3 (F := Ideal) (w m c) (dy m c)) _
      Cert.Reference4Ideal.Gen.pads_S4096x2x2752_S4096x2x2816_000_000_0640 Cert.Reference4Ideal.Gen.h_S_ _ r k).symm
    simp only [reference_at]
    exact sum_mul_spread 2 (fun j => dy m c (ix2 r j)) (fun j l => w m c (ix2 l j)) k
  exact (G2_at m c r k).trans e

end Cert.Kernel4Ideal.Product

end
-- ==== Proof.Prod5.lean ====
module

public import proofs.«01_k».proof.Proof.Gen.Kernel5Ideal.Value
public import proofs.«01_k».proof.Proof.Gen.Reference5Ideal.Read
public import proofs.«01_k».proof.Proof.Layouts

/-! The gradient of the down projection's weights, with the rows of zeros the version puts in. -/

set_option maxRecDepth 16384

@[expose] public noncomputable section

open Idealize.ShloMosaic Idealize.ShloMosaic.TcCoe Idealize.SL.Sem

namespace Cert.Kernel5Ideal.Product

open Cert.Kernel5Ideal Cert.Kernel5Ideal.Gen Cert.Kernel5Ideal.Value Cert.Layouts

variable (m : (ℓ : Loc nD τ sig) → Buf (Elt Ideal) ℓ) (c : Dev nD)

abbrev x : FVec Ideal S4096x5504 .f32 := m ((c : Thread nD τ).loc main_arg0)
abbrev dy : FVec Ideal S4096x2048 .f32 := m ((c : Thread nD τ).loc main_arg2)

theorem left_at (r : Fin 4096) (q : Fin 5632) : (V m c main_v3 : FVec Ideal S4096x5632 .bf16) (ix2 r q) = spread 2 (fun k => x m c (ix2 r k)) q :=
  cols2 (x m c) _ pads_S4096x2x2752_S4096x2x2816_000_000_0640 h_S_ _ r q

theorem idx : ∀ t : Fin cfg0.N,
    win0_0.index t = ![t.val % 4, t.val / 8] ∧ win0_1.index t = ![t.val % 4, t.val / 4 % 2] :=
  (by decide +kernel : ∀ t : Fin grid0.N, _)

theorem point_lt (t : Fin cfg0.N) : t.val < 88 := lt_of_lt_of_eq t.isLt (show cfg0.N = 88 from N_0)

theorem view0 (t : Fin cfg0.N) (X : FVec Ideal S4096x5632 .bf16) (d : Fin 1024) (r : Fin 512) :
    (((cfg0.win 0).blk t).view.read (Elt Ideal) X : FVec Ideal S1024x512 .bf16) (ix2 d r)
      = X (ix2 ⟨t.val % 4 * 1024 + d, by omega⟩ ⟨t.val / 8 * 512 + r, by have := point_lt t; omega⟩) := by
  blk_ext [idx t]

theorem view1 (t : Fin cfg0.N) (X : FVec Ideal S4096x2048 .bf16) (d k : Fin 1024) :
    (((cfg0.win 1).blk t).view.read (Elt Ideal) X : FVec Ideal S1024x1024 .bf16) (ix2 d k)
      = X (ix2 ⟨t.val % 4 * 1024 + d, by omega⟩ ⟨t.val / 4 % 2 * 1024 + k, by omega⟩) := by
  blk_ext [idx t]

theorem clear_at (r : Fin 512) (k : Fin 1024) : k0_pay1 (F := Ideal) (ix2 r k) = 0 := by
  pointwise [k0_pay1]

theorem step_at (x : FVec Ideal S512x1024 .f32) (a : FVec Ideal S1024x512 .bf16) (b : FVec Ideal S1024x1024 .bf16) (r : Fin 512) (k : Fin 1024) :
    k0_pay2 (F := Ideal) x a b (ix2 r k) = x (ix2 r k) + ∑ d : Fin 1024, a (ix2 d r) * b (ix2 d k) := by
  pointwise [k0_pay2]

/-- What is carried from point to point. -/
def acc (n : ℕ) (hn : n < cfg0.N) : FVec Ideal S512x1024 .f32 := (outsAt0 m c n hn).2

/-- The two operands' blocks at a point. -/
def lhs (t : Fin cfg0.N) (r : Fin 512) (d : Fin 1024) : EReal := (iblk m c 0 t : FVec Ideal S1024x512 .bf16) (ix2 d r)
def rhs (t : Fin cfg0.N) (k d : Fin 1024) : EReal := (iblk m c 1 t : FVec Ideal S1024x1024 .bf16) (ix2 d k)

theorem lhs_at (t : Fin cfg0.N) (r : Fin 512) (d : Fin 1024) : lhs m c t r d
    = spread 2 (fun j => x m c (ix2 ⟨t.val % 4 * 1024 + d, by omega⟩ j)) ⟨t.val / 8 * 512 + r, by have := point_lt t; omega⟩ := by
  unfold lhs iblk
  exact (view0 t (V m c main_v3) d r).trans (left_at m c _ _)

theorem rhs_at (t : Fin cfg0.N) (k d : Fin 1024) : rhs m c t k d
    = dy m c (ix2 ⟨t.val % 4 * 1024 + d, by omega⟩ ⟨t.val / 4 % 2 * 1024 + k, by omega⟩) := by
  unfold rhs iblk
  exact view1 t (V m c main_v4) d k

theorem acc_first (t : Fin cfg0.N) (h0 : t.val % 4 = 0) (r : Fin 512) (k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r : Fin 512) (k : Fin 1024) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = acc m c t.val t.isLt := by
  rw [acc, outsAt0_C m c t (by omega) h1]
  frame_out

theorem at_run (t : Fin cfg0.N) (h1 : t.val % 4 = 3) (r : Fin 512) (k : Fin 1024) :
    acc m c t.val t.isLt (ix2 r k) = ∑ q : Fin 4096,
      spread 2 (fun j => x m c (ix2 q j)) ⟨t.val / 8 * 512 + r, by have := point_lt t; omega⟩ * dy m c (ix2 q ⟨t.val / 4 % 2 * 1024 + k, by omega⟩) := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 8 = t.val / 8 := by omega
    have e₂ : (4 * (t.val / 4) + s.val) % 4 = s := by omega
    simp only [lhs_at, e₁, e₂]
  · have e₁ : (4 * (t.val / 4) + s.val) / 4 % 2 = t.val / 4 % 2 := by omega
    have e₂ : (4 * (t.val / 4) + s.val) % 4 = s := by omega
    simp only [rhs_at, e₁, e₂]

theorem G2_at (r : Fin 5632) (k : Fin 2048) : (G2 m c : FVec Ideal S5632x2048 .f32) (ix2 r k)
    = ∑ q : Fin 4096, spread 2 (fun l => x m c (ix2 q l)) r * dy m c (ix2 q k) := by
  have hp : pt2Of (ix2 r k) = 4 * (2 * ((r : ℕ) / 512) + (k : ℕ) / 1024) + 3 := by
    show 4 * (2 * ((r : ℕ) / 512 - 0) + 1 * ((k : ℕ) / 1024 - 0)) + 3 = _
    omega
  have hN : pt2Of (ix2 r k) < cfg0.N := lt_of_lt_of_eq (by rw [hp]; omega) (show cfg0.N = 88 from N_0).symm
  have hl : loc2Of (ix2 r k) = ix2 ⟨(r : ℕ) % 512, by omega⟩ ⟨(k : ℕ) % 1024, by omega⟩ := by
    rw [eq_ix2 (loc2Of (ix2 r k))]
    rfl
  have h7 : pt2Of (ix2 r k) % 4 = 3 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 8 * 512 + (r : ℕ) % 512, by rw [hp]; omega⟩ : Fin 5632) = r := Fin.ext (by simp only [hp]; omega)
  have ek : (⟨pt2Of (ix2 r k) / 4 % 2 * 1024 + (k : ℕ) % 1024, by omega⟩ : Fin 2048) = k := Fin.ext (by simp only [hp]; omega)
  exact Finset.sum_congr rfl fun q _ => congrArg₂ (fun y z => spread 2 (fun l => x m c (ix2 q l)) y * dy m c (ix2 q z)) er ek

theorem reference_at (r : Fin 5504) (k : Fin 2048) :
    Cert.Reference5Ideal.Read.val_main_v2 (F := Ideal) (x m c) (dy m c) (ix2 r k) = ∑ q : Fin 4096, x m c (ix2 q r) * dy m c (ix2 q k) := by
  rw [Cert.Reference5Ideal.Read.val_main_v2_apply, Cert.Reference5Ideal.Read.val_main_v1_apply]
  refine Finset.sum_congr rfl fun q _ => (mul_comm (G := EReal) _ _).trans (congrArg₂ (fun x y : EReal => x * y) ?_ ?_)
  · exact congrArg (x m c) (eq_ix2 (Cert.Reference5Ideal.Read.ridx_main_v1 (Cert.Reference5Ideal.Read.idx_main_v2 (ix2 r k)) q))
  · exact congrArg (dy m c) (eq_ix2 (Cert.Reference5Ideal.Read.lidx_main_v1 (Cert.Reference5Ideal.Read.idx_main_v2 (ix2 r k)) q))

theorem result : (G2 m c : FVec Ideal S5632x2048 .f32) = Cert.Reference5Ideal.Read.val_main_v6 (F := Ideal) (x m c) (dy m c) := by
  funext i
  obtain ⟨r, k, rfl⟩ : ∃ r k, i = ix2 r k := ⟨i 0, i 1, eq_ix2 i⟩
  have e : ∑ q : Fin 4096, spread 2 (fun l => x m c (ix2 q l)) r * dy m c (ix2 q k)
      = Cert.Reference5Ideal.Read.val_main_v6 (F := Ideal) (x m c) (dy m c) (ix2 r k) := by
    refine Eq.trans ?_ (rows2 (Cert.Reference5Ideal.Read.val_main_v2 (F := Ideal) (x m c) (dy m c)) _
      Cert.Reference5Ideal.Gen.pads_S2x2752x2048_S2x2816x2048_000_0640_000 Cert.Reference5Ideal.Gen.h_S_ _ r k).symm
    simp only [reference_at]
    exact sum_spread_mul 2 (fun q => dy m c (ix2 q k)) (fun q l => x m c (ix2 q l)) r
  exact (G2_at m c r k).trans e

end Cert.Kernel5Ideal.Product

end
-- ==== Proof.Prod6.lean ====
module

public import proofs.«01_k».proof.Proof.Gen.Kernel6Ideal.Value
public import proofs.«01_k».proof.Proof.Gen.Reference6Ideal.Read
public import proofs.«01_k».proof.Proof.Layouts

/-! The gradient of the output projection's input. -/

set_option maxRecDepth 16384

@[expose] public noncomputable section

open Idealize.ShloMosaic Idealize.ShloMosaic.TcCoe Idealize.SL.Sem

namespace Cert.Kernel6Ideal.Product

open Cert.Kernel6Ideal Cert.Kernel6Ideal.Gen Cert.Kernel6Ideal.Value Cert.Layouts

variable (m : (ℓ : Loc nD τ sig) → Buf (Elt Ideal) ℓ) (c : Dev nD)

abbrev dy : FVec Ideal S4096x2048 .f32 := m ((c : Thread nD τ).loc main_arg2)
abbrev w : FVec Ideal S2048x2048 .f32 := m ((c : Thread nD τ).loc main_arg1)

theorem idx : ∀ t : Fin cfg0.N, win0_0.index t = ![t.val / 4, t.val % 2] ∧ win0_1.index t = ![t.val / 2 % 2, t.val % 2] :=
  (by decide +kernel : ∀ t : Fin grid0.N, _)

theorem point_lt (t : Fin cfg0.N) : t.val < 16 := lt_of_lt_of_eq t.isLt (show cfg0.N = 16 from N_0)

theorem view0 (t : Fin cfg0.N) (X : FVec Ideal S4096x2048 .bf16) (r d : Fin 1024) :
    (((cfg0.win 0).blk t).view.read (Elt Ideal) X : FVec Ideal S1024x1024 .bf16) (ix2 r d)
      = X (ix2 ⟨t.val / 4 * 1024 + r, by have := point_lt t; omega⟩ ⟨t.val % 2 * 1024 + d, by omega⟩) := by
  blk_ext [idx t]

theorem view1 (t : Fin cfg0.N) (X : FVec Ideal S2048x2048 .bf16) (k d : Fin 1024) :
    (((cfg0.win 1).blk t).view.read (Elt Ideal) X : FVec Ideal S1024x1024 .bf16) (ix2 k d)
      = X (ix2 ⟨t.val / 2 % 2 * 1024 + k, by omega⟩ ⟨t.val % 2 * 1024 + d, by omega⟩) := by
  blk_ext [idx t]

theorem clear_at (r k : Fin 1024) : k0_pay1 (F := Ideal) (ix2 r k) = 0 := by
  pointwise [k0_pay1]

theorem step_at (x : FVec Ideal S1024x1024 .f32) (a b : FVec Ideal S1024x1024 .bf16) (r k : Fin 1024) :
    k0_pay2 (F := Ideal) x a b (ix2 r k) = x (ix2 r k) + ∑ d : Fin 1024, a (ix2 r d) * b (ix2 k d) := by
  pointwise [k0_pay2]

/-- What is carried from point to point. -/
def acc (n : ℕ) (hn : n < cfg0.N) : FVec Ideal S1024x1024 .f32 := (outsAt0 m c n hn).2

/-- The two operands' blocks at a point. -/
def lhs (t : Fin cfg0.N) (r d : Fin 1024) : EReal := (iblk m c 0 t : FVec Ideal S1024x1024 .bf16) (ix2 r d)
def rhs (t : Fin cfg0.N) (k d : Fin 1024) : EReal := (iblk m c 1 t : FVec Ideal S1024x1024 .bf16) (ix2 k d)

theorem lhs_at (t : Fin cfg0.N) (r d : Fin 1024) : lhs m c t r d
    = dy m c (ix2 ⟨t.val / 4 * 1024 + r, by have := point_lt t; omega⟩ ⟨t.val % 2 * 1024 + d, by omega⟩) := by
  unfold lhs iblk
  exact view0 t (V m c main_v0) r d

theorem rhs_at (t : Fin cfg0.N) (k d : Fin 1024) : rhs m c t k d
    = w m c (ix2 ⟨t.val / 2 % 2 * 1024 + k, by omega⟩ ⟨t.val % 2 * 1024 + d, by omega⟩) := by
  unfold rhs iblk
  exact view1 t (V m c main_v1) k d

theorem acc_first (t : Fin cfg0.N) (h0 : t.val % 2 = 0) (r k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 2 = 0) (r k : Fin 1024) :
    acc m c t.val t.isLt (ix2 r k) = acc m c (t.val - 1) (by omega) (ix2 r k) + ∑ d, lhs m c t r d * rhs m c t k d := by
  rw [acc, outsAt0_B m c t h0 (by omega)]
  frame_out
  rw [step_at]
  exact congrArg (· + _) (congrFun ((Memref.isWhole_whole cc0_scratch0).read_unread _) _)

/-- At the last point of a run what is carried is written out. -/
theorem out_last (t : Fin cfg0.N) (h1 : t.val % 2 = 1) : (outsAt0 m c t.val t.isLt).1 = acc m c t.val t.isLt := by
  rw [acc, outsAt0_B m c t (by omega) h1]
  frame_out

theorem at_run (t : Fin cfg0.N) (h1 : t.val % 2 = 1) (r k : Fin 1024) :
    acc m c t.val t.isLt (ix2 r k) = ∑ q : Fin 2048,
      dy m c (ix2 ⟨t.val / 4 * 1024 + r, by have := point_lt t; omega⟩ q) * w m c (ix2 ⟨t.val / 2 % 2 * 1024 + k, by omega⟩ q) := by
  rw [carried_sum (acc m c) (lhs m c) (rhs m c) (acc_first m c) (acc_next m c) t h1 r k]
  refine Fin.sum_mul_add_congr fun s d hl => congrArg₂ (fun x y : EReal => x * y) ?_ ?_
  · have e₁ : (2 * (t.val / 2) + s.val) / 4 = t.val / 4 := by omega
    have e₂ : (2 * (t.val / 2) + s.val) % 2 = s := by omega
    simp only [lhs_at, e₁, e₂]
  · have e₁ : (2 * (t.val / 2) + s.val) / 2 % 2 = t.val / 2 % 2 := by omega
    have e₂ : (2 * (t.val / 2) + s.val) % 2 = s := by omega
    simp only [rhs_at, e₁, e₂]

theorem G2_at (r : Fin 4096) (k : Fin 2048) : (G2 m c : FVec Ideal S4096x2048 .f32) (ix2 r k)
    = ∑ j : Fin 2048, dy m c (ix2 r j) * w m c (ix2 k j) := by
  have hp : pt2Of (ix2 r k) = 2 * (2 * ((r : ℕ) / 1024) + (k : ℕ) / 1024) + 1 := by
    show 2 * (2 * ((r : ℕ) / 1024 - 0) + 1 * ((k : ℕ) / 1024 - 0)) + 1 = _
    omega
  have hN : pt2Of (ix2 r k) < cfg0.N := lt_of_lt_of_eq (by rw [hp]; omega) (show cfg0.N = 16 from N_0).symm
  have hl : loc2Of (ix2 r k) = ix2 ⟨(r : ℕ) % 1024, by omega⟩ ⟨(k : ℕ) % 1024, by omega⟩ := by
    rw [eq_ix2 (loc2Of (ix2 r k))]
    rfl
  have h7 : pt2Of (ix2 r k) % 2 = 1 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 4 * 1024 + (r : ℕ) % 1024, by rw [hp]; omega⟩ : Fin 4096) = r := Fin.ext (by simp only [hp]; omega)
  have ek : (⟨pt2Of (ix2 r k) / 2 % 2 * 1024 + (k : ℕ) % 1024, by omega⟩ : Fin 2048) = k := Fin.ext (by simp only [hp]; omega)
  exact Finset.sum_congr rfl fun q _ => congrArg₂ (fun y z => dy m c (ix2 y q) * w m c (ix2 z q)) er ek

theorem result : (G2 m c : FVec Ideal S4096x2048 .f32) = Cert.Reference6Ideal.Read.val_main_v3 (F := Ideal) (w m c) (dy m c) := by
  funext i
  obtain ⟨r, k, rfl⟩ : ∃ r k, i = ix2 r k := ⟨i 0, i 1, eq_ix2 i⟩
  have e : ∑ j : Fin 2048, dy m c (ix2 r j) * w m c (ix2 k j) = Cert.Reference6Ideal.Read.val_main_v3 (F := Ideal) (w m c) (dy m c) (ix2 r k) := by
    rw [Cert.Reference6Ideal.Read.val_main_v3_apply]
    exact Finset.sum_congr rfl fun j _ => congrArg₂ (fun x y : EReal => x * y)
      (congrArg (dy m c) (eq_ix2 (Cert.Reference6Ideal.Read.lidx_main_v3 (ix2 r k) j)).symm)
      (congrArg (w m c) (eq_ix2 (Cert.Reference6Ideal.Read.ridx_main_v3 (ix2 r k) j)).symm)
  exact (G2_at m c r k).trans e

end Cert.Kernel6Ideal.Product

end
-- ==== Proof.Prod7.lean ====
module

public import proofs.«01_k».proof.Proof.Gen.Kernel7Ideal.Value
public import proofs.«01_k».proof.Proof.Gen.Reference7Ideal.Read
public import proofs.«01_k».proof.Proof.Layouts

/-! The gradient of the output projection's weights. -/

set_option maxRecDepth 16384

@[expose] public noncomputable section

open Idealize.ShloMosaic Idealize.ShloMosaic.TcCoe Idealize.SL.Sem

namespace Cert.Kernel7Ideal.Product

open Cert.Kernel7Ideal Cert.Kernel7Ideal.Gen Cert.Kernel7Ideal.Value Cert.Layouts

variable (m : (ℓ : Loc nD τ sig) → Buf (Elt Ideal) ℓ) (c : Dev nD)

abbrev x : FVec Ideal S4096x2048 .f32 := m ((c : Thread nD τ).loc main_arg0)
abbrev dy : FVec Ideal S4096x2048 .f32 := m ((c : Thread nD τ).loc main_arg2)

theorem idx : ∀ t : Fin cfg0.N,
    win0_0.index t = ![t.val % 4, t.val / 8] ∧ win0_1.index t = ![t.val % 4, t.val / 4 % 2] :=
  (by decide +kernel : ∀ t : Fin grid0.N, _)

theorem point_lt (t : Fin cfg0.N) : t.val < 16 := lt_of_lt_of_eq t.isLt (show cfg0.N = 16 from N_0)

theorem view0 (t : Fin cfg0.N) (X : FVec Ideal S4096x2048 .bf16) (d r : Fin 1024) :
    (((cfg0.win 0).blk t).view.read (Elt Ideal) X : FVec Ideal S1024x1024 .bf16) (ix2 d r)
      = X (ix2 ⟨t.val % 4 * 1024 + d, by omega⟩ ⟨t.val / 8 * 1024 + r, by have := point_lt t; omega⟩) := by
  blk_ext [idx t]

theorem view1 (t : Fin cfg0.N) (X : FVec Ideal S4096x2048 .bf16) (d k : Fin 1024) :
    (((cfg0.win 1).blk t).view.read (Elt Ideal) X : FVec Ideal S1024x1024 .bf16) (ix2 d k)
      = X (ix2 ⟨t.val % 4 * 1024 + d, by omega⟩ ⟨t.val / 4 % 2 * 1024 + k, by omega⟩) := by
  blk_ext [idx t]

theorem clear_at (r k : Fin 1024) : k0_pay1 (F := Ideal) (ix2 r k) = 0 := by
  pointwise [k0_pay1]

theorem step_at (x : FVec Ideal S1024x1024 .f32) (a b : FVec Ideal S1024x1024 .bf16) (r k : Fin 1024) :
    k0_pay2 (F := Ideal) x a b (ix2 r k) = x (ix2 r k) + ∑ d : Fin 1024, a (ix2 d r) * b (ix2 d k) := by
  pointwise [k0_pay2]

/-- What is carried from point to point. -/
def acc (n : ℕ) (hn : n < cfg0.N) : FVec Ideal S1024x1024 .f32 := (outsAt0 m c n hn).2

/-- The two operands' blocks at a point. -/
def lhs (t : Fin cfg0.N) (r d : Fin 1024) : EReal := (iblk m c 0 t : FVec Ideal S1024x1024 .bf16) (ix2 d r)
def rhs (t : Fin cfg0.N) (k d : Fin 1024) : EReal := (iblk m c 1 t : FVec Ideal S1024x1024 .bf16) (ix2 d k)

theorem lhs_at (t : Fin cfg0.N) (r d : Fin 1024) : lhs m c t r d
    = x m c (ix2 ⟨t.val % 4 * 1024 + d, by omega⟩ ⟨t.val / 8 * 1024 + r, by have := point_lt t; omega⟩) := by
  unfold lhs iblk
  exact view0 t (V m c main_v0) d r

theorem rhs_at (t : Fin cfg0.N) (k d : Fin 1024) : rhs m c t k d
    = dy m c (ix2 ⟨t.val % 4 * 1024 + d, by omega⟩ ⟨t.val / 4 % 2 * 1024 + k, by omega⟩) := by
  unfold rhs iblk
  exact view1 t (V m c main_v1) d k

theorem acc_first (t : Fin cfg0.N) (h0 : t.val % 4 = 0) (r k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r k : Fin 1024) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = acc m c t.val t.isLt := by
  rw [acc, outsAt0_C m c t (by omega) h1]
  frame_out

theorem at_run (t : Fin cfg0.N) (h1 : t.val % 4 = 3) (r k : Fin 1024) :
    acc m c t.val t.isLt (ix2 r k) = ∑ q : Fin 4096,
      x m c (ix2 q ⟨t.val / 8 * 1024 + r, by have := point_lt t; omega⟩) * dy m c (ix2 q ⟨t.val / 4 % 2 * 1024 + k, by omega⟩) := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 8 = t.val / 8 := by omega
    have e₂ : (4 * (t.val / 4) + s.val) % 4 = s := by omega
    simp only [lhs_at, e₁, e₂]
  · have e₁ : (4 * (t.val / 4) + s.val) / 4 % 2 = t.val / 4 % 2 := by omega
    have e₂ : (4 * (t.val / 4) + s.val) % 4 = s := by omega
    simp only [rhs_at, e₁, e₂]

theorem G2_at (r k : Fin 2048) : (G2 m c : FVec Ideal S2048x2048 .f32) (ix2 r k)
    = ∑ q : Fin 4096, x m c (ix2 q r) * dy m c (ix2 q k) := by
  have hp : pt2Of (ix2 r k) = 4 * (2 * ((r : ℕ) / 1024) + (k : ℕ) / 1024) + 3 := by
    show 4 * (2 * ((r : ℕ) / 1024 - 0) + 1 * ((k : ℕ) / 1024 - 0)) + 3 = _
    omega
  have hN : pt2Of (ix2 r k) < cfg0.N := lt_of_lt_of_eq (by rw [hp]; omega) (show cfg0.N = 16 from N_0).symm
  have hl : loc2Of (ix2 r k) = ix2 ⟨(r : ℕ) % 1024, by omega⟩ ⟨(k : ℕ) % 1024, by omega⟩ := by
    rw [eq_ix2 (loc2Of (ix2 r k))]
    rfl
  have h7 : pt2Of (ix2 r k) % 4 = 3 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 8 * 1024 + (r : ℕ) % 1024, by rw [hp]; omega⟩ : Fin 2048) = r := Fin.ext (by simp only [hp]; omega)
  have ek : (⟨pt2Of (ix2 r k) / 4 % 2 * 1024 + (k : ℕ) % 1024, by omega⟩ : Fin 2048) = k := Fin.ext (by simp only [hp]; omega)
  exact Finset.sum_congr rfl fun q _ => congrArg₂ (fun y z => x m c (ix2 q y) * dy m c (ix2 q z)) er ek

theorem reference_at (r k : Fin 2048) :
    Cert.Reference7Ideal.Read.val_main_v2 (F := Ideal) (x m c) (dy m c) (ix2 r k) = ∑ q : Fin 4096, x m c (ix2 q r) * dy m c (ix2 q k) := by
  rw [Cert.Reference7Ideal.Read.val_main_v2_apply, Cert.Reference7Ideal.Read.val_main_v1_apply]
  refine Finset.sum_congr rfl fun q _ => (mul_comm (G := EReal) _ _).trans (congrArg₂ (fun x y : EReal => x * y) ?_ ?_)
  · exact congrArg (x m c) (eq_ix2 (Cert.Reference7Ideal.Read.ridx_main_v1 (Cert.Reference7Ideal.Read.idx_main_v2 (ix2 r k)) q))
  · exact congrArg (dy m c) (eq_ix2 (Cert.Reference7Ideal.Read.lidx_main_v1 (Cert.Reference7Ideal.Read.idx_main_v2 (ix2 r k)) q))

theorem result : (G2 m c : FVec Ideal S2048x2048 .f32) = Cert.Reference7Ideal.Read.val_main_v2 (F := Ideal) (x m c) (dy m c) := by
  funext i
  obtain ⟨r, k, rfl⟩ : ∃ r k, i = ix2 r k := ⟨i 0, i 1, eq_ix2 i⟩
  exact (G2_at m c r k).trans (reference_at m c r k).symm

end Cert.Kernel7Ideal.Product

end
-- ==== Proof.Prod8.lean ====
module

public import proofs.«01_k».proof.Proof.Gen.Kernel8Ideal.Value
public import proofs.«01_k».proof.Proof.Gen.Reference8Ideal.Read
public import proofs.«01_k».proof.Proof.Layouts

/-! The up projection, with the columns of zeros the version puts in. -/

set_option maxRecDepth 16384

@[expose] public noncomputable section

open Idealize.ShloMosaic Idealize.ShloMosaic.TcCoe Idealize.SL.Sem

namespace Cert.Kernel8Ideal.Product

open Cert.Kernel8Ideal Cert.Kernel8Ideal.Gen Cert.Kernel8Ideal.Value Cert.Layouts

variable (m : (ℓ : Loc nD τ sig) → Buf (Elt Ideal) ℓ) (c : Dev nD)

abbrev x : FVec Ideal S4096x2048 .f32 := m ((c : Thread nD τ).loc main_arg0)
abbrev w : FVec Ideal S2048x11008 .f32 := m ((c : Thread nD τ).loc main_arg1)

theorem right_at (s : Fin 4) (r : Fin 2048) (q : Fin 2816) : (V m c main_v4 : FVec Ideal S4x2048x2816 .bf16) (ix3 s r q)
    = spread 4 (fun k => w m c (ix2 r k)) ⟨s * 2816 + q, by omega⟩ :=
  up (w m c) _ _ pads_S4x2048x2752_S4x2048x2816_000_000_0640 h_S_ s r q

theorem idx : ∀ t : Fin cfg0.N, win0_0.index t = ![t.val / 16, t.val % 2] ∧ win0_1.index t = ![t.val / 2 % 8 / 2, t.val % 2, t.val / 2 % 2] :=
  (by decide +kernel : ∀ t : Fin grid0.N, _)

theorem point_lt (t : Fin cfg0.N) : t.val < 64 := lt_of_lt_of_eq t.isLt (show cfg0.N = 64 from N_0)

theorem view0 (t : Fin cfg0.N) (X : FVec Ideal S4096x2048 .bf16) (r d : Fin 1024) :
    (((cfg0.win 0).blk t).view.read (Elt Ideal) X : FVec Ideal S1024x1024 .bf16) (ix2 r d)
      = X (ix2 ⟨t.val / 16 * 1024 + r, by have := point_lt t; omega⟩ ⟨t.val % 2 * 1024 + d, by omega⟩) := by
  blk_ext [idx t]

theorem view1 (t : Fin cfg0.N) (X : FVec Ideal S4x2048x2816 .bf16) (d : Fin 1024) (k : Fin 1408) :
    (((cfg0.win 1).blk t).view.read (Elt Ideal) X : FVec Ideal S1x1024x1408 .bf16) (ix3 0 d k)
      = X (ix3 ⟨t.val / 2 % 8 / 2, by omega⟩ ⟨t.val % 2 * 1024 + d, by omega⟩ ⟨t.val / 2 % 2 * 1408 + k, by omega⟩) := by
  blk_ext [idx t]

theorem clear_at (r : Fin 1024) (k : Fin 1408) : k0_pay1 (F := Ideal) (ix2 r k) = 0 := by
  pointwise [k0_pay1]

theorem step_at (x : FVec Ideal S1024x1408 .f32) (a : FVec Ideal S1024x1024 .bf16) (b : FVec Ideal S1x1024x1408 .bf16) (r : Fin 1024) (k : Fin 1408) :
    k0_pay2 (F := Ideal) x a b (ix2 r k) = x (ix2 r k) + ∑ d : Fin 1024, a (ix2 r d) * b (ix3 0 d k) := by
  pointwise [k0_pay2]

/-- What is carried from point to point. -/
def acc (n : ℕ) (hn : n < cfg0.N) : FVec Ideal S1024x1408 .f32 := (outsAt0 m c n hn).2

/-- The two operands' blocks at a point. -/
def lhs (t : Fin cfg0.N) (r d : Fin 1024) : EReal := (iblk m c 0 t : FVec Ideal S1024x1024 .bf16) (ix2 r d)
def rhs (t : Fin cfg0.N) (k : Fin 1408) (d : Fin 1024) : EReal := (iblk m c 1 t : FVec Ideal S1x1024x1408 .bf16) (ix3 0 d k)

theorem lhs_at (t : Fin cfg0.N) (r d : Fin 1024) : lhs m c t r d
    = x m c (ix2 ⟨t.val / 16 * 1024 + r, by have := point_lt t; omega⟩ ⟨t.val % 2 * 1024 + d, by omega⟩) := by
  unfold lhs iblk
  exact view0 t (V m c main_v0) r d

theorem rhs_at (t : Fin cfg0.N) (k : Fin 1408) (d : Fin 1024) : rhs m c t k d
    = spread 4 (fun j => w m c (ix2 ⟨t.val % 2 * 1024 + d, by omega⟩ j)) ⟨t.val / 2 % 8 * 1408 + k, by omega⟩ := by
  unfold rhs iblk
  refine (view1 t (V m c main_v4) d k).trans ((right_at m c _ _ _).trans ?_)
  have e : t.val / 2 % 8 / 2 * 2816 + (t.val / 2 % 2 * 1408 + k.val) = t.val / 2 % 8 * 1408 + k := by omega
  simp only [e]

theorem acc_first (t : Fin cfg0.N) (h0 : t.val % 2 = 0) (r : Fin 1024) (k : Fin 1408) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 2 = 0) (r : Fin 1024) (k : Fin 1408) :
    acc m c t.val t.isLt (ix2 r k) = acc m c (t.val - 1) (by omega) (ix2 r k) + ∑ d, lhs m c t r d * rhs m c t k d := by
  rw [acc, outsAt0_B m c t h0 (by omega)]
  frame_out
  rw [step_at]
  exact congrArg (· + _) (congrFun ((Memref.isWhole_whole cc0_scratch0).read_unread _) _)

/-- At the last point of a run what is carried is written out. -/
theorem out_last (t : Fin cfg0.N) (h1 : t.val % 2 = 1) : (outsAt0 m c t.val t.isLt).1 = acc m c t.val t.isLt := by
  rw [acc, outsAt0_B m c t (by omega) h1]
  frame_out

theorem at_run (t : Fin cfg0.N) (h1 : t.val % 2 = 1) (r : Fin 1024) (k : Fin 1408) :
    acc m c t.val t.isLt (ix2 r k) = ∑ q : Fin 2048,
      x m c (ix2 ⟨t.val / 16 * 1024 + r, by have := point_lt t; omega⟩ q) * spread 4 (fun j => w m c (ix2 q j)) ⟨t.val / 2 % 8 * 1408 + k, by omega⟩ := by
  rw [carried_sum (acc m c) (lhs m c) (rhs m c) (acc_first m c) (acc_next m c) t h1 r k]
  refine Fin.sum_mul_add_congr fun s d hl => congrArg₂ (fun x y : EReal => x * y) ?_ ?_
  · have e₁ : (2 * (t.val / 2) + s.val) / 16 = t.val / 16 := by omega
    have e₂ : (2 * (t.val / 2) + s.val) % 2 = s := by omega
    simp only [lhs_at, e₁, e₂]
  · have e₁ : (2 * (t.val / 2) + s.val) / 2 % 8 = t.val / 2 % 8 := by omega
    have e₂ : (2 * (t.val / 2) + s.val) % 2 = s := by omega
    simp only [rhs_at, e₁, e₂]

theorem G2_at (r : Fin 4096) (k : Fin 11264) : (G2 m c : FVec Ideal S4096x11264 .f32) (ix2 r k)
    = ∑ j : Fin 2048, x m c (ix2 r j) * spread 4 (fun l => w m c (ix2 j l)) k := by
  have hp : pt2Of (ix2 r k) = 2 * (8 * ((r : ℕ) / 1024) + (k : ℕ) / 1408) + 1 := by
    show 2 * (8 * ((r : ℕ) / 1024 - 0) + 1 * ((k : ℕ) / 1408 - 0)) + 1 = _
    omega
  have hN : pt2Of (ix2 r k) < cfg0.N := lt_of_lt_of_eq (by rw [hp]; omega) (show cfg0.N = 64 from N_0).symm
  have hl : loc2Of (ix2 r k) = ix2 ⟨(r : ℕ) % 1024, by omega⟩ ⟨(k : ℕ) % 1408, by omega⟩ := by
    rw [eq_ix2 (loc2Of (ix2 r k))]
    rfl
  have h7 : pt2Of (ix2 r k) % 2 = 1 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 16 * 1024 + (r : ℕ) % 1024, by rw [hp]; omega⟩ : Fin 4096) = r := Fin.ext (by simp only [hp]; omega)
  have ek : (⟨pt2Of (ix2 r k) / 2 % 8 * 1408 + (k : ℕ) % 1408, by omega⟩ : Fin 11264) = k := Fin.ext (by simp only [hp]; omega)
  exact Finset.sum_congr rfl fun q _ => congrArg₂ (fun y z => x m c (ix2 y q) * spread 4 (fun l => w m c (ix2 q l)) z) er ek

theorem reference_at (r : Fin 4096) (k : Fin 11008) :
    Cert.Reference8Ideal.Read.val_main_v0 (F := Ideal) (x m c) (w m c) (ix2 r k) = ∑ j : Fin 2048, x m c (ix2 r j) * w m c (ix2 j k) := by
  rw [Cert.Reference8Ideal.Read.val_main_v0_apply]
  exact Finset.sum_congr rfl fun j _ => congrArg₂ (fun x y : EReal => x * y)
    (congrArg (x m c) (eq_ix2 (Cert.Reference8Ideal.Read.lidx_main_v0 (ix2 r k) j)))
    (congrArg (w m c) (eq_ix2 (Cert.Reference8Ideal.Read.ridx_main_v0 (ix2 r k) j)))

theorem result : (G2 m c : FVec Ideal S4096x11264 .f32) = Cert.Reference8Ideal.Read.val_main_v3 (F := Ideal) (x m c) (w m c) := by
  funext i
  obtain ⟨r, k, rfl⟩ : ∃ r k, i = ix2 r k := ⟨i 0, i 1, eq_ix2 i⟩
  have e : ∑ j : Fin 2048, x m c (ix2 r j) * spread 4 (fun l => w m c (ix2 j l)) k
      = Cert.Reference8Ideal.Read.val_main_v3 (F := Ideal) (x m c) (w m c) (ix2 r k) := by
    refine Eq.trans ?_ (cols4 (Cert.Reference8Ideal.Read.val_main_v0 (F := Ideal) (x m c) (w m c)) _
      Cert.Reference8Ideal.Gen.pads_S4096x4x2752_S4096x4x2816_000_000_0640 Cert.Reference8Ideal.Gen.h_S_ _ r k).symm
    simp only [reference_at]
    exact sum_mul_spread 4 (fun j => x m c (ix2 r j)) (fun j l => w m c (ix2 j l)) k
  exact (G2_at m c r k).trans e

end Cert.Kernel8Ideal.Product

end
-- ==== Proof.Prod9.lean ====
module

public import proofs.«01_k».proof.Proof.Gen.Kernel9Ideal.Value
public import proofs.«01_k».proof.Proof.Gen.Reference9Ideal.Read
public import proofs.«01_k».proof.Proof.Layouts

/-! The down projection. -/

set_option maxRecDepth 16384

@[expose] public noncomputable section

open Idealize.ShloMosaic Idealize.ShloMosaic.TcCoe Idealize.SL.Sem

namespace Cert.Kernel9Ideal.Product

open Cert.Kernel9Ideal Cert.Kernel9Ideal.Gen Cert.Kernel9Ideal.Value Cert.Layouts

variable (m : (ℓ : Loc nD τ sig) → Buf (Elt Ideal) ℓ) (c : Dev nD)

abbrev w : FVec Ideal S5504x2048 .f32 := m ((c : Thread nD τ).loc main_arg1)
abbrev x : FVec Ideal S4096x5504 .f32 := m ((c : Thread nD τ).loc main_arg0)

theorem left_at (r : Fin 4096) (q : Fin 5632) : (V m c main_v3 : FVec Ideal S4096x5632 .bf16) (ix2 r q) = spread 2 (fun k => x m c (ix2 r k)) q :=
  cols2 (x m c) _ pads_S4096x2x2752_S4096x2x2816_000_000_0640 h_S_ _ r q

theorem right_at (q : Fin 5632) (j : Fin 2048) : (V m c main_v8 : FVec Ideal S5632x2048 .bf16) (ix2 q j) = spread 2 (fun k => w m c (ix2 k j)) q :=
  rows2_parts (w m c) _ bitsLt_bf16_f32 _ pads_S2x2752x2048_S2x2816x2048_000_0640_000 h_S_ _ q j

theorem idx : ∀ t : Fin cfg0.N,
    win0_0.index t = ![t.val / 22, t.val % 11] ∧ win0_1.index t = ![t.val % 11, t.val / 11 % 2] :=
  (by decide +kernel : ∀ t : Fin grid0.N, _)

theorem point_lt (t : Fin cfg0.N) : t.val < 88 := lt_of_lt_of_eq t.isLt (show cfg0.N = 88 from N_0)

theorem view0 (t : Fin cfg0.N) (X : FVec Ideal S4096x5632 .bf16) (r : Fin 1024) (d : Fin 512) :
    (((cfg0.win 0).blk t).view.read (Elt Ideal) X : FVec Ideal S1024x512 .bf16) (ix2 r d)
      = X (ix2 ⟨t.val / 22 * 1024 + r, by have := point_lt t; omega⟩ ⟨t.val % 11 * 512 + d, by omega⟩) := by
  blk_ext [idx t]

theorem view1 (t : Fin cfg0.N) (X : FVec Ideal S5632x2048 .bf16) (d : Fin 512) (k : Fin 1024) :
    (((cfg0.win 1).blk t).view.read (Elt Ideal) X : FVec Ideal S512x1024 .bf16) (ix2 d k)
      = X (ix2 ⟨t.val % 11 * 512 + d, by omega⟩ ⟨t.val / 11 % 2 * 1024 + k, by omega⟩) := by
  blk_ext [idx t]

theorem clear_at (r k : Fin 1024) : k0_pay1 (F := Ideal) (ix2 r k) = 0 := by
  pointwise [k0_pay1]

theorem step_at (x : FVec Ideal S1024x1024 .f32) (a : FVec Ideal S1024x512 .bf16) (b : FVec Ideal S512x1024 .bf16) (r k : Fin 1024) :
    k0_pay2 (F := Ideal) x a b (ix2 r k) = x (ix2 r k) + ∑ d : Fin 512, a (ix2 r d) * b (ix2 d k) := by
  pointwise [k0_pay2]

/-- What is carried from point to point. -/
def acc (n : ℕ) (hn : n < cfg0.N) : FVec Ideal S1024x1024 .f32 := (outsAt0 m c n hn).2

/-- The two operands' blocks at a point. -/
def lhs (t : Fin cfg0.N) (r : Fin 1024) (d : Fin 512) : EReal := (iblk m c 0 t : FVec Ideal S1024x512 .bf16) (ix2 r d)
def rhs (t : Fin cfg0.N) (k : Fin 1024) (d : Fin 512) : EReal := (iblk m c 1 t : FVec Ideal S512x1024 .bf16) (ix2 d k)

theorem lhs_at (t : Fin cfg0.N) (r : Fin 1024) (d : Fin 512) : lhs m c t r d
    = spread 2 (fun j => x m c (ix2 ⟨t.val / 22 * 1024 + r, by have := point_lt t; omega⟩ j)) ⟨t.val % 11 * 512 + d, by omega⟩ := by
  unfold lhs iblk
  exact (view0 t (V m c main_v3) r d).trans (left_at m c _ _)

theorem rhs_at (t : Fin cfg0.N) (k : Fin 1024) (d : Fin 512) : rhs m c t k d
    = spread 2 (fun j => w m c (ix2 j ⟨t.val / 11 % 2 * 1024 + k, by omega⟩)) ⟨t.val % 11 * 512 + d, by omega⟩ := by
  unfold rhs iblk
  exact (view1 t (V m c main_v8) d k).trans (right_at m c _ _)

theorem acc_first (t : Fin cfg0.N) (h0 : t.val % 11 = 0) (r k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 11 = 0) (r k : Fin 1024) :
    acc m c t.val t.isLt (ix2 r k) = acc m c (t.val - 1) (by omega) (ix2 r k) + ∑ d, lhs m c t r d * rhs m c t k d := by
  rw [acc]
  by_cases h1 : t.val % 11 = 10
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 11 = 10) : (outsAt0 m c t.val t.isLt).1 = acc m c t.val t.isLt := by
  rw [acc, outsAt0_C m c t (by omega) h1]
  frame_out

theorem at_run (t : Fin cfg0.N) (h1 : t.val % 11 = 10) (r k : Fin 1024) :
    acc m c t.val t.isLt (ix2 r k) = ∑ q : Fin 5632,
      spread 2 (fun j => x m c (ix2 ⟨t.val / 22 * 1024 + r, by have := point_lt t; omega⟩ j)) q
        * spread 2 (fun j => w m c (ix2 j ⟨t.val / 11 % 2 * 1024 + k, by omega⟩)) q := by
  rw [carried_sum (acc m c) (lhs m c) (rhs m c) (acc_first m c) (acc_next m c) t h1 r k]
  refine Fin.sum_mul_add_congr fun s d hl => congrArg₂ (fun x y : EReal => x * y) ?_ ?_
  · have e₁ : (11 * (t.val / 11) + s.val) / 22 = t.val / 22 := by omega
    have e₂ : (11 * (t.val / 11) + s.val) % 11 = s := by omega
    simp only [lhs_at, e₁, e₂]
  · have e₁ : (11 * (t.val / 11) + s.val) / 11 % 2 = t.val / 11 % 2 := by omega
    have e₂ : (11 * (t.val / 11) + s.val) % 11 = s := by omega
    simp only [rhs_at, e₁, e₂]

theorem G2_at (r : Fin 4096) (k : Fin 2048) : (G2 m c : FVec Ideal S4096x2048 .f32) (ix2 r k)
    = ∑ j : Fin 5504, x m c (ix2 r j) * w m c (ix2 j k) := by
  have hp : pt2Of (ix2 r k) = 11 * (2 * ((r : ℕ) / 1024) + (k : ℕ) / 1024) + 10 := by
    show 11 * (2 * ((r : ℕ) / 1024 - 0) + 1 * ((k : ℕ) / 1024 - 0)) + 10 = _
    omega
  have hN : pt2Of (ix2 r k) < cfg0.N := lt_of_lt_of_eq (by rw [hp]; omega) (show cfg0.N = 88 from N_0).symm
  have hl : loc2Of (ix2 r k) = ix2 ⟨(r : ℕ) % 1024, by omega⟩ ⟨(k : ℕ) % 1024, by omega⟩ := by
    rw [eq_ix2 (loc2Of (ix2 r k))]
    rfl
  have h7 : pt2Of (ix2 r k) % 11 = 10 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 22 * 1024 + (r : ℕ) % 1024, by rw [hp]; omega⟩ : Fin 4096) = r := Fin.ext (by simp only [hp]; omega)
  have ek : (⟨pt2Of (ix2 r k) / 11 % 2 * 1024 + (k : ℕ) % 1024, by omega⟩ : Fin 2048) = k := Fin.ext (by simp only [hp]; omega)
  refine Eq.trans ?_ (sum_spread 2 (fun j => x m c (ix2 r j)) (fun j => w m c (ix2 j k)))
  exact Finset.sum_congr rfl fun q _ => congrArg₂ (fun p y => spread 2 (fun j => x m c (ix2 p j)) q * spread 2 (fun j => w m c (ix2 j y)) q) er ek

theorem result : (G2 m c : FVec Ideal S4096x2048 .f32) = Cert.Reference9Ideal.Read.val_main_v0 (F := Ideal) (x m c) (w m c) := by
  funext i
  obtain ⟨r, k, rfl⟩ : ∃ r k, i = ix2 r k := ⟨i 0, i 1, eq_ix2 i⟩
  have e : ∑ j : Fin 5504, x m c (ix2 r j) * w m c (ix2 j k) = Cert.Reference9Ideal.Read.val_main_v0 (F := Ideal) (x m c) (w m c) (ix2 r k) := by
    rw [Cert.Reference9Ideal.Read.val_main_v0_apply]
    exact Finset.sum_congr rfl fun j _ => congrArg₂ (fun x y : EReal => x * y)
      (congrArg (x m c) (eq_ix2 (Cert.Reference9Ideal.Read.lidx_main_v0 (ix2 r k) j)).symm)
      (congrArg (w m c) (eq_ix2 (Cert.Reference9Ideal.Read.ridx_main_v0 (ix2 r k) j)).symm)
  exact (G2_at m c r k).trans e

end Cert.Kernel9Ideal.Product

end
-- ==== Proof.Prod10.lean ====
module

public import proofs.«01_k».proof.Proof.Gen.Kernel10Ideal.Value
public import proofs.«01_k».proof.Proof.Gen.Reference10Ideal.Read
public import proofs.«01_k».proof.Proof.Layouts

/-! The output projection. -/

set_option maxRecDepth 16384

@[expose] public noncomputable section

open Idealize.ShloMosaic Idealize.ShloMosaic.TcCoe Idealize.SL.Sem

namespace Cert.Kernel10Ideal.Product

open Cert.Kernel10Ideal Cert.Kernel10Ideal.Gen Cert.Kernel10Ideal.Value Cert.Layouts

variable (m : (ℓ : Loc nD τ sig) → Buf (Elt Ideal) ℓ) (c : Dev nD)

abbrev x : FVec Ideal S4096x2048 .f32 := m ((c : Thread nD τ).loc main_arg0)
abbrev w : FVec Ideal S2048x2048 .f32 := m ((c : Thread nD τ).loc main_arg1)

theorem idx : ∀ t : Fin cfg0.N, win0_0.index t = ![t.val / 4, t.val % 2] ∧ win0_1.index t = ![t.val % 2, t.val / 2 % 2] :=
  (by decide +kernel : ∀ t : Fin grid0.N, _)

theorem point_lt (t : Fin cfg0.N) : t.val < 16 := lt_of_lt_of_eq t.isLt (show cfg0.N = 16 from N_0)

theorem view0 (t : Fin cfg0.N) (X : FVec Ideal S4096x2048 .bf16) (r d : Fin 1024) :
    (((cfg0.win 0).blk t).view.read (Elt Ideal) X : FVec Ideal S1024x1024 .bf16) (ix2 r d)
      = X (ix2 ⟨t.val / 4 * 1024 + r, by have := point_lt t; omega⟩ ⟨t.val % 2 * 1024 + d, by omega⟩) := by
  blk_ext [idx t]

theorem view1 (t : Fin cfg0.N) (X : FVec Ideal S2048x2048 .bf16) (d k : Fin 1024) :
    (((cfg0.win 1).blk t).view.read (Elt Ideal) X : FVec Ideal S1024x1024 .bf16) (ix2 d k)
      = X (ix2 ⟨t.val % 2 * 1024 + d, by omega⟩ ⟨t.val / 2 % 2 * 1024 + k, by omega⟩) := by
  blk_ext [idx t]

theorem clear_at (r k : Fin 1024) : k0_pay1 (F := Ideal) (ix2 r k) = 0 := by
  pointwise [k0_pay1]

theorem step_at (x : FVec Ideal S1024x1024 .f32) (a b : FVec Ideal S1024x1024 .bf16) (r k : Fin 1024) :
    k0_pay2 (F := Ideal) x a b (ix2 r k) = x (ix2 r k) + ∑ d : Fin 1024, a (ix2 r d) * b (ix2 d k) := by
  pointwise [k0_pay2]

/-- What is carried from point to point. -/
def acc (n : ℕ) (hn : n < cfg0.N) : FVec Ideal S1024x1024 .f32 := (outsAt0 m c n hn).2

/-- The two operands' blocks at a point. -/
def lhs (t : Fin cfg0.N) (r d : Fin 1024) : EReal := (iblk m c 0 t : FVec Ideal S1024x1024 .bf16) (ix2 r d)
def rhs (t : Fin cfg0.N) (k d : Fin 1024) : EReal := (iblk m c 1 t : FVec Ideal S1024x1024 .bf16) (ix2 d k)

theorem lhs_at (t : Fin cfg0.N) (r d : Fin 1024) : lhs m c t r d
    = x m c (ix2 ⟨t.val / 4 * 1024 + r, by have := point_lt t; omega⟩ ⟨t.val % 2 * 1024 + d, by omega⟩) := by
  unfold lhs iblk
  exact view0 t (V m c main_v0) r d

theorem rhs_at (t : Fin cfg0.N) (k d : Fin 1024) : rhs m c t k d
    = w m c (ix2 ⟨t.val % 2 * 1024 + d, by omega⟩ ⟨t.val / 2 % 2 * 1024 + k, by omega⟩) := by
  unfold rhs iblk
  exact view1 t (V m c main_v1) d k

theorem acc_first (t : Fin cfg0.N) (h0 : t.val % 2 = 0) (r k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 2 = 0) (r k : Fin 1024) :
    acc m c t.val t.isLt (ix2 r k) = acc m c (t.val - 1) (by omega) (ix2 r k) + ∑ d, lhs m c t r d * rhs m c t k d := by
  rw [acc, outsAt0_B m c t h0 (by omega)]
  frame_out
  rw [step_at]
  exact congrArg (· + _) (congrFun ((Memref.isWhole_whole cc0_scratch0).read_unread _) _)

/-- At the last point of a run what is carried is written out. -/
theorem out_last (t : Fin cfg0.N) (h1 : t.val % 2 = 1) : (outsAt0 m c t.val t.isLt).1 = acc m c t.val t.isLt := by
  rw [acc, outsAt0_B m c t (by omega) h1]
  frame_out

theorem at_run (t : Fin cfg0.N) (h1 : t.val % 2 = 1) (r k : Fin 1024) :
    acc m c t.val t.isLt (ix2 r k) = ∑ q : Fin 2048,
      x m c (ix2 ⟨t.val / 4 * 1024 + r, by have := point_lt t; omega⟩ q) * w m c (ix2 q ⟨t.val / 2 % 2 * 1024 + k, by omega⟩) := by
  rw [carried_sum (acc m c) (lhs m c) (rhs m c) (acc_first m c) (acc_next m c) t h1 r k]
  refine Fin.sum_mul_add_congr fun s d hl => congrArg₂ (fun x y : EReal => x * y) ?_ ?_
  · have e₁ : (2 * (t.val / 2) + s.val) / 4 = t.val / 4 := by omega
    have e₂ : (2 * (t.val / 2) + s.val) % 2 = s := by omega
    simp only [lhs_at, e₁, e₂]
  · have e₁ : (2 * (t.val / 2) + s.val) / 2 % 2 = t.val / 2 % 2 := by omega
    have e₂ : (2 * (t.val / 2) + s.val) % 2 = s := by omega
    simp only [rhs_at, e₁, e₂]

theorem G2_at (r : Fin 4096) (k : Fin 2048) : (G2 m c : FVec Ideal S4096x2048 .f32) (ix2 r k)
    = ∑ j : Fin 2048, x m c (ix2 r j) * w m c (ix2 j k) := by
  have hp : pt2Of (ix2 r k) = 2 * (2 * ((r : ℕ) / 1024) + (k : ℕ) / 1024) + 1 := by
    show 2 * (2 * ((r : ℕ) / 1024 - 0) + 1 * ((k : ℕ) / 1024 - 0)) + 1 = _
    omega
  have hN : pt2Of (ix2 r k) < cfg0.N := lt_of_lt_of_eq (by rw [hp]; omega) (show cfg0.N = 16 from N_0).symm
  have hl : loc2Of (ix2 r k) = ix2 ⟨(r : ℕ) % 1024, by omega⟩ ⟨(k : ℕ) % 1024, by omega⟩ := by
    rw [eq_ix2 (loc2Of (ix2 r k))]
    rfl
  have h7 : pt2Of (ix2 r k) % 2 = 1 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 4 * 1024 + (r : ℕ) % 1024, by rw [hp]; omega⟩ : Fin 4096) = r := Fin.ext (by simp only [hp]; omega)
  have ek : (⟨pt2Of (ix2 r k) / 2 % 2 * 1024 + (k : ℕ) % 1024, by omega⟩ : Fin 2048) = k := Fin.ext (by simp only [hp]; omega)
  exact Finset.sum_congr rfl fun q _ => congrArg₂ (fun y z => x m c (ix2 y q) * w m c (ix2 q z)) er ek

theorem result : (G2 m c : FVec Ideal S4096x2048 .f32) = Cert.Reference10Ideal.Read.val_main_v0 (F := Ideal) (x m c) (w m c) := by
  funext i
  obtain ⟨r, k, rfl⟩ : ∃ r k, i = ix2 r k := ⟨i 0, i 1, eq_ix2 i⟩
  have e : ∑ j : Fin 2048, x m c (ix2 r j) * w m c (ix2 j k) = Cert.Reference10Ideal.Read.val_main_v0 (F := Ideal) (x m c) (w m c) (ix2 r k) := by
    rw [Cert.Reference10Ideal.Read.val_main_v0_apply]
    exact Finset.sum_congr rfl fun j _ => congrArg₂ (fun x y : EReal => x * y)
      (congrArg (x m c) (eq_ix2 (Cert.Reference10Ideal.Read.lidx_main_v0 (ix2 r k) j)).symm)
      (congrArg (w m c) (eq_ix2 (Cert.Reference10Ideal.Read.ridx_main_v0 (ix2 r k) j)).symm)
  exact (G2_at m c r k).trans e

end Cert.Kernel10Ideal.Product

end
-- ==== Proof.Products.lean ====
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import Idealize.ShloMosaic.Adequacy
public import Idealize.ShloMosaic.Init
public import Idealize.ShloMosaic.Lib.Claim

/-! Each product beside its reference, and the frames of the references. -/

set_option maxRecDepth 16384

@[expose] public noncomputable section

namespace Cert.Products

open Idealize.ShloMosaic Idealize.ShloMosaic.TcCoe Idealize.SL.Sem

theorem algebraic2 : @Cert.algebraic_Kernel2Ideal_Reference2Ideal Cert.Kernel2Ideal.Gen.facts Cert.Reference2Ideal.Gen.facts := by
  pair_intro
  · run_from Cert.Kernel2Ideal.Value.run m g
  · run_from Cert.Reference2Ideal.Value.run m' g'
    exact (Cert.Reference2Ideal.Read.val_main_v3_eq _ _).trans (Cert.Kernel2Ideal.Product.result m c).symm

theorem frame2 : @Cert.quiescent_Reference2Ideal Cert.Reference2Ideal.Gen.facts := by
  intro m g _
  exact (θ_run _ _ _).mono (fun r h => ⟨fun c => (h c).2, funext fun s => nomatch s⟩) (Cert.Reference2Ideal.Value.run m g)

theorem algebraic3 : @Cert.algebraic_Kernel3Ideal_Reference3Ideal Cert.Kernel3Ideal.Gen.facts Cert.Reference3Ideal.Gen.facts := by
  pair_intro
  · run_from Cert.Kernel3Ideal.Value.run_blocks m g
  · run_from Cert.Reference3Ideal.Value.run m' g'
    exact (Cert.Reference3Ideal.Read.val_main_v6_eq _ _).trans (Cert.Kernel3Ideal.Product.result m c).symm

theorem frame3 : @Cert.quiescent_Reference3Ideal Cert.Reference3Ideal.Gen.facts := by
  intro m g _
  exact (θ_run _ _ _).mono (fun r h => ⟨fun c => (h c).2, funext fun s => nomatch s⟩) (Cert.Reference3Ideal.Value.run m g)

theorem algebraic4 : @Cert.algebraic_Kernel4Ideal_Reference4Ideal Cert.Kernel4Ideal.Gen.facts Cert.Reference4Ideal.Gen.facts := by
  pair_intro
  · run_from Cert.Kernel4Ideal.Value.run m g
  · run_from Cert.Reference4Ideal.Value.run m' g'
    exact (Cert.Reference4Ideal.Read.val_main_v6_eq _ _).trans (Cert.Kernel4Ideal.Product.result m c).symm

theorem frame4 : @Cert.quiescent_Reference4Ideal Cert.Reference4Ideal.Gen.facts := by
  intro m g _
  exact (θ_run _ _ _).mono (fun r h => ⟨fun c => (h c).2, funext fun s => nomatch s⟩) (Cert.Reference4Ideal.Value.run m g)

theorem algebraic5 : @Cert.algebraic_Kernel5Ideal_Reference5Ideal Cert.Kernel5Ideal.Gen.facts Cert.Reference5Ideal.Gen.facts := by
  pair_intro
  · run_from Cert.Kernel5Ideal.Value.run m g
  · run_from Cert.Reference5Ideal.Value.run m' g'
    exact (Cert.Reference5Ideal.Read.val_main_v6_eq _ _).trans (Cert.Kernel5Ideal.Product.result m c).symm

theorem frame5 : @Cert.quiescent_Reference5Ideal Cert.Reference5Ideal.Gen.facts := by
  intro m g _
  exact (θ_run _ _ _).mono (fun r h => ⟨fun c => (h c).2, funext fun s => nomatch s⟩) (Cert.Reference5Ideal.Value.run m g)

theorem algebraic6 : @Cert.algebraic_Kernel6Ideal_Reference6Ideal Cert.Kernel6Ideal.Gen.facts Cert.Reference6Ideal.Gen.facts := by
  pair_intro
  · run_from Cert.Kernel6Ideal.Value.run m g
  · run_from Cert.Reference6Ideal.Value.run m' g'
    exact (Cert.Reference6Ideal.Read.val_main_v3_eq _ _).trans (Cert.Kernel6Ideal.Product.result m c).symm

theorem frame6 : @Cert.quiescent_Reference6Ideal Cert.Reference6Ideal.Gen.facts := by
  intro m g _
  exact (θ_run _ _ _).mono (fun r h => ⟨fun c => (h c).2, funext fun s => nomatch s⟩) (Cert.Reference6Ideal.Value.run m g)

theorem algebraic7 : @Cert.algebraic_Kernel7Ideal_Reference7Ideal Cert.Kernel7Ideal.Gen.facts Cert.Reference7Ideal.Gen.facts := by
  pair_intro
  · run_from Cert.Kernel7Ideal.Value.run m g
  · run_from Cert.Reference7Ideal.Value.run m' g'
    exact (Cert.Reference7Ideal.Read.val_main_v2_eq _ _).trans (Cert.Kernel7Ideal.Product.result m c).symm

theorem frame7 : @Cert.quiescent_Reference7Ideal Cert.Reference7Ideal.Gen.facts := by
  intro m g _
  exact (θ_run _ _ _).mono (fun r h => ⟨fun c => (h c).2, funext fun s => nomatch s⟩) (Cert.Reference7Ideal.Value.run m g)

theorem algebraic8 : @Cert.algebraic_Kernel8Ideal_Reference8Ideal Cert.Kernel8Ideal.Gen.facts Cert.Reference8Ideal.Gen.facts := by
  pair_intro
  · run_from Cert.Kernel8Ideal.Value.run m g
  · run_from Cert.Reference8Ideal.Value.run m' g'
    exact (Cert.Reference8Ideal.Read.val_main_v3_eq _ _).trans (Cert.Kernel8Ideal.Product.result m c).symm

theorem frame8 : @Cert.quiescent_Reference8Ideal Cert.Reference8Ideal.Gen.facts := by
  intro m g _
  exact (θ_run _ _ _).mono (fun r h => ⟨fun c => (h c).2, funext fun s => nomatch s⟩) (Cert.Reference8Ideal.Value.run m g)

theorem algebraic9 : @Cert.algebraic_Kernel9Ideal_Reference9Ideal Cert.Kernel9Ideal.Gen.facts Cert.Reference9Ideal.Gen.facts := by
  pair_intro
  · run_from Cert.Kernel9Ideal.Value.run m g
  · run_from Cert.Reference9Ideal.Value.run m' g'
    exact (Cert.Reference9Ideal.Read.val_main_v0_eq _ _).trans (Cert.Kernel9Ideal.Product.result m c).symm

theorem frame9 : @Cert.quiescent_Reference9Ideal Cert.Reference9Ideal.Gen.facts := by
  intro m g _
  exact (θ_run _ _ _).mono (fun r h => ⟨fun c => (h c).2, funext fun s => nomatch s⟩) (Cert.Reference9Ideal.Value.run m g)

theorem algebraic10 : @Cert.algebraic_Kernel10Ideal_Reference10Ideal Cert.Kernel10Ideal.Gen.facts Cert.Reference10Ideal.Gen.facts := by
  pair_intro
  · run_from Cert.Kernel10Ideal.Value.run m g
  · run_from Cert.Reference10Ideal.Value.run m' g'
    exact (Cert.Reference10Ideal.Read.val_main_v0_eq _ _).trans (Cert.Kernel10Ideal.Product.result m c).symm

theorem frame10 : @Cert.quiescent_Reference10Ideal Cert.Reference10Ideal.Gen.facts := by
  intro m g _
  exact (θ_run _ _ _).mono (fun r h => ⟨fun c => (h c).2, funext fun s => nomatch s⟩) (Cert.Reference10Ideal.Value.run m g)

end Cert.Products

end
-- ==== Proof.InProj.lean ====
module

public import proofs.«01_k».proof.Proof.Layouts
public import proofs.«01_k».proof.Proof.RealMath

/-! The input projection's columns in the version's order, and the way back: a projection of rearranged weights
    is the rearranged projection, and a cotangent comes back through the rearrangement. -/

set_option maxRecDepth 16384

@[expose] public noncomputable section

open Idealize.ShloMosaic Idealize.ShloMosaic.TcCoe Idealize.SL.Sem

namespace Cert.InProj

/-- The columns in the version's order: the first two parts; the recurrence's four; the keys' latent part and the
    rotated key; the rotated key's second half negated, its first half; zeros. -/
def arrange (f : Fin 3392 → EReal) (q : Fin 3584) : EReal :=
  if h₁ : (q : ℕ) < 1024 then f ⟨q, by omega⟩
  else if h₂ : (q : ℕ) < 3072 then f ⟨q + 320, by omega⟩
  else if h₃ : (q : ℕ) < 3392 then f ⟨q - 2048, by omega⟩
  else if h₄ : (q : ℕ) < 3424 then -f ⟨q - 2080, by omega⟩
  else if h₅ : (q : ℕ) < 3456 then f ⟨q - 2144, by omega⟩
  else 0

set_option maxHeartbeats 2000000 in
theorem weights_at (x : FVec Ideal ⟨2, ![2048, 3392]⟩ .f32) (h₁ h₂ h₃ h₄ h₅ h₆ h₇ h₈ h₉ h₁₀ h₁₁ h₁₂ h₁₃ h₁₄) (d : Fin 2048) (q : Fin 3584) :
    (truncf .bf16 (concatenate ⟨2, ![2048, 3584]⟩ 1 [
      ⟨⟨2, ![2048, 512]⟩, (extractStridedSlice ⟨2, ![2048, 512]⟩ ![0, 0] x h₁ : FVec Ideal ⟨2, ![2048, 512]⟩ .f32)⟩,
      ⟨⟨2, ![2048, 512]⟩, (extractStridedSlice ⟨2, ![2048, 512]⟩ ![0, 512] x h₂ : FVec Ideal ⟨2, ![2048, 512]⟩ .f32)⟩,
      ⟨⟨2, ![2048, 512]⟩, (extractStridedSlice ⟨2, ![2048, 512]⟩ ![0, 1344] x h₃ : FVec Ideal ⟨2, ![2048, 512]⟩ .f32)⟩,
      ⟨⟨2, ![2048, 512]⟩, (extractStridedSlice ⟨2, ![2048, 512]⟩ ![0, 1856] x h₄ : FVec Ideal ⟨2, ![2048, 512]⟩ .f32)⟩,
      ⟨⟨2, ![2048, 512]⟩, (extractStridedSlice ⟨2, ![2048, 512]⟩ ![0, 2368] x h₅ : FVec Ideal ⟨2, ![2048, 512]⟩ .f32)⟩,
      ⟨⟨2, ![2048, 512]⟩, (extractStridedSlice ⟨2, ![2048, 512]⟩ ![0, 2880] x h₆ : FVec Ideal ⟨2, ![2048, 512]⟩ .f32)⟩,
      ⟨⟨2, ![2048, 256]⟩, (extractStridedSlice ⟨2, ![2048, 256]⟩ ![0, 1024] x h₇ : FVec Ideal ⟨2, ![2048, 256]⟩ .f32)⟩,
      ⟨⟨2, ![2048, 64]⟩, (extractStridedSlice ⟨2, ![2048, 64]⟩ ![0, 1280] x h₈ : FVec Ideal ⟨2, ![2048, 64]⟩ .f32)⟩,
      ⟨⟨2, ![2048, 64]⟩, (concatenate ⟨2, ![2048, 64]⟩ 1 [
        ⟨⟨2, ![2048, 32]⟩, (Host.negf (extractStridedSlice ⟨2, ![2048, 32]⟩ ![0, 32] (extractStridedSlice ⟨2, ![2048, 64]⟩ ![0, 1280] x h₈) h₉) : FVec Ideal ⟨2, ![2048, 32]⟩ .f32)⟩,
        ⟨⟨2, ![2048, 32]⟩, (extractStridedSlice ⟨2, ![2048, 32]⟩ ![0, 0] (extractStridedSlice ⟨2, ![2048, 64]⟩ ![0, 1280] x h₈) h₁₀ : FVec Ideal ⟨2, ![2048, 32]⟩ .f32)⟩] h₁₁ : FVec Ideal ⟨2, ![2048, 64]⟩ .f32)⟩,
      ⟨⟨2, ![2048, 128]⟩, (broadcastInDim ⟨2, ![2048, 128]⟩ ![] h₁₂ (constant ⟨0, ![]⟩ .f32 0x00000000#32 : FVec Ideal ⟨0, ![]⟩ .f32) : FVec Ideal ⟨2, ![2048, 128]⟩ .f32)⟩] h₁₃ : FVec Ideal ⟨2, ![2048, 3584]⟩ .f32) h₁₄ : FVec Ideal ⟨2, ![2048, 3584]⟩ .bf16) (ix2 d q)
      = arrange (fun j => x (ix2 d j)) q := by
  pointwise []
  by_cases c0 : (q : ℕ) < 512
  · rw [dif_pos (by omega : (q : ℕ) < 512), arrange, dif_pos (by omega : (q : ℕ) < 1024)]
  rw [dif_neg (by omega : ¬(q : ℕ) < 512)]
  by_cases c1 : (q : ℕ) < 1024
  · rw [dif_pos (by omega : (q : ℕ) - 512 < 512), arrange, dif_pos (by omega : (q : ℕ) < 1024)]
    exact congrArg x (congrArg (ix2 d) (Fin.ext (by dsimp only <;> omega)))
  rw [dif_neg (by omega : ¬(q : ℕ) - 512 < 512)]
  by_cases c2 : (q : ℕ) < 1536
  · rw [dif_pos (by omega : (q : ℕ) - 512 - 512 < 512), arrange, dif_neg (by omega : ¬(q : ℕ) < 1024), dif_pos (by omega : (q : ℕ) < 3072)]
    exact congrArg x (congrArg (ix2 d) (Fin.ext (by dsimp only <;> omega)))
  rw [dif_neg (by omega : ¬(q : ℕ) - 512 - 512 < 512)]
  by_cases c3 : (q : ℕ) < 2048
  · rw [dif_pos (by omega : (q : ℕ) - 512 - 512 - 512 < 512), arrange, dif_neg (by omega : ¬(q : ℕ) < 1024), dif_pos (by omega : (q : ℕ) < 3072)]
    exact congrArg x (congrArg (ix2 d) (Fin.ext (by dsimp only <;> omega)))
  rw [dif_neg (by omega : ¬(q : ℕ) - 512 - 512 - 512 < 512)]
  by_cases c4 : (q : ℕ) < 2560
  · rw [dif_pos (by omega : (q : ℕ) - 512 - 512 - 512 - 512 < 512), arrange, dif_neg (by omega : ¬(q : ℕ) < 1024), dif_pos (by omega : (q : ℕ) < 3072)]
    exact congrArg x (congrArg (ix2 d) (Fin.ext (by dsimp only <;> omega)))
  rw [dif_neg (by omega : ¬(q : ℕ) - 512 - 512 - 512 - 512 < 512)]
  by_cases c5 : (q : ℕ) < 3072
  · rw [dif_pos (by omega : (q : ℕ) - 512 - 512 - 512 - 512 - 512 < 512), arrange, dif_neg (by omega : ¬(q : ℕ) < 1024), dif_pos (by omega : (q : ℕ) < 3072)]
    exact congrArg x (congrArg (ix2 d) (Fin.ext (by dsimp only <;> omega)))
  rw [dif_neg (by omega : ¬(q : ℕ) - 512 - 512 - 512 - 512 - 512 < 512)]
  by_cases c6 : (q : ℕ) < 3328
  · rw [dif_pos (by omega : (q : ℕ) - 512 - 512 - 512 - 512 - 512 - 512 < 256), arrange, dif_neg (by omega : ¬(q : ℕ) < 1024), dif_neg (by omega : ¬(q : ℕ) < 3072), dif_pos (by omega : (q : ℕ) < 3392)]
    exact congrArg x (congrArg (ix2 d) (Fin.ext (by dsimp only <;> omega)))
  rw [dif_neg (by omega : ¬(q : ℕ) - 512 - 512 - 512 - 512 - 512 - 512 < 256)]
  by_cases c7 : (q : ℕ) < 3392
  · rw [dif_pos (by omega : (q : ℕ) - 512 - 512 - 512 - 512 - 512 - 512 - 256 < 64), arrange, dif_neg (by omega : ¬(q : ℕ) < 1024), dif_neg (by omega : ¬(q : ℕ) < 3072), dif_pos (by omega : (q : ℕ) < 3392)]
    exact congrArg x (congrArg (ix2 d) (Fin.ext (by dsimp only <;> omega)))
  rw [dif_neg (by omega : ¬(q : ℕ) - 512 - 512 - 512 - 512 - 512 - 512 - 256 < 64)]
  by_cases c8 : (q : ℕ) < 3424
  · rw [dif_pos (by omega : (q : ℕ) - 512 - 512 - 512 - 512 - 512 - 512 - 256 - 64 < 64), dif_pos (by omega : (q : ℕ) - 512 - 512 - 512 - 512 - 512 - 512 - 256 - 64 < 32), arrange, dif_neg (by omega : ¬(q : ℕ) < 1024), dif_neg (by omega : ¬(q : ℕ) < 3072), dif_neg (by omega : ¬(q : ℕ) < 3392), dif_pos (by omega : (q : ℕ) < 3424)]
    exact congrArg Neg.neg (congrArg x (congrArg (ix2 d) (Fin.ext (by dsimp only <;> omega))))
  by_cases c9 : (q : ℕ) < 3456
  · rw [dif_pos (by omega : (q : ℕ) - 512 - 512 - 512 - 512 - 512 - 512 - 256 - 64 < 64), dif_neg (by omega : ¬(q : ℕ) - 512 - 512 - 512 - 512 - 512 - 512 - 256 - 64 < 32), arrange, dif_neg (by omega : ¬(q : ℕ) < 1024), dif_neg (by omega : ¬(q : ℕ) < 3072), dif_neg (by omega : ¬(q : ℕ) < 3392), dif_neg (by omega : ¬(q : ℕ) < 3424), dif_pos (by omega : (q : ℕ) < 3456)]
    exact congrArg x (congrArg (ix2 d) (Fin.ext (by dsimp only <;> omega)))
  rw [dif_neg (by omega : ¬(q : ℕ) - 512 - 512 - 512 - 512 - 512 - 512 - 256 - 64 < 64), arrange, dif_neg (by omega : ¬(q : ℕ) < 1024), dif_neg (by omega : ¬(q : ℕ) < 3072), dif_neg (by omega : ¬(q : ℕ) < 3392), dif_neg (by omega : ¬(q : ℕ) < 3424), dif_neg (by omega : ¬(q : ℕ) < 3456)]

theorem parts_at (x : FVec Ideal ⟨2, ![4096, 3392]⟩ .f32) (h₁ h₂ h₃ h₄ h₅ h₆ h₇ h₈ h₉) (d : Fin 4096) (q : Fin 3584) :
    (concatenate ⟨2, ![4096, 3584]⟩ 1 [
      ⟨⟨2, ![4096, 512]⟩, (extractStridedSlice ⟨2, ![4096, 512]⟩ ![0, 0] x h₁ : FVec Ideal ⟨2, ![4096, 512]⟩ .f32)⟩,
      ⟨⟨2, ![4096, 512]⟩, (extractStridedSlice ⟨2, ![4096, 512]⟩ ![0, 512] x h₂ : FVec Ideal ⟨2, ![4096, 512]⟩ .f32)⟩,
      ⟨⟨2, ![4096, 2048]⟩, (extractStridedSlice ⟨2, ![4096, 2048]⟩ ![0, 1344] x h₃ : FVec Ideal ⟨2, ![4096, 2048]⟩ .f32)⟩,
      ⟨⟨2, ![4096, 256]⟩, (extractStridedSlice ⟨2, ![4096, 256]⟩ ![0, 1024] x h₄ : FVec Ideal ⟨2, ![4096, 256]⟩ .f32)⟩,
      ⟨⟨2, ![4096, 64]⟩, (extractStridedSlice ⟨2, ![4096, 64]⟩ ![0, 1280] x h₅ : FVec Ideal ⟨2, ![4096, 64]⟩ .f32)⟩,
      ⟨⟨2, ![4096, 32]⟩, (Host.negf (extractStridedSlice ⟨2, ![4096, 32]⟩ ![0, 32] (extractStridedSlice ⟨2, ![4096, 64]⟩ ![0, 1280] x h₅) h₆) : FVec Ideal ⟨2, ![4096, 32]⟩ .f32)⟩,
      ⟨⟨2, ![4096, 32]⟩, (extractStridedSlice ⟨2, ![4096, 32]⟩ ![0, 0] (extractStridedSlice ⟨2, ![4096, 64]⟩ ![0, 1280] x h₅) h₇ : FVec Ideal ⟨2, ![4096, 32]⟩ .f32)⟩,
      ⟨⟨2, ![4096, 128]⟩, (broadcastInDim ⟨2, ![4096, 128]⟩ ![] h₈ (constant ⟨0, ![]⟩ .f32 0x00000000#32 : FVec Ideal ⟨0, ![]⟩ .f32) : FVec Ideal ⟨2, ![4096, 128]⟩ .f32)⟩] h₉ : FVec Ideal ⟨2, ![4096, 3584]⟩ .f32) (ix2 d q)
      = arrange (fun j => x (ix2 d j)) q := by
  pointwise []
  by_cases c0 : (q : ℕ) < 512
  · rw [dif_pos (by omega : (q : ℕ) < 512), arrange, dif_pos (by omega : (q : ℕ) < 1024)]
  rw [dif_neg (by omega : ¬(q : ℕ) < 512)]
  by_cases c1 : (q : ℕ) < 1024
  · rw [dif_pos (by omega : (q : ℕ) - 512 < 512), arrange, dif_pos (by omega : (q : ℕ) < 1024)]
    exact congrArg x (congrArg (ix2 d) (Fin.ext (by dsimp only <;> omega)))
  rw [dif_neg (by omega : ¬(q : ℕ) - 512 < 512)]
  by_cases c2 : (q : ℕ) < 3072
  · rw [dif_pos (by omega : (q : ℕ) - 512 - 512 < 2048), arrange, dif_neg (by omega : ¬(q : ℕ) < 1024), dif_pos (by omega : (q : ℕ) < 3072)]
    exact congrArg x (congrArg (ix2 d) (Fin.ext (by dsimp only <;> omega)))
  rw [dif_neg (by omega : ¬(q : ℕ) - 512 - 512 < 2048)]
  by_cases c3 : (q : ℕ) < 3328
  · rw [dif_pos (by omega : (q : ℕ) - 512 - 512 - 2048 < 256), arrange, dif_neg (by omega : ¬(q : ℕ) < 1024), dif_neg (by omega : ¬(q : ℕ) < 3072), dif_pos (by omega : (q : ℕ) < 3392)]
    exact congrArg x (congrArg (ix2 d) (Fin.ext (by dsimp only <;> omega)))
  rw [dif_neg (by omega : ¬(q : ℕ) - 512 - 512 - 2048 < 256)]
  by_cases c4 : (q : ℕ) < 3392
  · rw [dif_pos (by omega : (q : ℕ) - 512 - 512 - 2048 - 256 < 64), arrange, dif_neg (by omega : ¬(q : ℕ) < 1024), dif_neg (by omega : ¬(q : ℕ) < 3072), dif_pos (by omega : (q : ℕ) < 3392)]
    exact congrArg x (congrArg (ix2 d) (Fin.ext (by dsimp only <;> omega)))
  rw [dif_neg (by omega : ¬(q : ℕ) - 512 - 512 - 2048 - 256 < 64)]
  by_cases c5 : (q : ℕ) < 3424
  · rw [dif_pos (by omega : (q : ℕ) - 512 - 512 - 2048 - 256 - 64 < 32), arrange, dif_neg (by omega : ¬(q : ℕ) < 1024), dif_neg (by omega : ¬(q : ℕ) < 3072), dif_neg (by omega : ¬(q : ℕ) < 3392), dif_pos (by omega : (q : ℕ) < 3424)]
    exact congrArg Neg.neg (congrArg x (congrArg (ix2 d) (Fin.ext (by dsimp only <;> omega))))
  by_cases c6 : (q : ℕ) < 3456
  · rw [dif_neg (by omega : ¬(q : ℕ) - 512 - 512 - 2048 - 256 - 64 < 32), dif_pos (by omega : (q : ℕ) - 512 - 512 - 2048 - 256 - 64 - 32 < 32), arrange, dif_neg (by omega : ¬(q : ℕ) < 1024), dif_neg (by omega : ¬(q : ℕ) < 3072), dif_neg (by omega : ¬(q : ℕ) < 3392), dif_neg (by omega : ¬(q : ℕ) < 3424), dif_pos (by omega : (q : ℕ) < 3456)]
    exact congrArg x (congrArg (ix2 d) (Fin.ext (by dsimp only <;> omega)))
  rw [dif_neg (by omega : ¬(q : ℕ) - 512 - 512 - 2048 - 256 - 64 < 32), dif_neg (by omega : ¬(q : ℕ) - 512 - 512 - 2048 - 256 - 64 - 32 < 32), arrange, dif_neg (by omega : ¬(q : ℕ) < 1024), dif_neg (by omega : ¬(q : ℕ) < 3072), dif_neg (by omega : ¬(q : ℕ) < 3392), dif_neg (by omega : ¬(q : ℕ) < 3424), dif_neg (by omega : ¬(q : ℕ) < 3456)]

/-- The arrangement of real entries. -/
def arrangeR (f : ℕ → ℝ) (q : ℕ) : ℝ :=
  if q < 1024 then f q
  else if q < 3072 then f (q + 320)
  else if q < 3392 then f (q - 2048)
  else if q < 3424 then -f (q - 2080)
  else if q < 3456 then f (q - 2144)
  else 0

theorem arrange_coe (f : ℕ → ℝ) (q : Fin 3584) : arrange (fun j => ((f j : ℝ) : EReal)) q = ((arrangeR f q : ℝ) : EReal) := by
  unfold arrange arrangeR
  split_ifs <;> simp

/-- The arrangement commutes with a sum of real products. -/
theorem sum_arrangeR {n : ℕ} (h : Fin n → ℝ) (w : Fin n → ℕ → ℝ) (q : ℕ) :
    ∑ d, h d * arrangeR (w d) q = arrangeR (fun j => ∑ d, h d * w d j) q := by
  unfold arrangeR
  split_ifs <;> simp

/-- What reaches one column of the projection from a cotangent of the arranged parts. -/
def gatherR (c : ℕ → ℝ) (j : ℕ) : ℝ :=
  if j < 1024 then c j
  else if j < 1280 then c (j + 2048)
  else if j < 1312 then c (j + 2048) + c (j + 2144)
  else if j < 1344 then c (j + 2048) + -c (j + 2080)
  else c (j - 320)

theorem sum_gatherR (c w : ℕ → ℝ) :
    ∑ q ∈ Finset.range 3584, c q * arrangeR w q = ∑ j ∈ Finset.range 3392, gatherR c j * w j := by
  rw [show (3584 : ℕ) = 1024 + 2048 + 256 + 32 + 32 + 32 + 32 + 128 from rfl,
    show (3392 : ℕ) = 1024 + 256 + 32 + 32 + 2048 from rfl]
  simp only [Finset.sum_range_add]
  have a₁ : ∀ i ∈ Finset.range 1024, c i * arrangeR w i = c i * w i := fun i hi => by
    have := Finset.mem_range.1 hi
    rw [arrangeR, if_pos this]
  have a₂ : ∀ i ∈ Finset.range 2048, c (1024 + i) * arrangeR w (1024 + i) = c (1024 + i) * w (1344 + i) := fun i hi => by
    have := Finset.mem_range.1 hi
    rw [arrangeR, if_neg (by omega), if_pos (by omega), show 1024 + i + 320 = 1344 + i by omega]
  have a₃ : ∀ i ∈ Finset.range 256, c (1024 + 2048 + i) * arrangeR w (1024 + 2048 + i) = c (3072 + i) * w (1024 + i) := fun i hi => by
    have := Finset.mem_range.1 hi
    rw [arrangeR, if_neg (by omega), if_neg (by omega), if_pos (by omega), show 1024 + 2048 + i - 2048 = 1024 + i by omega]
  have a₄ : ∀ i ∈ Finset.range 32, c (1024 + 2048 + 256 + i) * arrangeR w (1024 + 2048 + 256 + i) = c (3328 + i) * w (1280 + i) := fun i hi => by
    have := Finset.mem_range.1 hi
    rw [arrangeR, if_neg (by omega), if_neg (by omega), if_pos (by omega), show 1024 + 2048 + 256 + i - 2048 = 1280 + i by omega]
  have a₅ : ∀ i ∈ Finset.range 32, c (1024 + 2048 + 256 + 32 + i) * arrangeR w (1024 + 2048 + 256 + 32 + i) = c (3360 + i) * w (1312 + i) := fun i hi => by
    have := Finset.mem_range.1 hi
    rw [arrangeR, if_neg (by omega), if_neg (by omega), if_pos (by omega), show 1024 + 2048 + 256 + 32 + i - 2048 = 1312 + i by omega]
  have a₆ : ∀ i ∈ Finset.range 32, c (1024 + 2048 + 256 + 32 + 32 + i) * arrangeR w (1024 + 2048 + 256 + 32 + 32 + i) = -c (3392 + i) * w (1312 + i) := fun i hi => by
    have := Finset.mem_range.1 hi
    rw [arrangeR, if_neg (by omega), if_neg (by omega), if_neg (by omega), if_pos (by omega),
      show 1024 + 2048 + 256 + 32 + 32 + i - 2080 = 1312 + i by omega]
    ring
  have a₇ : ∀ i ∈ Finset.range 32, c (1024 + 2048 + 256 + 32 + 32 + 32 + i) * arrangeR w (1024 + 2048 + 256 + 32 + 32 + 32 + i) = c (3424 + i) * w (1280 + i) := fun i hi => by
    have := Finset.mem_range.1 hi
    rw [arrangeR, if_neg (by omega), if_neg (by omega), if_neg (by omega), if_neg (by omega), if_pos (by omega),
      show 1024 + 2048 + 256 + 32 + 32 + 32 + i - 2144 = 1280 + i by omega]
  have a₈ : ∀ i ∈ Finset.range 128, c (1024 + 2048 + 256 + 32 + 32 + 32 + 32 + i) * arrangeR w (1024 + 2048 + 256 + 32 + 32 + 32 + 32 + i) = 0 := fun i hi => by
    have := Finset.mem_range.1 hi
    rw [arrangeR, if_neg (by omega), if_neg (by omega), if_neg (by omega), if_neg (by omega), if_neg (by omega), mul_zero]
  have b₁ : ∀ i ∈ Finset.range 1024, gatherR c i * w i = c i * w i := fun i hi => by
    have := Finset.mem_range.1 hi
    rw [gatherR, if_pos this]
  have b₂ : ∀ i ∈ Finset.range 256, gatherR c (1024 + i) * w (1024 + i) = c (3072 + i) * w (1024 + i) := fun i hi => by
    have := Finset.mem_range.1 hi
    rw [gatherR, if_neg (by omega), if_pos (by omega), show 1024 + i + 2048 = 3072 + i by omega]
  have b₃ : ∀ i ∈ Finset.range 32, gatherR c (1024 + 256 + i) * w (1024 + 256 + i) = c (3328 + i) * w (1280 + i) + c (3424 + i) * w (1280 + i) := fun i hi => by
    have := Finset.mem_range.1 hi
    rw [gatherR, if_neg (by omega), if_neg (by omega), if_pos (by omega), show 1024 + 256 + i + 2048 = 3328 + i by omega,
      show 1024 + 256 + i + 2144 = 3424 + i by omega, add_mul]
  have b₄ : ∀ i ∈ Finset.range 32, gatherR c (1024 + 256 + 32 + i) * w (1024 + 256 + 32 + i) = c (3360 + i) * w (1312 + i) + -c (3392 + i) * w (1312 + i) := fun i hi => by
    have := Finset.mem_range.1 hi
    rw [gatherR, if_neg (by omega), if_neg (by omega), if_neg (by omega), if_pos (by omega),
      show 1024 + 256 + 32 + i + 2048 = 3360 + i by omega, show 1024 + 256 + 32 + i + 2080 = 3392 + i by omega, add_mul]
  have b₅ : ∀ i ∈ Finset.range 2048, gatherR c (1024 + 256 + 32 + 32 + i) * w (1024 + 256 + 32 + 32 + i) = c (1024 + i) * w (1344 + i) := fun i hi => by
    have := Finset.mem_range.1 hi
    rw [gatherR, if_neg (by omega), if_neg (by omega), if_neg (by omega), if_neg (by omega),
      show 1024 + 256 + 32 + 32 + i - 320 = 1024 + i by omega]
  rw [Finset.sum_congr rfl a₁, Finset.sum_congr rfl a₂, Finset.sum_congr rfl a₃, Finset.sum_congr rfl a₄,
    Finset.sum_congr rfl a₅, Finset.sum_congr rfl a₆, Finset.sum_congr rfl a₇, Finset.sum_congr rfl a₈,
    Finset.sum_congr rfl b₁, Finset.sum_congr rfl b₂, Finset.sum_congr rfl b₃, Finset.sum_congr rfl b₄,
    Finset.sum_congr rfl b₅, Finset.sum_add_distrib, Finset.sum_add_distrib, Finset.sum_const_zero]
  ring

/-- What reaches one column of the projection, of any entries. -/
def gather (f : Fin 3584 → EReal) (j : Fin 3392) : EReal :=
  if h₁ : (j : ℕ) < 1024 then f ⟨j, by omega⟩
  else if h₂ : (j : ℕ) < 1280 then f ⟨j + 2048, by omega⟩
  else if h₃ : (j : ℕ) < 1312 then f ⟨j + 2048, by omega⟩ + f ⟨j + 2144, by omega⟩
  else if h₄ : (j : ℕ) < 1344 then f ⟨j + 2048, by omega⟩ + -f ⟨j + 2080, by omega⟩
  else f ⟨j - 320, by omega⟩

theorem gather_coe (f : ℕ → ℝ) (j : Fin 3392) : gather (fun q => ((f q : ℝ) : EReal)) j = ((gatherR f j : ℝ) : EReal) := by
  unfold gather gatherR
  split_ifs <;> simp

/-- Finitely many reals, continued by zeros. -/
def ext {n : ℕ} (f : Fin n → ℝ) (i : ℕ) : ℝ := if h : i < n then f ⟨i, h⟩ else 0

theorem ext_val {n : ℕ} (f : Fin n → ℝ) (i : Fin n) : ext f i = f i := dif_pos i.isLt

theorem arrange_real (f : Fin 3392 → EReal) (g : Fin 3392 → ℝ) (h : ∀ j, f j = (g j : EReal)) (q : Fin 3584) :
    arrange f q = ((arrangeR (ext g) q : ℝ) : EReal) := by
  rw [← arrange_coe]
  exact congrArg (fun u => arrange u q) (funext fun j => (h j).trans (congrArg _ (ext_val g j).symm))

theorem gather_real (f : Fin 3584 → EReal) (g : Fin 3584 → ℝ) (h : ∀ j, f j = (g j : EReal)) (j : Fin 3392) :
    gather f j = ((gatherR (ext g) j : ℝ) : EReal) := by
  rw [← gather_coe]
  exact congrArg (fun u => gather u j) (funext fun j => (h j).trans (congrArg _ (ext_val g j).symm))

theorem sum_arrange {n : ℕ} (x : Fin n → EReal) (w : Fin n → Fin 3392 → EReal) (X : Fin n → ℝ) (W : Fin n → Fin 3392 → ℝ)
    (hx : ∀ d, x d = (X d : EReal)) (hw : ∀ d j, w d j = (W d j : EReal)) (q : Fin 3584) :
    ∑ d, x d * arrange (w d) q = arrange (fun j => ∑ d, x d * w d j) q := by
  have e : ∀ j, ∑ d, x d * w d j = ((∑ d, X d * W d j : ℝ) : EReal) := fun j => by
    simp only [hx, hw, Cert.RealMath.coe_sum, EReal.coe_mul]
  have e' : ext (fun j => ∑ d, X d * W d j) = fun j => ∑ d, X d * ext (W d) j := funext fun j => by
    unfold ext
    split_ifs <;> simp
  rw [arrange_real _ _ e, e', ← sum_arrangeR, Cert.RealMath.coe_sum]
  exact Finset.sum_congr rfl fun d _ => by rw [hx, arrange_real _ _ (hw d), EReal.coe_mul]

theorem sum_gather (f : Fin 3584 → EReal) (w : Fin 3392 → EReal) (C : Fin 3584 → ℝ) (W : Fin 3392 → ℝ)
    (hf : ∀ q, f q = (C q : EReal)) (hw : ∀ j, w j = (W j : EReal)) :
    ∑ q, f q * arrange w q = ∑ j, gather f j * w j := by
  have e₁ : ∀ q : Fin 3584, f q * arrange w q = ((ext C q * arrangeR (ext W) q : ℝ) : EReal) := fun q => by
    rw [hf, arrange_real _ _ hw, EReal.coe_mul, ext_val]
  have e₂ : ∀ j : Fin 3392, gather f j * w j = ((gatherR (ext C) j * ext W j : ℝ) : EReal) := fun j => by
    rw [hw, gather_real _ _ hf, EReal.coe_mul, ext_val]
  rw [Finset.sum_congr rfl fun q _ => e₁ q, Finset.sum_congr rfl fun j _ => e₂ j, ← Cert.RealMath.coe_sum, ← Cert.RealMath.coe_sum,
    Fin.sum_univ_eq_sum_range (fun q => ext C q * arrangeR (ext W) q), Fin.sum_univ_eq_sum_range (fun j => gatherR (ext C) j * ext W j),
    sum_gatherR]

end Cert.InProj

end
-- ==== Proof.Prod11.lean ====
module

public import proofs.«01_k».proof.Proof.Gen.Kernel11Ideal.Value
public import proofs.«01_k».proof.Proof.Gen.Reference11Ideal.Read
public import proofs.«01_k».proof.Proof.InProj

/-! The input projection: the version multiplies by rearranged weights, the reference rearranges the product. -/

set_option maxRecDepth 16384

@[expose] public noncomputable section

open Idealize.ShloMosaic Idealize.ShloMosaic.TcCoe Idealize.SL.Sem

namespace Cert.Kernel11Ideal.Product

open Cert.Kernel11Ideal Cert.Kernel11Ideal.Gen Cert.Kernel11Ideal.Value Cert.Layouts Cert.InProj

variable (m : (ℓ : Loc nD τ sig) → Buf (Elt Ideal) ℓ) (c : Dev nD)

abbrev x : FVec Ideal S4096x2048 .f32 := m ((c : Thread nD τ).loc main_arg0)
abbrev w : FVec Ideal S2048x3392 .f32 := m ((c : Thread nD τ).loc main_arg1)

theorem weights (d : Fin 2048) (q : Fin 3584) : (V m c main_v15 : FVec Ideal S2048x3584 .bf16) (ix2 d q) = arrange (fun j => w m c (ix2 d j)) q :=
  weights_at (w m c) slices_S2048x3392_S2048x512_0_0 slices_S2048x3392_S2048x512_0_512 slices_S2048x3392_S2048x512_0_1344
    slices_S2048x3392_S2048x512_0_1856 slices_S2048x3392_S2048x512_0_2368 slices_S2048x3392_S2048x512_0_2880
    slices_S2048x3392_S2048x256_0_1024 slices_S2048x3392_S2048x64_0_1280 slices_S2048x64_S2048x32_0_32 slices_S2048x64_S2048x32_0_0
    concatenates_S2048x32_S2048x32_S2048x64_d1 bcast_S_S2048x128
    concatenates_S2048x512_S2048x512_S2048x512_S2048x512_S2048x512_S2048x512_S2048x256_S2048x64_S2048x64_S2048x128_S2048x3584_d1 bitsLt_bf16_f32 d q

theorem idx : ∀ t : Fin cfg0.N, win0_0.index t = ![t.val / 8, t.val % 2] ∧ win0_1.index t = ![t.val % 2, t.val / 2 % 4] :=
  (by decide +kernel : ∀ t : Fin grid0.N, _)

theorem point_lt (t : Fin cfg0.N) : t.val < 32 := lt_of_lt_of_eq t.isLt (show cfg0.N = 32 from N_0)

theorem view0 (t : Fin cfg0.N) (X : FVec Ideal S4096x2048 .bf16) (r d : Fin 1024) :
    (((cfg0.win 0).blk t).view.read (Elt Ideal) X : FVec Ideal S1024x1024 .bf16) (ix2 r d)
      = X (ix2 ⟨t.val / 8 * 1024 + r, by have := point_lt t; omega⟩ ⟨t.val % 2 * 1024 + d, by omega⟩) := by
  blk_ext [idx t]

theorem view1 (t : Fin cfg0.N) (X : FVec Ideal S2048x3584 .bf16) (d : Fin 1024) (k : Fin 896) :
    (((cfg0.win 1).blk t).view.read (Elt Ideal) X : FVec Ideal S1024x896 .bf16) (ix2 d k)
      = X (ix2 ⟨t.val % 2 * 1024 + d, by omega⟩ ⟨t.val / 2 % 4 * 896 + k, by omega⟩) := by
  blk_ext [idx t]

theorem clear_at (r : Fin 1024) (k : Fin 896) : k0_pay1 (F := Ideal) (ix2 r k) = 0 := by
  pointwise [k0_pay1]

theorem step_at (x : FVec Ideal S1024x896 .f32) (a : FVec Ideal S1024x1024 .bf16) (b : FVec Ideal S1024x896 .bf16) (r : Fin 1024) (k : Fin 896) :
    k0_pay2 (F := Ideal) x a b (ix2 r k) = x (ix2 r k) + ∑ d : Fin 1024, a (ix2 r d) * b (ix2 d k) := by
  pointwise [k0_pay2]

/-- What is carried from point to point. -/
def acc (n : ℕ) (hn : n < cfg0.N) : FVec Ideal S1024x896 .f32 := (outsAt0 m c n hn).2

/-- The two operands' blocks at a point. -/
def lhs (t : Fin cfg0.N) (r d : Fin 1024) : EReal := (iblk m c 0 t : FVec Ideal S1024x1024 .bf16) (ix2 r d)
def rhs (t : Fin cfg0.N) (k : Fin 896) (d : Fin 1024) : EReal := (iblk m c 1 t : FVec Ideal S1024x896 .bf16) (ix2 d k)

theorem lhs_at (t : Fin cfg0.N) (r d : Fin 1024) : lhs m c t r d
    = x m c (ix2 ⟨t.val / 8 * 1024 + r, by have := point_lt t; omega⟩ ⟨t.val % 2 * 1024 + d, by omega⟩) := by
  unfold lhs iblk
  exact view0 t (V m c main_v0) r d

theorem rhs_at (t : Fin cfg0.N) (k : Fin 896) (d : Fin 1024) : rhs m c t k d
    = arrange (fun j => w m c (ix2 ⟨t.val % 2 * 1024 + d, by omega⟩ j)) ⟨t.val / 2 % 4 * 896 + k, by omega⟩ := by
  unfold rhs iblk
  exact (view1 t (V m c main_v15) d k).trans (weights m c _ _)

theorem acc_first (t : Fin cfg0.N) (h0 : t.val % 2 = 0) (r : Fin 1024) (k : Fin 896) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 2 = 0) (r : Fin 1024) (k : Fin 896) :
    acc m c t.val t.isLt (ix2 r k) = acc m c (t.val - 1) (by omega) (ix2 r k) + ∑ d, lhs m c t r d * rhs m c t k d := by
  rw [acc, outsAt0_B m c t h0 (by omega)]
  frame_out
  rw [step_at]
  exact congrArg (· + _) (congrFun ((Memref.isWhole_whole cc0_scratch0).read_unread _) _)

/-- At the last point of a run what is carried is written out. -/
theorem out_last (t : Fin cfg0.N) (h1 : t.val % 2 = 1) : (outsAt0 m c t.val t.isLt).1 = acc m c t.val t.isLt := by
  rw [acc, outsAt0_B m c t (by omega) h1]
  frame_out

theorem at_run (t : Fin cfg0.N) (h1 : t.val % 2 = 1) (r : Fin 1024) (k : Fin 896) :
    acc m c t.val t.isLt (ix2 r k) = ∑ q : Fin 2048,
      x m c (ix2 ⟨t.val / 8 * 1024 + r, by have := point_lt t; omega⟩ q) * arrange (fun j => w m c (ix2 q j)) ⟨t.val / 2 % 4 * 896 + k, by omega⟩ := by
  rw [carried_sum (acc m c) (lhs m c) (rhs m c) (acc_first m c) (acc_next m c) t h1 r k]
  refine Fin.sum_mul_add_congr fun s d hl => congrArg₂ (fun x y : EReal => x * y) ?_ ?_
  · have e₁ : (2 * (t.val / 2) + s.val) / 8 = t.val / 8 := by omega
    have e₂ : (2 * (t.val / 2) + s.val) % 2 = s := by omega
    simp only [lhs_at, e₁, e₂]
  · have e₁ : (2 * (t.val / 2) + s.val) / 2 % 4 = t.val / 2 % 4 := by omega
    have e₂ : (2 * (t.val / 2) + s.val) % 2 = s := by omega
    simp only [rhs_at, e₁, e₂]

theorem G2_at (r : Fin 4096) (k : Fin 3584) : (G2 m c : FVec Ideal S4096x3584 .f32) (ix2 r k)
    = ∑ d : Fin 2048, x m c (ix2 r d) * arrange (fun j => w m c (ix2 d j)) k := by
  have hp : pt2Of (ix2 r k) = 2 * (4 * ((r : ℕ) / 1024) + (k : ℕ) / 896) + 1 := by
    show 2 * (4 * ((r : ℕ) / 1024 - 0) + 1 * ((k : ℕ) / 896 - 0)) + 1 = _
    omega
  have hN : pt2Of (ix2 r k) < cfg0.N := lt_of_lt_of_eq (by rw [hp]; omega) (show cfg0.N = 32 from N_0).symm
  have hl : loc2Of (ix2 r k) = ix2 ⟨(r : ℕ) % 1024, by omega⟩ ⟨(k : ℕ) % 896, by omega⟩ := by
    rw [eq_ix2 (loc2Of (ix2 r k))]
    rfl
  have h7 : pt2Of (ix2 r k) % 2 = 1 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 8 * 1024 + (r : ℕ) % 1024, by rw [hp]; omega⟩ : Fin 4096) = r := Fin.ext (by simp only [hp]; omega)
  have ek : (⟨pt2Of (ix2 r k) / 2 % 4 * 896 + (k : ℕ) % 896, by omega⟩ : Fin 3584) = k := Fin.ext (by simp only [hp]; omega)
  exact Finset.sum_congr rfl fun q _ => congrArg₂ (fun y z => x m c (ix2 y q) * arrange (fun j => w m c (ix2 q j)) z) er ek

theorem reference_at (r : Fin 4096) (k : Fin 3584) : Cert.Reference11Ideal.Read.val_main_v10 (F := Ideal) (x m c) (w m c) (ix2 r k)
    = arrange (fun j => ∑ d : Fin 2048, x m c (ix2 r d) * w m c (ix2 d j)) k := by
  refine (parts_at (Cert.Reference11Ideal.Read.val_main_v0 (F := Ideal) (x m c) (w m c)) _ _ _ _ _ _ _
    Cert.Reference11Ideal.Gen.bcast_S_S4096x128 _ r k).trans ?_
  refine congrArg (fun f => arrange f k) (funext fun j => ?_)
  rw [Cert.Reference11Ideal.Read.val_main_v0_apply]
  exact Finset.sum_congr rfl fun d _ => congrArg₂ (fun x y : EReal => x * y)
    (congrArg (x m c) (eq_ix2 (Cert.Reference11Ideal.Read.lidx_main_v0 (ix2 r j) d)))
    (congrArg (w m c) (eq_ix2 (Cert.Reference11Ideal.Read.ridx_main_v0 (ix2 r j) d)))

theorem result (X : S4096x2048.Idx → ℝ) (W : S2048x3392.Idx → ℝ) (hx : ∀ i, x m c i = (X i : EReal)) (hw : ∀ i, w m c i = (W i : EReal)) :
    (G2 m c : FVec Ideal S4096x3584 .f32) = Cert.Reference11Ideal.Read.val_main_v10 (F := Ideal) (x m c) (w m c) := by
  funext i
  obtain ⟨r, k, rfl⟩ : ∃ r k, i = ix2 r k := ⟨i 0, i 1, eq_ix2 i⟩
  exact (G2_at m c r k).trans ((sum_arrange (fun d => x m c (ix2 r d)) (fun d j => w m c (ix2 d j)) (fun d => X (ix2 r d))
    (fun d j => W (ix2 d j)) (fun d => hx _) (fun d j => hw _) k).trans (reference_at m c r k).symm)

end Cert.Kernel11Ideal.Product

end
-- ==== Proof.Gathered.lean ====
module

public import proofs.«01_k».proof.Proof.Gen.Reference12Ideal.Read
public import proofs.«01_k».proof.Proof.InProj

/-! What the reference takes back of the cotangent to one column of the projection. -/

set_option maxRecDepth 16384

@[expose] public noncomputable section

open Idealize.ShloMosaic Idealize.ShloMosaic.TcCoe Idealize.SL.Sem

namespace Cert.Reference12Ideal.At

open Cert.Reference12Ideal Cert.Reference12Ideal.Gen Cert.Reference12Ideal.Read Cert.InProj

set_option maxHeartbeats 2000000 in
theorem gather_at (x2 : FVec Ideal S4096x3584 .f32) (r : Fin 4096) (j : Fin 3392) :
    val_main_v33 (F := Ideal) x2 (ix2 r j) = gather (fun q => x2 (ix2 r q)) j := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_1, val_main_cst_2, val_main_cst_3, val_main_cst_4, val_main_cst_5, val_main_cst_6, val_main_cst_7]
  by_cases c0 : (j : ℕ) < 512
  · rw [dif_neg (by omega : ¬(1344 ≤ (j : ℕ) ∧ (j : ℕ) - 1344 < 2048)), dif_neg (by omega : ¬(1280 ≤ (j : ℕ) ∧ (j : ℕ) - 1280 < 64)), dif_neg (by omega : ¬(1024 ≤ (j : ℕ) ∧ (j : ℕ) - 1024 < 256)), dif_neg (by omega : ¬(512 ≤ (j : ℕ) ∧ (j : ℕ) - 512 < 512)), dif_pos (by omega : (j : ℕ) < 512), gather, dif_pos (by omega : (j : ℕ) < 1024)]
    simp only [add_zero, zero_add]
  by_cases c1 : (j : ℕ) < 1024
  · rw [dif_neg (by omega : ¬(1344 ≤ (j : ℕ) ∧ (j : ℕ) - 1344 < 2048)), dif_neg (by omega : ¬(1280 ≤ (j : ℕ) ∧ (j : ℕ) - 1280 < 64)), dif_neg (by omega : ¬(1024 ≤ (j : ℕ) ∧ (j : ℕ) - 1024 < 256)), dif_pos (by omega : 512 ≤ (j : ℕ) ∧ (j : ℕ) - 512 < 512), dif_neg (by omega : ¬((j : ℕ) < 512)), gather, dif_pos (by omega : (j : ℕ) < 1024)]
    simp only [add_zero, zero_add]
    exact congrArg (fun v => x2 (ix2 r v)) (Fin.ext (by dsimp only <;> omega))
  by_cases c2 : (j : ℕ) < 1280
  · rw [dif_neg (by omega : ¬(1344 ≤ (j : ℕ) ∧ (j : ℕ) - 1344 < 2048)), dif_neg (by omega : ¬(1280 ≤ (j : ℕ) ∧ (j : ℕ) - 1280 < 64)), dif_pos (by omega : 1024 ≤ (j : ℕ) ∧ (j : ℕ) - 1024 < 256), dif_neg (by omega : ¬(512 ≤ (j : ℕ) ∧ (j : ℕ) - 512 < 512)), dif_neg (by omega : ¬((j : ℕ) < 512)), gather, dif_neg (by omega : ¬(j : ℕ) < 1024), dif_pos (by omega : (j : ℕ) < 1280)]
    simp only [add_zero, zero_add]
    exact congrArg (fun v => x2 (ix2 r v)) (Fin.ext (by dsimp only <;> omega))
  by_cases c3 : (j : ℕ) < 1312
  · rw [dif_neg (by omega : ¬(1344 ≤ (j : ℕ) ∧ (j : ℕ) - 1344 < 2048)), dif_pos (by omega : 1280 ≤ (j : ℕ) ∧ (j : ℕ) - 1280 < 64), dif_neg (by omega : ¬(32 ≤ (j : ℕ) - 1280 ∧ (j : ℕ) - 1280 - 32 < 32)), dif_pos (by omega : (j : ℕ) - 1280 < 32), dif_neg (by omega : ¬(1024 ≤ (j : ℕ) ∧ (j : ℕ) - 1024 < 256)), dif_neg (by omega : ¬(512 ≤ (j : ℕ) ∧ (j : ℕ) - 512 < 512)), dif_neg (by omega : ¬((j : ℕ) < 512)), gather, dif_neg (by omega : ¬(j : ℕ) < 1024), dif_neg (by omega : ¬(j : ℕ) < 1280), dif_pos (by omega : (j : ℕ) < 1312)]
    simp only [add_zero, zero_add]
    exact congrArg₂ (fun u v : EReal => u + v) (congrArg (fun v => x2 (ix2 r v)) (Fin.ext (by dsimp only <;> omega))) (congrArg (fun v => x2 (ix2 r v)) (Fin.ext (by dsimp only <;> omega)))
  by_cases c4 : (j : ℕ) < 1344
  · rw [dif_neg (by omega : ¬(1344 ≤ (j : ℕ) ∧ (j : ℕ) - 1344 < 2048)), dif_pos (by omega : 1280 ≤ (j : ℕ) ∧ (j : ℕ) - 1280 < 64), dif_pos (by omega : 32 ≤ (j : ℕ) - 1280 ∧ (j : ℕ) - 1280 - 32 < 32), dif_neg (by omega : ¬((j : ℕ) - 1280 < 32)), dif_neg (by omega : ¬(1024 ≤ (j : ℕ) ∧ (j : ℕ) - 1024 < 256)), dif_neg (by omega : ¬(512 ≤ (j : ℕ) ∧ (j : ℕ) - 512 < 512)), dif_neg (by omega : ¬((j : ℕ) < 512)), gather, dif_neg (by omega : ¬(j : ℕ) < 1024), dif_neg (by omega : ¬(j : ℕ) < 1280), dif_neg (by omega : ¬(j : ℕ) < 1312), dif_pos (by omega : (j : ℕ) < 1344)]
    simp only [add_zero, zero_add]
    exact congrArg₂ (fun u v : EReal => u + -v) (congrArg (fun v => x2 (ix2 r v)) (Fin.ext (by dsimp only <;> omega))) (congrArg (fun v => x2 (ix2 r v)) (Fin.ext (by dsimp only <;> omega)))
  rw [dif_pos (by omega : 1344 ≤ (j : ℕ) ∧ (j : ℕ) - 1344 < 2048), dif_neg (by omega : ¬(1280 ≤ (j : ℕ) ∧ (j : ℕ) - 1280 < 64)), dif_neg (by omega : ¬(1024 ≤ (j : ℕ) ∧ (j : ℕ) - 1024 < 256)), dif_neg (by omega : ¬(512 ≤ (j : ℕ) ∧ (j : ℕ) - 512 < 512)), dif_neg (by omega : ¬((j : ℕ) < 512)), gather, dif_neg (by omega : ¬(j : ℕ) < 1024), dif_neg (by omega : ¬(j : ℕ) < 1280), dif_neg (by omega : ¬(j : ℕ) < 1312), dif_neg (by omega : ¬(j : ℕ) < 1344)]
  simp only [add_zero, zero_add]
  exact congrArg (fun v => x2 (ix2 r v)) (Fin.ext (by dsimp only <;> omega))

end Cert.Reference12Ideal.At

end
-- ==== Proof.Prod12.lean ====
module

public import proofs.«01_k».proof.Proof.Gen.Kernel12Ideal.Value
public import proofs.«01_k».proof.Proof.Gen.Reference12Ideal.Read
public import proofs.«01_k».proof.Proof.Gathered

/-! The gradient of the input projection's input: the version multiplies by rearranged weights, the reference
    takes the cotangent back through the rearrangement. -/

set_option maxRecDepth 16384

@[expose] public noncomputable section

open Idealize.ShloMosaic Idealize.ShloMosaic.TcCoe Idealize.SL.Sem

namespace Cert.Kernel12Ideal.Product

open Cert.Kernel12Ideal Cert.Kernel12Ideal.Gen Cert.Kernel12Ideal.Value Cert.Layouts Cert.InProj

variable (m : (ℓ : Loc nD τ sig) → Buf (Elt Ideal) ℓ) (c : Dev nD)

abbrev w : FVec Ideal S2048x3392 .f32 := m ((c : Thread nD τ).loc main_arg1)
abbrev dy : FVec Ideal S4096x3584 .f32 := m ((c : Thread nD τ).loc main_arg2)

theorem weights (d : Fin 2048) (q : Fin 3584) : (V m c main_v15 : FVec Ideal S2048x3584 .bf16) (ix2 d q) = arrange (fun j => w m c (ix2 d j)) q :=
  weights_at (w m c) slices_S2048x3392_S2048x512_0_0 slices_S2048x3392_S2048x512_0_512 slices_S2048x3392_S2048x512_0_1344
    slices_S2048x3392_S2048x512_0_1856 slices_S2048x3392_S2048x512_0_2368 slices_S2048x3392_S2048x512_0_2880
    slices_S2048x3392_S2048x256_0_1024 slices_S2048x3392_S2048x64_0_1280 slices_S2048x64_S2048x32_0_32 slices_S2048x64_S2048x32_0_0
    concatenates_S2048x32_S2048x32_S2048x64_d1 bcast_S_S2048x128
    concatenates_S2048x512_S2048x512_S2048x512_S2048x512_S2048x512_S2048x512_S2048x256_S2048x64_S2048x64_S2048x128_S2048x3584_d1 bitsLt_bf16_f32 d q

theorem idx : ∀ t : Fin cfg0.N, win0_0.index t = ![t.val / 8, t.val % 4] ∧ win0_1.index t = ![t.val / 4 % 2, t.val % 4] :=
  (by decide +kernel : ∀ t : Fin grid0.N, _)

theorem point_lt (t : Fin cfg0.N) : t.val < 32 := lt_of_lt_of_eq t.isLt (show cfg0.N = 32 from N_0)

theorem view0 (t : Fin cfg0.N) (X : FVec Ideal S4096x3584 .bf16) (r : Fin 1024) (d : Fin 896) :
    (((cfg0.win 0).blk t).view.read (Elt Ideal) X : FVec Ideal S1024x896 .bf16) (ix2 r d)
      = X (ix2 ⟨t.val / 8 * 1024 + r, by have := point_lt t; omega⟩ ⟨t.val % 4 * 896 + d, by omega⟩) := by
  blk_ext [idx t]

theorem view1 (t : Fin cfg0.N) (X : FVec Ideal S2048x3584 .bf16) (k : Fin 1024) (d : Fin 896) :
    (((cfg0.win 1).blk t).view.read (Elt Ideal) X : FVec Ideal S1024x896 .bf16) (ix2 k d)
      = X (ix2 ⟨t.val / 4 % 2 * 1024 + k, by omega⟩ ⟨t.val % 4 * 896 + d, by omega⟩) := by
  blk_ext [idx t]

theorem clear_at (r k : Fin 1024) : k0_pay1 (F := Ideal) (ix2 r k) = 0 := by
  pointwise [k0_pay1]

theorem step_at (x : FVec Ideal S1024x1024 .f32) (a b : FVec Ideal S1024x896 .bf16) (r k : Fin 1024) :
    k0_pay2 (F := Ideal) x a b (ix2 r k) = x (ix2 r k) + ∑ d : Fin 896, a (ix2 r d) * b (ix2 k d) := by
  pointwise [k0_pay2]

/-- What is carried from point to point. -/
def acc (n : ℕ) (hn : n < cfg0.N) : FVec Ideal S1024x1024 .f32 := (outsAt0 m c n hn).2

/-- The two operands' blocks at a point. -/
def lhs (t : Fin cfg0.N) (r : Fin 1024) (d : Fin 896) : EReal := (iblk m c 0 t : FVec Ideal S1024x896 .bf16) (ix2 r d)
def rhs (t : Fin cfg0.N) (k : Fin 1024) (d : Fin 896) : EReal := (iblk m c 1 t : FVec Ideal S1024x896 .bf16) (ix2 k d)

theorem lhs_at (t : Fin cfg0.N) (r : Fin 1024) (d : Fin 896) : lhs m c t r d
    = dy m c (ix2 ⟨t.val / 8 * 1024 + r, by have := point_lt t; omega⟩ ⟨t.val % 4 * 896 + d, by omega⟩) := by
  unfold lhs iblk
  exact view0 t (V m c main_v0) r d

theorem rhs_at (t : Fin cfg0.N) (k : Fin 1024) (d : Fin 896) : rhs m c t k d
    = arrange (fun j => w m c (ix2 ⟨t.val / 4 % 2 * 1024 + k, by omega⟩ j)) ⟨t.val % 4 * 896 + d, by omega⟩ := by
  unfold rhs iblk
  exact (view1 t (V m c main_v15) k d).trans (weights m c _ _)

theorem acc_first (t : Fin cfg0.N) (h0 : t.val % 4 = 0) (r k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r k : Fin 1024) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = acc m c t.val t.isLt := by
  rw [acc, outsAt0_C m c t (by omega) h1]
  frame_out

theorem at_run (t : Fin cfg0.N) (h1 : t.val % 4 = 3) (r k : Fin 1024) :
    acc m c t.val t.isLt (ix2 r k) = ∑ q : Fin 3584,
      dy m c (ix2 ⟨t.val / 8 * 1024 + r, by have := point_lt t; omega⟩ q) * arrange (fun j => w m c (ix2 ⟨t.val / 4 % 2 * 1024 + k, by omega⟩ j)) q := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 8 = t.val / 8 := by omega
    have e₂ : (4 * (t.val / 4) + s.val) % 4 = s := by omega
    simp only [lhs_at, e₁, e₂]
  · have e₁ : (4 * (t.val / 4) + s.val) / 4 % 2 = t.val / 4 % 2 := by omega
    have e₂ : (4 * (t.val / 4) + s.val) % 4 = s := by omega
    simp only [rhs_at, e₁, e₂]

theorem G2_at (r : Fin 4096) (k : Fin 2048) : (G2 m c : FVec Ideal S4096x2048 .f32) (ix2 r k)
    = ∑ q : Fin 3584, dy m c (ix2 r q) * arrange (fun j => w m c (ix2 k j)) q := by
  have hp : pt2Of (ix2 r k) = 4 * (2 * ((r : ℕ) / 1024) + (k : ℕ) / 1024) + 3 := by
    show 4 * (2 * ((r : ℕ) / 1024 - 0) + 1 * ((k : ℕ) / 1024 - 0)) + 3 = _
    omega
  have hN : pt2Of (ix2 r k) < cfg0.N := lt_of_lt_of_eq (by rw [hp]; omega) (show cfg0.N = 32 from N_0).symm
  have hl : loc2Of (ix2 r k) = ix2 ⟨(r : ℕ) % 1024, by omega⟩ ⟨(k : ℕ) % 1024, by omega⟩ := by
    rw [eq_ix2 (loc2Of (ix2 r k))]
    rfl
  have h7 : pt2Of (ix2 r k) % 4 = 3 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 8 * 1024 + (r : ℕ) % 1024, by rw [hp]; omega⟩ : Fin 4096) = r := Fin.ext (by simp only [hp]; omega)
  have ek : (⟨pt2Of (ix2 r k) / 4 % 2 * 1024 + (k : ℕ) % 1024, by omega⟩ : Fin 2048) = k := Fin.ext (by simp only [hp]; omega)
  exact Finset.sum_congr rfl fun q _ => congrArg₂ (fun y z => dy m c (ix2 y q) * arrange (fun j => w m c (ix2 z j)) q) er ek

theorem reference_at (r : Fin 4096) (k : Fin 2048) : Cert.Reference12Ideal.Read.val_main_v36 (F := Ideal) (w m c) (dy m c) (ix2 r k)
    = ∑ j : Fin 3392, gather (fun q => dy m c (ix2 r q)) j * w m c (ix2 k j) := by
  rw [Cert.Reference12Ideal.Read.val_main_v36_apply]
  exact Finset.sum_congr rfl fun j _ => congrArg₂ (fun x y : EReal => x * y)
    ((congrArg (Cert.Reference12Ideal.Read.val_main_v33 (F := Ideal) (dy m c)) (eq_ix2 (Cert.Reference12Ideal.Read.lidx_main_v36 (ix2 r k) j))).trans
      (Cert.Reference12Ideal.At.gather_at (dy m c) r j))
    (congrArg (w m c) (eq_ix2 (Cert.Reference12Ideal.Read.ridx_main_v36 (ix2 r k) j)))

theorem result (W : S2048x3392.Idx → ℝ) (D : S4096x3584.Idx → ℝ) (hw : ∀ i, w m c i = (W i : EReal)) (hd : ∀ i, dy m c i = (D i : EReal)) :
    (G2 m c : FVec Ideal S4096x2048 .f32) = Cert.Reference12Ideal.Read.val_main_v36 (F := Ideal) (w m c) (dy m c) := by
  funext i
  obtain ⟨r, k, rfl⟩ : ∃ r k, i = ix2 r k := ⟨i 0, i 1, eq_ix2 i⟩
  exact (G2_at m c r k).trans ((sum_gather (fun q => dy m c (ix2 r q)) (fun j => w m c (ix2 k j)) (fun q => D (ix2 r q))
    (fun j => W (ix2 k j)) (fun q => hd _) (fun j => hw _)).trans (reference_at m c r k).symm)

end Cert.Kernel12Ideal.Product

end
-- ==== Proof.Prod13.lean ====
module

public import proofs.«01_k».proof.Proof.Gen.Kernel13Ideal.Value
public import proofs.«01_k».proof.Proof.Gen.Reference13Ideal.Read
public import proofs.«01_k».proof.Proof.Layouts

/-! The gradient of the input projection's weights. -/

set_option maxRecDepth 16384

@[expose] public noncomputable section

open Idealize.ShloMosaic Idealize.ShloMosaic.TcCoe Idealize.SL.Sem

namespace Cert.Kernel13Ideal.Product

open Cert.Kernel13Ideal Cert.Kernel13Ideal.Gen Cert.Kernel13Ideal.Value Cert.Layouts

variable (m : (ℓ : Loc nD τ sig) → Buf (Elt Ideal) ℓ) (c : Dev nD)

abbrev x : FVec Ideal S4096x2048 .f32 := m ((c : Thread nD τ).loc main_arg0)
abbrev dy : FVec Ideal S4096x3584 .f32 := m ((c : Thread nD τ).loc main_arg2)

theorem idx : ∀ t : Fin cfg0.N,
    win0_0.index t = ![t.val % 4, t.val / 16] ∧ win0_1.index t = ![t.val % 4, t.val / 4 % 4] :=
  (by decide +kernel : ∀ t : Fin grid0.N, _)

theorem point_lt (t : Fin cfg0.N) : t.val < 32 := lt_of_lt_of_eq t.isLt (show cfg0.N = 32 from N_0)

theorem view0 (t : Fin cfg0.N) (X : FVec Ideal S4096x2048 .bf16) (d r : Fin 1024) :
    (((cfg0.win 0).blk t).view.read (Elt Ideal) X : FVec Ideal S1024x1024 .bf16) (ix2 d r)
      = X (ix2 ⟨t.val % 4 * 1024 + d, by omega⟩ ⟨t.val / 16 * 1024 + r, by have := point_lt t; omega⟩) := by
  blk_ext [idx t]

theorem view1 (t : Fin cfg0.N) (X : FVec Ideal S4096x3584 .bf16) (d : Fin 1024) (k : Fin 896) :
    (((cfg0.win 1).blk t).view.read (Elt Ideal) X : FVec Ideal S1024x896 .bf16) (ix2 d k)
      = X (ix2 ⟨t.val % 4 * 1024 + d, by omega⟩ ⟨t.val / 4 % 4 * 896 + k, by omega⟩) := by
  blk_ext [idx t]

theorem clear_at (r : Fin 1024) (k : Fin 896) : k0_pay1 (F := Ideal) (ix2 r k) = 0 := by
  pointwise [k0_pay1]

theorem step_at (x : FVec Ideal S1024x896 .f32) (a : FVec Ideal S1024x1024 .bf16) (b : FVec Ideal S1024x896 .bf16) (r : Fin 1024) (k : Fin 896) :
    k0_pay2 (F := Ideal) x a b (ix2 r k) = x (ix2 r k) + ∑ d : Fin 1024, a (ix2 d r) * b (ix2 d k) := by
  pointwise [k0_pay2]

/-- What is carried from point to point. -/
def acc (n : ℕ) (hn : n < cfg0.N) : FVec Ideal S1024x896 .f32 := (outsAt0 m c n hn).2

/-- The two operands' blocks at a point. -/
def lhs (t : Fin cfg0.N) (r d : Fin 1024) : EReal := (iblk m c 0 t : FVec Ideal S1024x1024 .bf16) (ix2 d r)
def rhs (t : Fin cfg0.N) (k : Fin 896) (d : Fin 1024) : EReal := (iblk m c 1 t : FVec Ideal S1024x896 .bf16) (ix2 d k)

theorem lhs_at (t : Fin cfg0.N) (r d : Fin 1024) : lhs m c t r d
    = x m c (ix2 ⟨t.val % 4 * 1024 + d, by omega⟩ ⟨t.val / 16 * 1024 + r, by have := point_lt t; omega⟩) := by
  unfold lhs iblk
  exact view0 t (V m c main_v0) d r

theorem rhs_at (t : Fin cfg0.N) (k : Fin 896) (d : Fin 1024) : rhs m c t k d
    = dy m c (ix2 ⟨t.val % 4 * 1024 + d, by omega⟩ ⟨t.val / 4 % 4 * 896 + k, by omega⟩) := by
  unfold rhs iblk
  exact view1 t (V m c main_v1) d k

theorem acc_first (t : Fin cfg0.N) (h0 : t.val % 4 = 0) (r : Fin 1024) (k : Fin 896) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r : Fin 1024) (k : Fin 896) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = acc m c t.val t.isLt := by
  rw [acc, outsAt0_C m c t (by omega) h1]
  frame_out

theorem at_run (t : Fin cfg0.N) (h1 : t.val % 4 = 3) (r : Fin 1024) (k : Fin 896) :
    acc m c t.val t.isLt (ix2 r k) = ∑ q : Fin 4096,
      x m c (ix2 q ⟨t.val / 16 * 1024 + r, by have := point_lt t; omega⟩) * dy m c (ix2 q ⟨t.val / 4 % 4 * 896 + k, by omega⟩) := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 16 = t.val / 16 := by omega
    have e₂ : (4 * (t.val / 4) + s.val) % 4 = s := by omega
    simp only [lhs_at, e₁, e₂]
  · have e₁ : (4 * (t.val / 4) + s.val) / 4 % 4 = t.val / 4 % 4 := by omega
    have e₂ : (4 * (t.val / 4) + s.val) % 4 = s := by omega
    simp only [rhs_at, e₁, e₂]

theorem G2_at (r : Fin 2048) (k : Fin 3584) : (G2 m c : FVec Ideal S2048x3584 .f32) (ix2 r k)
    = ∑ q : Fin 4096, x m c (ix2 q r) * dy m c (ix2 q k) := by
  have hp : pt2Of (ix2 r k) = 4 * (4 * ((r : ℕ) / 1024) + (k : ℕ) / 896) + 3 := by
    show 4 * (4 * ((r : ℕ) / 1024 - 0) + 1 * ((k : ℕ) / 896 - 0)) + 3 = _
    omega
  have hN : pt2Of (ix2 r k) < cfg0.N := lt_of_lt_of_eq (by rw [hp]; omega) (show cfg0.N = 32 from N_0).symm
  have hl : loc2Of (ix2 r k) = ix2 ⟨(r : ℕ) % 1024, by omega⟩ ⟨(k : ℕ) % 896, by omega⟩ := by
    rw [eq_ix2 (loc2Of (ix2 r k))]
    rfl
  have h7 : pt2Of (ix2 r k) % 4 = 3 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 16 * 1024 + (r : ℕ) % 1024, by rw [hp]; omega⟩ : Fin 2048) = r := Fin.ext (by simp only [hp]; omega)
  have ek : (⟨pt2Of (ix2 r k) / 4 % 4 * 896 + (k : ℕ) % 896, by omega⟩ : Fin 3584) = k := Fin.ext (by simp only [hp]; omega)
  exact Finset.sum_congr rfl fun q _ => congrArg₂ (fun y z => x m c (ix2 q y) * dy m c (ix2 q z)) er ek

theorem reference_at (r : Fin 2048) (k : Fin 3584) :
    Cert.Reference13Ideal.Read.val_main_v2 (F := Ideal) (x m c) (dy m c) (ix2 r k) = ∑ q : Fin 4096, x m c (ix2 q r) * dy m c (ix2 q k) := by
  rw [Cert.Reference13Ideal.Read.val_main_v2_apply, Cert.Reference13Ideal.Read.val_main_v1_apply]
  refine Finset.sum_congr rfl fun q _ => (mul_comm (G := EReal) _ _).trans (congrArg₂ (fun x y : EReal => x * y) ?_ ?_)
  · exact congrArg (x m c) (eq_ix2 (Cert.Reference13Ideal.Read.ridx_main_v1 (Cert.Reference13Ideal.Read.idx_main_v2 (ix2 r k)) q))
  · exact congrArg (dy m c) (eq_ix2 (Cert.Reference13Ideal.Read.lidx_main_v1 (Cert.Reference13Ideal.Read.idx_main_v2 (ix2 r k)) q))

theorem result : (G2 m c : FVec Ideal S2048x3584 .f32) = Cert.Reference13Ideal.Read.val_main_v2 (F := Ideal) (x m c) (dy m c) := by
  funext i
  obtain ⟨r, k, rfl⟩ : ∃ r k, i = ix2 r k := ⟨i 0, i 1, eq_ix2 i⟩
  exact (G2_at m c r k).trans (reference_at m c r k).symm

end Cert.Kernel13Ideal.Product

end
-- ==== Proof.Projection.lean ====
module

public import proofs.«01_k».proof.Defs
public import proofs.«01_k».proof.Proof.Gen.Reference11Ideal.Run
public import proofs.«01_k».proof.Proof.Gen.Reference12Ideal.Run
public import proofs.«01_k».proof.Proof.Gen.Reference13Ideal.Run
public import proofs.«01_k».proof.Proof.Finite
public import proofs.«01_k».proof.Proof.Prod11
public import proofs.«01_k».proof.Proof.Prod12
public import proofs.«01_k».proof.Proof.Prod13
public import Idealize.ShloMosaic.Adequacy
public import Idealize.ShloMosaic.Init
public import Idealize.ShloMosaic.Lib.Claim

/-! The input projection and its two gradients beside their references, and the frames of the references. -/

set_option maxRecDepth 16384

@[expose] public noncomputable section

namespace Cert.Projection

open Idealize.ShloMosaic Idealize.ShloMosaic.TcCoe Idealize.SL.Sem

/-- The shape facts the finiteness conditions state. -/
theorem facts11 : Cert.Pre_finite11.Facts where
  bcast_S_S4096x2048 := by decide +kernel
  bcast_S_S2048x3392 := by decide +kernel

theorem facts12 : Cert.Pre_finite12.Facts where
  bcast_S_S2048x3392 := by decide +kernel
  bcast_S_S4096x3584 := by decide +kernel

/-- The preconditions say that the arguments they name are arrays of real numbers. -/
theorem real11 [Cert.Pre_finite11.Facts] (m : (ℓ : Loc Cert.Kernel11Ideal.nD Cert.Kernel11Ideal.τ Cert.Kernel11Ideal.sig) → Buf (Elt Ideal) ℓ)
    (hp : Cert.Pre_Kernel11Ideal_finite11 m) (c : Dev Cert.Kernel11Ideal.nD) :
    (∃ X : Cert.Kernel11Ideal.S4096x2048.Idx → ℝ, ∀ i, Cert.Kernel11Ideal.Product.x m c i = ((X i : ℝ) : EReal))
    ∧ (∃ X : Cert.Kernel11Ideal.S2048x3392.Idx → ℝ, ∀ i, Cert.Kernel11Ideal.Product.w m c i = ((X i : ℝ) : EReal)) := by
  obtain ⟨h0, h1⟩ := hp c
  exact ⟨Cert.Pre_finite.Holds.real_of_test _ _ h0, Cert.Pre_finite.Holds.real_of_test _ _ h1⟩

theorem real12 [Cert.Pre_finite12.Facts] (m : (ℓ : Loc Cert.Kernel12Ideal.nD Cert.Kernel12Ideal.τ Cert.Kernel12Ideal.sig) → Buf (Elt Ideal) ℓ)
    (hp : Cert.Pre_Kernel12Ideal_finite12 m) (c : Dev Cert.Kernel12Ideal.nD) :
    (∃ X : Cert.Kernel12Ideal.S2048x3392.Idx → ℝ, ∀ i, Cert.Kernel12Ideal.Product.w m c i = ((X i : ℝ) : EReal))
    ∧ (∃ X : Cert.Kernel12Ideal.S4096x3584.Idx → ℝ, ∀ i, Cert.Kernel12Ideal.Product.dy m c i = ((X i : ℝ) : EReal)) := by
  obtain ⟨h1, h2⟩ := hp c
  exact ⟨Cert.Pre_finite.Holds.real_of_test _ _ h1, Cert.Pre_finite.Holds.real_of_test _ _ h2⟩

theorem algebraic11 : @Cert.algebraic_Kernel11Ideal_Reference11Ideal_pre_finite11 Cert.Kernel11Ideal.Gen.facts Cert.Reference11Ideal.Gen.facts facts11 := by
  have := facts11
  pair_intro
  · run_from Cert.Kernel11Ideal.Value.run m g
  · run_from Cert.Reference11Ideal.Value.run m' g'
    obtain ⟨⟨X, hX⟩, W, hW⟩ := real11 m hpre c
    exact (Cert.Reference11Ideal.Read.val_main_v10_eq _ _).trans (Cert.Kernel11Ideal.Product.result m c X W hX hW).symm

theorem algebraic12 : @Cert.algebraic_Kernel12Ideal_Reference12Ideal_pre_finite12 Cert.Kernel12Ideal.Gen.facts Cert.Reference12Ideal.Gen.facts facts12 := by
  have := facts12
  pair_intro
  · run_from Cert.Kernel12Ideal.Value.run m g
  · run_from Cert.Reference12Ideal.Value.run m' g'
    obtain ⟨⟨W, hW⟩, D, hD⟩ := real12 m hpre c
    exact (Cert.Reference12Ideal.Read.val_main_v36_eq _ _).trans (Cert.Kernel12Ideal.Product.result m c W D hW hD).symm

theorem algebraic13 : @Cert.algebraic_Kernel13Ideal_Reference13Ideal Cert.Kernel13Ideal.Gen.facts Cert.Reference13Ideal.Gen.facts := by
  pair_intro
  · run_from Cert.Kernel13Ideal.Value.run m g
  · run_from Cert.Reference13Ideal.Value.run m' g'
    exact (Cert.Reference13Ideal.Read.val_main_v2_eq _ _).trans (Cert.Kernel13Ideal.Product.result m c).symm

theorem frame11 : @Cert.quiescent_Reference11Ideal Cert.Reference11Ideal.Gen.facts := by
  intro m g _
  exact (θ_run _ _ _).mono (fun r h => ⟨fun c => (h c).2, funext fun s => nomatch s⟩) (Cert.Reference11Ideal.Value.run m g)

theorem frame12 : @Cert.quiescent_Reference12Ideal Cert.Reference12Ideal.Gen.facts := by
  intro m g _
  exact (θ_run _ _ _).mono (fun r h => ⟨fun c => (h c).2, funext fun s => nomatch s⟩) (Cert.Reference12Ideal.Value.run m g)

theorem frame13 : @Cert.quiescent_Reference13Ideal Cert.Reference13Ideal.Gen.facts := by
  intro m g _
  exact (θ_run _ _ _).mono (fun r h => ⟨fun c => (h c).2, funext fun s => nomatch s⟩) (Cert.Reference13Ideal.Value.run m g)

end Cert.Projection

end
-- ==== Proof.Prod14.lean ====
module

public import proofs.«01_k».proof.Proof.Gen.Kernel14Ideal.Value
public import proofs.«01_k».proof.Proof.Gen.Reference14Ideal.Read
public import proofs.«01_k».proof.Proof.Layouts

/-! The keys and values expanded from their compressed form. -/

set_option maxRecDepth 16384

@[expose] public noncomputable section

open Idealize.ShloMosaic Idealize.ShloMosaic.TcCoe Idealize.SL.Sem

namespace Cert.Kernel14Ideal.Product

open Cert.Kernel14Ideal Cert.Kernel14Ideal.Gen Cert.Kernel14Ideal.Value Cert.Layouts

variable (m : (ℓ : Loc nD τ sig) → Buf (Elt Ideal) ℓ) (c : Dev nD)

abbrev x : FVec Ideal S4096x256 .f32 := m ((c : Thread nD τ).loc main_arg0)
abbrev w : FVec Ideal S256x2048 .f32 := m ((c : Thread nD τ).loc main_arg1)

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem point_lt (t : Fin cfg0.N) : t.val < 8 := lt_of_lt_of_eq t.isLt (show cfg0.N = 8 from N_0)

theorem view0 (t : Fin cfg0.N) (X : FVec Ideal S4096x256 .bf16) (r : Fin 1024) (d : Fin 256) :
    (((cfg0.win 0).blk t).view.read (Elt Ideal) X : FVec Ideal S1024x256 .bf16) (ix2 r d)
      = X (ix2 ⟨t.val / 2 * 1024 + r, by have := point_lt t; omega⟩ d) := by
  blk_ext [idx t]

theorem view1 (t : Fin cfg0.N) (X : FVec Ideal S256x2048 .bf16) (d : Fin 256) (k : Fin 1024) :
    (((cfg0.win 1).blk t).view.read (Elt Ideal) X : FVec Ideal S256x1024 .bf16) (ix2 d k)
      = X (ix2 d ⟨t.val % 2 * 1024 + k, by omega⟩) := by
  blk_ext [idx t]

theorem view2 (t : Fin cfg0.N) (X : FVec Ideal S4096x2048 .f32) (r k : Fin 1024) :
    (((cfg0.win 2).blk t).view.read (Elt Ideal) X : FVec Ideal S1024x1024 .f32) (ix2 r k)
      = X (ix2 ⟨t.val / 2 * 1024 + r, by have := point_lt t; omega⟩ ⟨t.val % 2 * 1024 + k, by omega⟩) := by
  blk_ext [idx t]

theorem clear_at (r k : Fin 1024) : k0_pay1 (F := Ideal) (ix2 r k) = 0 := by
  pointwise [k0_pay1]

theorem step_at (x : FVec Ideal S1024x1024 .f32) (a : FVec Ideal S1024x256 .bf16) (b : FVec Ideal S256x1024 .bf16) (r k : Fin 1024) :
    k0_pay2 (F := Ideal) x a b (ix2 r k) = x (ix2 r k) + ∑ d : Fin 256, a (ix2 r d) * b (ix2 d k) := by
  pointwise [k0_pay2]

/-- The two operands' blocks at a point. -/
def lhs (t : Fin cfg0.N) (r : Fin 1024) (d : Fin 256) : EReal := (iblk m c 0 t : FVec Ideal S1024x256 .bf16) (ix2 r d)
def rhs (t : Fin cfg0.N) (k : Fin 1024) (d : Fin 256) : EReal := (iblk m c 1 t : FVec Ideal S256x1024 .bf16) (ix2 d k)

theorem lhs_at (t : Fin cfg0.N) (r : Fin 1024) (d : Fin 256) : lhs m c t r d
    = x m c (ix2 ⟨t.val / 2 * 1024 + r, by have := point_lt t; omega⟩ d) := by
  unfold lhs iblk
  exact view0 t (V m c main_v0) r d

theorem rhs_at (t : Fin cfg0.N) (k : Fin 1024) (d : Fin 256) : rhs m c t k d = w m c (ix2 d ⟨t.val % 2 * 1024 + k, by omega⟩) := by
  unfold rhs iblk
  exact view1 t (V m c main_v1) d k

/-- What a point leaves in its block. -/
theorem out_at (t : Fin cfg0.N) (r k : Fin 1024) :
    (outsAt0 m c t : FVec Ideal S1024x1024 .f32) (ix2 r k) = ∑ d, lhs m c t r d * rhs m c t k d := by
  refine Eq.trans ?_ (zero_add _)
  unfold outsAt0
  frame_out
  rw [step_at, clear_at]
  rfl

/-- The plain product. -/
abbrev G : FVec Ideal S4096x2048 .f32 := Cert.Reference14Ideal.Read.val_main_v0 (F := Ideal) (x m c) (w m c)

theorem G_at (r : Fin 4096) (k : Fin 2048) : G m c (ix2 r k) = ∑ j : Fin 256, x m c (ix2 r j) * w m c (ix2 j k) := by
  rw [G, Cert.Reference14Ideal.Read.val_main_v0_apply]
  exact Finset.sum_congr rfl fun j _ => congrArg₂ (fun x y : EReal => x * y)
    (congrArg (x m c) (eq_ix2 (Cert.Reference14Ideal.Read.lidx_main_v0 (ix2 r k) j)))
    (congrArg (w m c) (eq_ix2 (Cert.Reference14Ideal.Read.ridx_main_v0 (ix2 r k) j)))

/-- What a point writes back is its block of the product. -/
theorem flushed_eq (t : Fin cfg0.N) : (dats m 0 c).flushed 2 t = ((cfg0.win 2).blk t).view.read (Elt Ideal) (G m c) := by
  rw [flushed2]
  funext y
  obtain ⟨r, k, rfl⟩ : ∃ r k, y = (ix2 r k : S1024x1024.Idx) := ⟨y 0, y 1, eq_ix2 (y : S1024x1024.Idx)⟩
  have e : (cfg0.win 2).xinj (grid0.coords t) (ix2 r k : S1024x1024.Idx) = (ix2 r k : S1024x1024.Idx) := by
    funext a
    match a with
    | ⟨0, _⟩ => rfl
    | ⟨1, _⟩ => rfl
  refine Eq.trans ?_ (view2 t (G m c) r k).symm
  show (outsAt0 m c t : FVec Ideal S1024x1024 .f32) ((cfg0.win 2).xinj (grid0.coords t) (ix2 r k : S1024x1024.Idx)) = _
  rw [e]
  refine (out_at m c t r k).trans (Eq.trans ?_ (G_at m c _ _).symm)
  simp only [lhs_at, rhs_at]

theorem mem_block (t : Fin cfg0.N) (i : S4096x2048.Idx) : i ∈ ((cfg0.win 2).blk t).view.set
    ↔ ∀ a : Fin 2, win0_2.index t a * S1024x1024.size a ≤ (i a).val ∧ (i a).val < win0_2.index t a * S1024x1024.size a + S1024x1024.size a := by
  change i ∈ ((View.whole main_v2).slice (win0_2.rect t)).set ↔ _
  rw [View.set_slice_whole, Rect.mem_set_unit]
  rfl

/-- Every entry is in the block of a point. -/
theorem covered (i : S4096x2048.Idx) : ∃ t : Fin cfg0.N, (cfg0.win 2).flush t = true ∧ i ∈ ((cfg0.win 2).blk t).view.set := by
  have b0 : (i 0).val < 4096 := (i 0).isLt
  have b1 : (i 1).val < 2048 := (i 1).isLt
  obtain ⟨t, ht⟩ : ∃ t : Fin cfg0.N, t.val = 2 * ((i 0).val / 1024) + (i 1).val / 1024 :=
    ⟨⟨_, lt_of_lt_of_eq (by omega) (show cfg0.N = 8 from N_0).symm⟩, rfl⟩
  refine ⟨t, flush0_2 t, (mem_block t i).mpr fun a => ?_⟩
  have hi := (idx t).2.2
  have i0 : win0_2.index t 0 = t.val / 2 := congrFun hi 0
  have i1 : win0_2.index t 1 = t.val % 2 := congrFun hi 1
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

theorem result : (dats m 0 c).arrAt 2 cfg0.N = G m c :=
  (dats m 0 c).arrAt_eq_of_cover 2 (G m c) (fun t _ => flushed_eq m c t) (fun i => covered i)

end Cert.Kernel14Ideal.Product

end
-- ==== Proof.Prod15.lean ====
module

public import proofs.«01_k».proof.Proof.Gen.Kernel15Ideal.Value
public import proofs.«01_k».proof.Proof.Gen.Reference15Ideal.Read
public import proofs.«01_k».proof.Proof.Layouts

/-! The gradient of the compressed keys and values. -/

set_option maxRecDepth 16384

@[expose] public noncomputable section

open Idealize.ShloMosaic Idealize.ShloMosaic.TcCoe Idealize.SL.Sem

namespace Cert.Kernel15Ideal.Product

open Cert.Kernel15Ideal Cert.Kernel15Ideal.Gen Cert.Kernel15Ideal.Value Cert.Layouts

variable (m : (ℓ : Loc nD τ sig) → Buf (Elt Ideal) ℓ) (c : Dev nD)

abbrev dy : FVec Ideal S4096x2048 .f32 := m ((c : Thread nD τ).loc main_arg2)
abbrev w : FVec Ideal S256x2048 .f32 := m ((c : Thread nD τ).loc main_arg1)

theorem idx : ∀ t : Fin cfg0.N, win0_0.index t = ![t.val / 2, t.val % 2] ∧ win0_1.index t = ![t.val / 2 % 1, t.val % 2] :=
  (by decide +kernel : ∀ t : Fin grid0.N, _)

theorem point_lt (t : Fin cfg0.N) : t.val < 8 := lt_of_lt_of_eq t.isLt (show cfg0.N = 8 from N_0)

theorem view0 (t : Fin cfg0.N) (X : FVec Ideal S4096x2048 .bf16) (r d : Fin 1024) :
    (((cfg0.win 0).blk t).view.read (Elt Ideal) X : FVec Ideal S1024x1024 .bf16) (ix2 r d)
      = X (ix2 ⟨t.val / 2 * 1024 + r, by have := point_lt t; omega⟩ ⟨t.val % 2 * 1024 + d, by omega⟩) := by
  blk_ext [idx t]

theorem view1 (t : Fin cfg0.N) (X : FVec Ideal S256x2048 .bf16) (k : Fin 256) (d : Fin 1024) :
    (((cfg0.win 1).blk t).view.read (Elt Ideal) X : FVec Ideal S256x1024 .bf16) (ix2 k d)
      = X (ix2 ⟨t.val / 2 % 1 * 256 + k, by omega⟩ ⟨t.val % 2 * 1024 + d, by omega⟩) := by
  blk_ext [idx t]

theorem clear_at (r : Fin 1024) (k : Fin 256) : k0_pay1 (F := Ideal) (ix2 r k) = 0 := by
  pointwise [k0_pay1]

theorem step_at (x : FVec Ideal S1024x256 .f32) (a : FVec Ideal S1024x1024 .bf16) (b : FVec Ideal S256x1024 .bf16) (r : Fin 1024) (k : Fin 256) :
    k0_pay2 (F := Ideal) x a b (ix2 r k) = x (ix2 r k) + ∑ d : Fin 1024, a (ix2 r d) * b (ix2 k d) := by
  pointwise [k0_pay2]

/-- What is carried from point to point. -/
def acc (n : ℕ) (hn : n < cfg0.N) : FVec Ideal S1024x256 .f32 := (outsAt0 m c n hn).2

/-- The two operands' blocks at a point. -/
def lhs (t : Fin cfg0.N) (r d : Fin 1024) : EReal := (iblk m c 0 t : FVec Ideal S1024x1024 .bf16) (ix2 r d)
def rhs (t : Fin cfg0.N) (k : Fin 256) (d : Fin 1024) : EReal := (iblk m c 1 t : FVec Ideal S256x1024 .bf16) (ix2 k d)

theorem lhs_at (t : Fin cfg0.N) (r d : Fin 1024) : lhs m c t r d
    = dy m c (ix2 ⟨t.val / 2 * 1024 + r, by have := point_lt t; omega⟩ ⟨t.val % 2 * 1024 + d, by omega⟩) := by
  unfold lhs iblk
  exact view0 t (V m c main_v0) r d

theorem rhs_at (t : Fin cfg0.N) (k : Fin 256) (d : Fin 1024) : rhs m c t k d
    = w m c (ix2 ⟨t.val / 2 % 1 * 256 + k, by omega⟩ ⟨t.val % 2 * 1024 + d, by omega⟩) := by
  unfold rhs iblk
  exact view1 t (V m c main_v1) k d

theorem acc_first (t : Fin cfg0.N) (h0 : t.val % 2 = 0) (r : Fin 1024) (k : Fin 256) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 2 = 0) (r : Fin 1024) (k : Fin 256) :
    acc m c t.val t.isLt (ix2 r k) = acc m c (t.val - 1) (by omega) (ix2 r k) + ∑ d, lhs m c t r d * rhs m c t k d := by
  rw [acc, outsAt0_B m c t h0 (by omega)]
  frame_out
  rw [step_at]
  exact congrArg (· + _) (congrFun ((Memref.isWhole_whole cc0_scratch0).read_unread _) _)

/-- At the last point of a run what is carried is written out. -/
theorem out_last (t : Fin cfg0.N) (h1 : t.val % 2 = 1) : (outsAt0 m c t.val t.isLt).1 = acc m c t.val t.isLt := by
  rw [acc, outsAt0_B m c t (by omega) h1]
  frame_out

theorem at_run (t : Fin cfg0.N) (h1 : t.val % 2 = 1) (r : Fin 1024) (k : Fin 256) :
    acc m c t.val t.isLt (ix2 r k) = ∑ q : Fin 2048,
      dy m c (ix2 ⟨t.val / 2 * 1024 + r, by have := point_lt t; omega⟩ q) * w m c (ix2 ⟨t.val / 2 % 1 * 256 + k, by omega⟩ q) := by
  rw [carried_sum (acc m c) (lhs m c) (rhs m c) (acc_first m c) (acc_next m c) t h1 r k]
  refine Fin.sum_mul_add_congr fun s d hl => congrArg₂ (fun x y : EReal => x * y) ?_ ?_
  · have e₁ : (2 * (t.val / 2) + s.val) / 2 = t.val / 2 := by omega
    have e₂ : (2 * (t.val / 2) + s.val) % 2 = s := by omega
    simp only [lhs_at, e₁, e₂]
  · have e₁ : (2 * (t.val / 2) + s.val) / 2 % 1 = t.val / 2 % 1 := by omega
    have e₂ : (2 * (t.val / 2) + s.val) % 2 = s := by omega
    simp only [rhs_at, e₁, e₂]

theorem G2_at (r : Fin 4096) (k : Fin 256) : (G2 m c : FVec Ideal S4096x256 .f32) (ix2 r k)
    = ∑ j : Fin 2048, dy m c (ix2 r j) * w m c (ix2 k j) := by
  have hp : pt2Of (ix2 r k) = 2 * (1 * ((r : ℕ) / 1024) + (k : ℕ) / 256) + 1 := by
    show 2 * (1 * ((r : ℕ) / 1024 - 0) + 1 * ((k : ℕ) / 256 - 0)) + 1 = _
    omega
  have hN : pt2Of (ix2 r k) < cfg0.N := lt_of_lt_of_eq (by rw [hp]; omega) (show cfg0.N = 8 from N_0).symm
  have hl : loc2Of (ix2 r k) = ix2 ⟨(r : ℕ) % 1024, by omega⟩ ⟨(k : ℕ) % 256, by omega⟩ := by
    rw [eq_ix2 (loc2Of (ix2 r k))]
    rfl
  have h7 : pt2Of (ix2 r k) % 2 = 1 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 2 * 1024 + (r : ℕ) % 1024, by rw [hp]; omega⟩ : Fin 4096) = r := Fin.ext (by simp only [hp]; omega)
  have ek : (⟨pt2Of (ix2 r k) / 2 % 1 * 256 + (k : ℕ) % 256, by omega⟩ : Fin 256) = k := Fin.ext (by simp only [hp]; omega)
  exact Finset.sum_congr rfl fun q _ => congrArg₂ (fun y z => dy m c (ix2 y q) * w m c (ix2 z q)) er ek

theorem result : (G2 m c : FVec Ideal S4096x256 .f32) = Cert.Reference15Ideal.Read.val_main_v3 (F := Ideal) (w m c) (dy m c) := by
  funext i
  obtain ⟨r, k, rfl⟩ : ∃ r k, i = ix2 r k := ⟨i 0, i 1, eq_ix2 i⟩
  have e : ∑ j : Fin 2048, dy m c (ix2 r j) * w m c (ix2 k j) = Cert.Reference15Ideal.Read.val_main_v3 (F := Ideal) (w m c) (dy m c) (ix2 r k) := by
    rw [Cert.Reference15Ideal.Read.val_main_v3_apply]
    exact Finset.sum_congr rfl fun j _ => congrArg₂ (fun x y : EReal => x * y)
      (congrArg (dy m c) (eq_ix2 (Cert.Reference15Ideal.Read.lidx_main_v3 (ix2 r k) j)).symm)
      (congrArg (w m c) (eq_ix2 (Cert.Reference15Ideal.Read.ridx_main_v3 (ix2 r k) j)).symm)
  exact (G2_at m c r k).trans e

end Cert.Kernel15Ideal.Product

end
-- ==== Proof.Prod16.lean ====
module

public import proofs.«01_k».proof.Proof.Gen.Kernel16Ideal.Value
public import proofs.«01_k».proof.Proof.Gen.Reference16Ideal.Read
public import proofs.«01_k».proof.Proof.Layouts

/-! The gradient of the weights that expand the compressed keys and values. -/

set_option maxRecDepth 16384

@[expose] public noncomputable section

open Idealize.ShloMosaic Idealize.ShloMosaic.TcCoe Idealize.SL.Sem

namespace Cert.Kernel16Ideal.Product

open Cert.Kernel16Ideal Cert.Kernel16Ideal.Gen Cert.Kernel16Ideal.Value Cert.Layouts

variable (m : (ℓ : Loc nD τ sig) → Buf (Elt Ideal) ℓ) (c : Dev nD)

abbrev x : FVec Ideal S4096x256 .f32 := m ((c : Thread nD τ).loc main_arg0)
abbrev dy : FVec Ideal S4096x2048 .f32 := m ((c : Thread nD τ).loc main_arg2)

theorem idx : ∀ t : Fin cfg0.N,
    win0_0.index t = ![t.val % 4, t.val / 8] ∧ win0_1.index t = ![t.val % 4, t.val / 4 % 2] :=
  (by decide +kernel : ∀ t : Fin grid0.N, _)

theorem point_lt (t : Fin cfg0.N) : t.val < 8 := lt_of_lt_of_eq t.isLt (show cfg0.N = 8 from N_0)

theorem view0 (t : Fin cfg0.N) (X : FVec Ideal S4096x256 .bf16) (d : Fin 1024) (r : Fin 256) :
    (((cfg0.win 0).blk t).view.read (Elt Ideal) X : FVec Ideal S1024x256 .bf16) (ix2 d r)
      = X (ix2 ⟨t.val % 4 * 1024 + d, by omega⟩ ⟨t.val / 8 * 256 + r, by have := point_lt t; omega⟩) := by
  blk_ext [idx t]

theorem view1 (t : Fin cfg0.N) (X : FVec Ideal S4096x2048 .bf16) (d : Fin 1024) (k : Fin 1024) :
    (((cfg0.win 1).blk t).view.read (Elt Ideal) X : FVec Ideal S1024x1024 .bf16) (ix2 d k)
      = X (ix2 ⟨t.val % 4 * 1024 + d, by omega⟩ ⟨t.val / 4 % 2 * 1024 + k, by omega⟩) := by
  blk_ext [idx t]

theorem clear_at (r : Fin 256) (k : Fin 1024) : k0_pay1 (F := Ideal) (ix2 r k) = 0 := by
  pointwise [k0_pay1]

theorem step_at (x : FVec Ideal S256x1024 .f32) (a : FVec Ideal S1024x256 .bf16) (b : FVec Ideal S1024x1024 .bf16) (r : Fin 256) (k : Fin 1024) :
    k0_pay2 (F := Ideal) x a b (ix2 r k) = x (ix2 r k) + ∑ d : Fin 1024, a (ix2 d r) * b (ix2 d k) := by
  pointwise [k0_pay2]

/-- What is carried from point to point. -/
def acc (n : ℕ) (hn : n < cfg0.N) : FVec Ideal S256x1024 .f32 := (outsAt0 m c n hn).2

/-- The two operands' blocks at a point. -/
def lhs (t : Fin cfg0.N) (r : Fin 256) (d : Fin 1024) : EReal := (iblk m c 0 t : FVec Ideal S1024x256 .bf16) (ix2 d r)
def rhs (t : Fin cfg0.N) (k : Fin 1024) (d : Fin 1024) : EReal := (iblk m c 1 t : FVec Ideal S1024x1024 .bf16) (ix2 d k)

theorem lhs_at (t : Fin cfg0.N) (r : Fin 256) (d : Fin 1024) : lhs m c t r d
    = x m c (ix2 ⟨t.val % 4 * 1024 + d, by omega⟩ ⟨t.val / 8 * 256 + r, by have := point_lt t; omega⟩) := by
  unfold lhs iblk
  exact view0 t (V m c main_v0) d r

theorem rhs_at (t : Fin cfg0.N) (k : Fin 1024) (d : Fin 1024) : rhs m c t k d
    = dy m c (ix2 ⟨t.val % 4 * 1024 + d, by omega⟩ ⟨t.val / 4 % 2 * 1024 + k, by omega⟩) := by
  unfold rhs iblk
  exact view1 t (V m c main_v1) d k

theorem acc_first (t : Fin cfg0.N) (h0 : t.val % 4 = 0) (r : Fin 256) (k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r : Fin 256) (k : Fin 1024) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = acc m c t.val t.isLt := by
  rw [acc, outsAt0_C m c t (by omega) h1]
  frame_out

theorem at_run (t : Fin cfg0.N) (h1 : t.val % 4 = 3) (r : Fin 256) (k : Fin 1024) :
    acc m c t.val t.isLt (ix2 r k) = ∑ q : Fin 4096,
      x m c (ix2 q ⟨t.val / 8 * 256 + r, by have := point_lt t; omega⟩) * dy m c (ix2 q ⟨t.val / 4 % 2 * 1024 + k, by omega⟩) := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 8 = t.val / 8 := by omega
    have e₂ : (4 * (t.val / 4) + s.val) % 4 = s := by omega
    simp only [lhs_at, e₁, e₂]
  · have e₁ : (4 * (t.val / 4) + s.val) / 4 % 2 = t.val / 4 % 2 := by omega
    have e₂ : (4 * (t.val / 4) + s.val) % 4 = s := by omega
    simp only [rhs_at, e₁, e₂]

theorem G2_at (r : Fin 256) (k : Fin 2048) : (G2 m c : FVec Ideal S256x2048 .f32) (ix2 r k)
    = ∑ q : Fin 4096, x m c (ix2 q r) * dy m c (ix2 q k) := by
  have hp : pt2Of (ix2 r k) = 4 * (2 * ((r : ℕ) / 256) + (k : ℕ) / 1024) + 3 := by
    show 4 * (2 * ((r : ℕ) / 256 - 0) + 1 * ((k : ℕ) / 1024 - 0)) + 3 = _
    omega
  have hN : pt2Of (ix2 r k) < cfg0.N := lt_of_lt_of_eq (by rw [hp]; omega) (show cfg0.N = 8 from N_0).symm
  have hl : loc2Of (ix2 r k) = ix2 ⟨(r : ℕ) % 256, by omega⟩ ⟨(k : ℕ) % 1024, by omega⟩ := by
    rw [eq_ix2 (loc2Of (ix2 r k))]
    rfl
  have h7 : pt2Of (ix2 r k) % 4 = 3 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 8 * 256 + (r : ℕ) % 256, by rw [hp]; omega⟩ : Fin 256) = r := Fin.ext (by simp only [hp]; omega)
  have ek : (⟨pt2Of (ix2 r k) / 4 % 2 * 1024 + (k : ℕ) % 1024, by omega⟩ : Fin 2048) = k := Fin.ext (by simp only [hp]; omega)
  exact Finset.sum_congr rfl fun q _ => congrArg₂ (fun y z => x m c (ix2 q y) * dy m c (ix2 q z)) er ek

theorem reference_at (r : Fin 256) (k : Fin 2048) :
    Cert.Reference16Ideal.Read.val_main_v2 (F := Ideal) (x m c) (dy m c) (ix2 r k) = ∑ q : Fin 4096, x m c (ix2 q r) * dy m c (ix2 q k) := by
  rw [Cert.Reference16Ideal.Read.val_main_v2_apply, Cert.Reference16Ideal.Read.val_main_v1_apply]
  refine Finset.sum_congr rfl fun q _ => (mul_comm (G := EReal) _ _).trans (congrArg₂ (fun x y : EReal => x * y) ?_ ?_)
  · exact congrArg (x m c) (eq_ix2 (Cert.Reference16Ideal.Read.ridx_main_v1 (Cert.Reference16Ideal.Read.idx_main_v2 (ix2 r k)) q))
  · exact congrArg (dy m c) (eq_ix2 (Cert.Reference16Ideal.Read.lidx_main_v1 (Cert.Reference16Ideal.Read.idx_main_v2 (ix2 r k)) q))

theorem result : (G2 m c : FVec Ideal S256x2048 .f32) = Cert.Reference16Ideal.Read.val_main_v2 (F := Ideal) (x m c) (dy m c) := by
  funext i
  obtain ⟨r, k, rfl⟩ : ∃ r k, i = ix2 r k := ⟨i 0, i 1, eq_ix2 i⟩
  exact (G2_at m c r k).trans (reference_at m c r k).symm

end Cert.Kernel16Ideal.Product

end
-- ==== Proof.Prod17.lean ====
module

public import proofs.«01_k».proof.Proof.Gen.Kernel17Ideal.Value
public import proofs.«01_k».proof.Proof.Gen.Reference17Ideal.Read
public import proofs.«01_k».proof.Proof.Layouts

/-! The gradient of the weights of the state layer's gate. -/

set_option maxRecDepth 16384

@[expose] public noncomputable section

open Idealize.ShloMosaic Idealize.ShloMosaic.TcCoe Idealize.SL.Sem

namespace Cert.Kernel17Ideal.Product

open Cert.Kernel17Ideal Cert.Kernel17Ideal.Gen Cert.Kernel17Ideal.Value Cert.Layouts

variable (m : (ℓ : Loc nD τ sig) → Buf (Elt Ideal) ℓ) (c : Dev nD)

abbrev x : FVec Ideal S4096x512 .f32 := m ((c : Thread nD τ).loc main_arg0)
abbrev dy : FVec Ideal S4096x512 .f32 := m ((c : Thread nD τ).loc main_arg2)

theorem idx : ∀ t : Fin cfg0.N,
    win0_0.index t = ![t.val % 4, t.val / 4] ∧ win0_1.index t = ![t.val % 4, t.val / 4 % 1] :=
  (by decide +kernel : ∀ t : Fin grid0.N, _)

theorem point_lt (t : Fin cfg0.N) : t.val < 4 := lt_of_lt_of_eq t.isLt (show cfg0.N = 4 from N_0)

theorem view0 (t : Fin cfg0.N) (X : FVec Ideal S4096x512 .bf16) (d : Fin 1024) (r : Fin 512) :
    (((cfg0.win 0).blk t).view.read (Elt Ideal) X : FVec Ideal S1024x512 .bf16) (ix2 d r)
      = X (ix2 ⟨t.val % 4 * 1024 + d, by omega⟩ ⟨t.val / 4 * 512 + r, by have := point_lt t; omega⟩) := by
  blk_ext [idx t]

theorem view1 (t : Fin cfg0.N) (X : FVec Ideal S4096x512 .bf16) (d : Fin 1024) (k : Fin 512) :
    (((cfg0.win 1).blk t).view.read (Elt Ideal) X : FVec Ideal S1024x512 .bf16) (ix2 d k)
      = X (ix2 ⟨t.val % 4 * 1024 + d, by omega⟩ ⟨t.val / 4 % 1 * 512 + k, by omega⟩) := by
  blk_ext [idx t]

theorem clear_at (r : Fin 512) (k : Fin 512) : k0_pay1 (F := Ideal) (ix2 r k) = 0 := by
  pointwise [k0_pay1]

theorem step_at (x : FVec Ideal S512x512 .f32) (a : FVec Ideal S1024x512 .bf16) (b : FVec Ideal S1024x512 .bf16) (r : Fin 512) (k : Fin 512) :
    k0_pay2 (F := Ideal) x a b (ix2 r k) = x (ix2 r k) + ∑ d : Fin 1024, a (ix2 d r) * b (ix2 d k) := by
  pointwise [k0_pay2]

/-- What is carried from point to point. -/
def acc (n : ℕ) (hn : n < cfg0.N) : FVec Ideal S512x512 .f32 := (outsAt0 m c n hn).2

/-- The two operands' blocks at a point. -/
def lhs (t : Fin cfg0.N) (r : Fin 512) (d : Fin 1024) : EReal := (iblk m c 0 t : FVec Ideal S1024x512 .bf16) (ix2 d r)
def rhs (t : Fin cfg0.N) (k : Fin 512) (d : Fin 1024) : EReal := (iblk m c 1 t : FVec Ideal S1024x512 .bf16) (ix2 d k)

theorem lhs_at (t : Fin cfg0.N) (r : Fin 512) (d : Fin 1024) : lhs m c t r d
    = x m c (ix2 ⟨t.val % 4 * 1024 + d, by omega⟩ ⟨t.val / 4 * 512 + r, by have := point_lt t; omega⟩) := by
  unfold lhs iblk
  exact view0 t (V m c main_v0) d r

theorem rhs_at (t : Fin cfg0.N) (k : Fin 512) (d : Fin 1024) : rhs m c t k d
    = dy m c (ix2 ⟨t.val % 4 * 1024 + d, by omega⟩ ⟨t.val / 4 % 1 * 512 + k, by omega⟩) := by
  unfold rhs iblk
  exact view1 t (V m c main_v1) d k

theorem acc_first (t : Fin cfg0.N) (h0 : t.val % 4 = 0) (r : Fin 512) (k : Fin 512) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r : Fin 512) (k : Fin 512) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = acc m c t.val t.isLt := by
  rw [acc, outsAt0_C m c t (by omega) h1]
  frame_out

theorem at_run (t : Fin cfg0.N) (h1 : t.val % 4 = 3) (r : Fin 512) (k : Fin 512) :
    acc m c t.val t.isLt (ix2 r k) = ∑ q : Fin 4096,
      x m c (ix2 q ⟨t.val / 4 * 512 + r, by have := point_lt t; omega⟩) * dy m c (ix2 q ⟨t.val / 4 % 1 * 512 + k, by omega⟩) := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 4 = t.val / 4 := by omega
    have e₂ : (4 * (t.val / 4) + s.val) % 4 = s := by omega
    simp only [lhs_at, e₁, e₂]
  · have e₁ : (4 * (t.val / 4) + s.val) / 4 % 1 = t.val / 4 % 1 := by omega
    have e₂ : (4 * (t.val / 4) + s.val) % 4 = s := by omega
    simp only [rhs_at, e₁, e₂]

theorem G2_at (r : Fin 512) (k : Fin 512) : (G2 m c : FVec Ideal S512x512 .f32) (ix2 r k)
    = ∑ q : Fin 4096, x m c (ix2 q r) * dy m c (ix2 q k) := by
  have hp : pt2Of (ix2 r k) = 4 * (1 * ((r : ℕ) / 512) + (k : ℕ) / 512) + 3 := by
    show 4 * (1 * ((r : ℕ) / 512 - 0) + 1 * ((k : ℕ) / 512 - 0)) + 3 = _
    omega
  have hN : pt2Of (ix2 r k) < cfg0.N := lt_of_lt_of_eq (by rw [hp]; omega) (show cfg0.N = 4 from N_0).symm
  have hl : loc2Of (ix2 r k) = ix2 ⟨(r : ℕ) % 512, by omega⟩ ⟨(k : ℕ) % 512, by omega⟩ := by
    rw [eq_ix2 (loc2Of (ix2 r k))]
    rfl
  have h7 : pt2Of (ix2 r k) % 4 = 3 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 4 * 512 + (r : ℕ) % 512, by rw [hp]; omega⟩ : Fin 512) = r := Fin.ext (by simp only [hp]; omega)
  have ek : (⟨pt2Of (ix2 r k) / 4 % 1 * 512 + (k : ℕ) % 512, by omega⟩ : Fin 512) = k := Fin.ext (by simp only [hp]; omega)
  exact Finset.sum_congr rfl fun q _ => congrArg₂ (fun y z => x m c (ix2 q y) * dy m c (ix2 q z)) er ek

theorem reference_at (r : Fin 512) (k : Fin 512) :
    Cert.Reference17Ideal.Read.val_main_v2 (F := Ideal) (x m c) (dy m c) (ix2 r k) = ∑ q : Fin 4096, x m c (ix2 q r) * dy m c (ix2 q k) := by
  rw [Cert.Reference17Ideal.Read.val_main_v2_apply, Cert.Reference17Ideal.Read.val_main_v1_apply]
  refine Finset.sum_congr rfl fun q _ => (mul_comm (G := EReal) _ _).trans (congrArg₂ (fun x y : EReal => x * y) ?_ ?_)
  · exact congrArg (x m c) (eq_ix2 (Cert.Reference17Ideal.Read.ridx_main_v1 (Cert.Reference17Ideal.Read.idx_main_v2 (ix2 r k)) q))
  · exact congrArg (dy m c) (eq_ix2 (Cert.Reference17Ideal.Read.lidx_main_v1 (Cert.Reference17Ideal.Read.idx_main_v2 (ix2 r k)) q))

theorem result : (G2 m c : FVec Ideal S512x512 .f32) = Cert.Reference17Ideal.Read.val_main_v2 (F := Ideal) (x m c) (dy m c) := by
  funext i
  obtain ⟨r, k, rfl⟩ : ∃ r k, i = ix2 r k := ⟨i 0, i 1, eq_ix2 i⟩
  exact (G2_at m c r k).trans (reference_at m c r k).symm

end Cert.Kernel17Ideal.Product

end
-- ==== Proof.Prod18.lean ====
module

public import proofs.«01_k».proof.Proof.Gen.Kernel18Ideal.Value
public import proofs.«01_k».proof.Proof.Gen.Reference18Ideal.Read
public import proofs.«01_k».proof.Proof.Layouts

/-! The gradient of the weights that expand the compressed queries. -/

set_option maxRecDepth 16384

@[expose] public noncomputable section

open Idealize.ShloMosaic Idealize.ShloMosaic.TcCoe Idealize.SL.Sem

namespace Cert.Kernel18Ideal.Product

open Cert.Kernel18Ideal Cert.Kernel18Ideal.Gen Cert.Kernel18Ideal.Value Cert.Layouts

variable (m : (ℓ : Loc nD τ sig) → Buf (Elt Ideal) ℓ) (c : Dev nD)

abbrev x : FVec Ideal S4096x512 .f32 := m ((c : Thread nD τ).loc main_arg0)
abbrev dy : FVec Ideal S4096x2048 .f32 := m ((c : Thread nD τ).loc main_arg2)

theorem idx : ∀ t : Fin cfg0.N,
    win0_0.index t = ![t.val % 4, t.val / 8] ∧ win0_1.index t = ![t.val % 4, t.val / 4 % 2] :=
  (by decide +kernel : ∀ t : Fin grid0.N, _)

theorem point_lt (t : Fin cfg0.N) : t.val < 8 := lt_of_lt_of_eq t.isLt (show cfg0.N = 8 from N_0)

theorem view0 (t : Fin cfg0.N) (X : FVec Ideal S4096x512 .bf16) (d : Fin 1024) (r : Fin 512) :
    (((cfg0.win 0).blk t).view.read (Elt Ideal) X : FVec Ideal S1024x512 .bf16) (ix2 d r)
      = X (ix2 ⟨t.val % 4 * 1024 + d, by omega⟩ ⟨t.val / 8 * 512 + r, by have := point_lt t; omega⟩) := by
  blk_ext [idx t]

theorem view1 (t : Fin cfg0.N) (X : FVec Ideal S4096x2048 .bf16) (d : Fin 1024) (k : Fin 1024) :
    (((cfg0.win 1).blk t).view.read (Elt Ideal) X : FVec Ideal S1024x1024 .bf16) (ix2 d k)
      = X (ix2 ⟨t.val % 4 * 1024 + d, by omega⟩ ⟨t.val / 4 % 2 * 1024 + k, by omega⟩) := by
  blk_ext [idx t]

theorem clear_at (r : Fin 512) (k : Fin 1024) : k0_pay1 (F := Ideal) (ix2 r k) = 0 := by
  pointwise [k0_pay1]

theorem step_at (x : FVec Ideal S512x1024 .f32) (a : FVec Ideal S1024x512 .bf16) (b : FVec Ideal S1024x1024 .bf16) (r : Fin 512) (k : Fin 1024) :
    k0_pay2 (F := Ideal) x a b (ix2 r k) = x (ix2 r k) + ∑ d : Fin 1024, a (ix2 d r) * b (ix2 d k) := by
  pointwise [k0_pay2]

/-- What is carried from point to point. -/
def acc (n : ℕ) (hn : n < cfg0.N) : FVec Ideal S512x1024 .f32 := (outsAt0 m c n hn).2

/-- The two operands' blocks at a point. -/
def lhs (t : Fin cfg0.N) (r : Fin 512) (d : Fin 1024) : EReal := (iblk m c 0 t : FVec Ideal S1024x512 .bf16) (ix2 d r)
def rhs (t : Fin cfg0.N) (k : Fin 1024) (d : Fin 1024) : EReal := (iblk m c 1 t : FVec Ideal S1024x1024 .bf16) (ix2 d k)

theorem lhs_at (t : Fin cfg0.N) (r : Fin 512) (d : Fin 1024) : lhs m c t r d
    = x m c (ix2 ⟨t.val % 4 * 1024 + d, by omega⟩ ⟨t.val / 8 * 512 + r, by have := point_lt t; omega⟩) := by
  unfold lhs iblk
  exact view0 t (V m c main_v0) d r

theorem rhs_at (t : Fin cfg0.N) (k : Fin 1024) (d : Fin 1024) : rhs m c t k d
    = dy m c (ix2 ⟨t.val % 4 * 1024 + d, by omega⟩ ⟨t.val / 4 % 2 * 1024 + k, by omega⟩) := by
  unfold rhs iblk
  exact view1 t (V m c main_v1) d k

theorem acc_first (t : Fin cfg0.N) (h0 : t.val % 4 = 0) (r : Fin 512) (k : Fin 1024) :
    acc m c t.val t.isLt (ix2 r k) = 0 + ∑ d, lhs m c t r d * rhs m c t k d := by
  rw [acc, outsAt0_A m c t h0 (by omega)]
  frame_out
  rw [step_at, clear_at]
  rfl

theorem acc_next (t : Fin cfg0.N) (h0 : ¬t.val % 4 = 0) (r : Fin 512) (k : Fin 1024) :
    acc m c t.val t.isLt (ix2 r k) = acc m c (t.val - 1) (by omega) (ix2 r k) + ∑ d, lhs m c t r d * rhs m c t k d := by
  rw [acc]
  by_cases h1 : t.val % 4 = 3
  · rw [outsAt0_C m c t h0 h1]
    frame_out
    rw [step_at]
    exact congrArg (· + _) (congrFun ((Memref.isWhole_whole cc0_scratch0).read_unread _) _)
  · rw [outsAt0_B m c t h0 h1]
    frame_out
    rw [step_at]
    exact congrArg (· + _) (congrFun ((Memref.isWhole_whole cc0_scratch0).read_unread _) _)

/-- At the last point of a run what is carried is written out. -/
theorem out_last (t : Fin cfg0.N) (h1 : t.val % 4 = 3) : (outsAt0 m c t.val t.isLt).1 = acc m c t.val t.isLt := by
  rw [acc, outsAt0_C m c t (by omega) h1]
  frame_out

theorem at_run (t : Fin cfg0.N) (h1 : t.val % 4 = 3) (r : Fin 512) (k : Fin 1024) :
    acc m c t.val t.isLt (ix2 r k) = ∑ q : Fin 4096,
      x m c (ix2 q ⟨t.val / 8 * 512 + r, by have := point_lt t; omega⟩) * dy m c (ix2 q ⟨t.val / 4 % 2 * 1024 + k, by omega⟩) := by
  rw [carried_sum (acc m c) (lhs m c) (rhs m c) (acc_first m c) (acc_next m c) t h1 r k]
  refine Fin.sum_mul_add_congr fun s d hl => congrArg₂ (fun x y : EReal => x * y) ?_ ?_
  · have e₁ : (4 * (t.val / 4) + s.val) / 8 = t.val / 8 := by omega
    have e₂ : (4 * (t.val / 4) + s.val) % 4 = s := by omega
    simp only [lhs_at, e₁, e₂]
  · have e₁ : (4 * (t.val / 4) + s.val) / 4 % 2 = t.val / 4 % 2 := by omega
    have e₂ : (4 * (t.val / 4) + s.val) % 4 = s := by omega
    simp only [rhs_at, e₁, e₂]

theorem G2_at (r : Fin 512) (k : Fin 2048) : (G2 m c : FVec Ideal S512x2048 .f32) (ix2 r k)
    = ∑ q : Fin 4096, x m c (ix2 q r) * dy m c (ix2 q k) := by
  have hp : pt2Of (ix2 r k) = 4 * (2 * ((r : ℕ) / 512) + (k : ℕ) / 1024) + 3 := by
    show 4 * (2 * ((r : ℕ) / 512 - 0) + 1 * ((k : ℕ) / 1024 - 0)) + 3 = _
    omega
  have hN : pt2Of (ix2 r k) < cfg0.N := lt_of_lt_of_eq (by rw [hp]; omega) (show cfg0.N = 8 from N_0).symm
  have hl : loc2Of (ix2 r k) = ix2 ⟨(r : ℕ) % 512, by omega⟩ ⟨(k : ℕ) % 1024, by omega⟩ := by
    rw [eq_ix2 (loc2Of (ix2 r k))]
    rfl
  have h7 : pt2Of (ix2 r k) % 4 = 3 := by rw [hp]; omega
  rw [G2, dif_pos hN, ← outsAt0_sweep m c _ hN, hl, out_last m c ⟨_, hN⟩ h7]
  refine (at_run m c ⟨_, hN⟩ h7 _ _).trans ?_
  have er : (⟨pt2Of (ix2 r k) / 8 * 512 + (r : ℕ) % 512, by rw [hp]; omega⟩ : Fin 512) = r := Fin.ext (by simp only [hp]; omega)
  have ek : (⟨pt2Of (ix2 r k) / 4 % 2 * 1024 + (k : ℕ) % 1024, by omega⟩ : Fin 2048) = k := Fin.ext (by simp only [hp]; omega)
  exact Finset.sum_congr rfl fun q _ => congrArg₂ (fun y z => x m c (ix2 q y) * dy m c (ix2 q z)) er ek

theorem reference_at (r : Fin 512) (k : Fin 2048) :
    Cert.Reference18Ideal.Read.val_main_v2 (F := Ideal) (x m c) (dy m c) (ix2 r k) = ∑ q : Fin 4096, x m c (ix2 q r) * dy m c (ix2 q k) := by
  rw [Cert.Reference18Ideal.Read.val_main_v2_apply, Cert.Reference18Ideal.Read.val_main_v1_apply]
  refine Finset.sum_congr rfl fun q _ => (mul_comm (G := EReal) _ _).trans (congrArg₂ (fun x y : EReal => x * y) ?_ ?_)
  · exact congrArg (x m c) (eq_ix2 (Cert.Reference18Ideal.Read.ridx_main_v1 (Cert.Reference18Ideal.Read.idx_main_v2 (ix2 r k)) q))
  · exact congrArg (dy m c) (eq_ix2 (Cert.Reference18Ideal.Read.lidx_main_v1 (Cert.Reference18Ideal.Read.idx_main_v2 (ix2 r k)) q))

theorem result : (G2 m c : FVec Ideal S512x2048 .f32) = Cert.Reference18Ideal.Read.val_main_v2 (F := Ideal) (x m c) (dy m c) := by
  funext i
  obtain ⟨r, k, rfl⟩ : ∃ r k, i = ix2 r k := ⟨i 0, i 1, eq_ix2 i⟩
  exact (G2_at m c r k).trans (reference_at m c r k).symm

end Cert.Kernel18Ideal.Product

end
-- ==== Proof.Expansions.lean ====
module

public import proofs.«01_k».proof.Defs
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Prod14
public import proofs.«01_k».proof.Proof.Prod15
public import proofs.«01_k».proof.Proof.Prod16
public import proofs.«01_k».proof.Proof.Prod17
public import proofs.«01_k».proof.Proof.Prod18
public import Idealize.ShloMosaic.Adequacy
public import Idealize.ShloMosaic.Init
public import Idealize.ShloMosaic.Lib.Claim

/-! The products that expand the compressed queries, keys and values, and the gate's weights, each beside its reference. -/

set_option maxRecDepth 16384

@[expose] public noncomputable section

namespace Cert.Expansions

open Idealize.ShloMosaic Idealize.ShloMosaic.TcCoe Idealize.SL.Sem

theorem algebraic14 : @Cert.algebraic_Kernel14Ideal_Reference14Ideal Cert.Kernel14Ideal.Gen.facts Cert.Reference14Ideal.Gen.facts := by
  pair_intro
  · run_from Cert.Kernel14Ideal.Value.run_blocks m g
  · run_from Cert.Reference14Ideal.Value.run m' g'
    exact (Cert.Reference14Ideal.Read.val_main_v0_eq _ _).trans (Cert.Kernel14Ideal.Product.result m c).symm

theorem frame14 : @Cert.quiescent_Reference14Ideal Cert.Reference14Ideal.Gen.facts := by
  intro m g _
  exact (θ_run _ _ _).mono (fun r h => ⟨fun c => (h c).2, funext fun s => nomatch s⟩) (Cert.Reference14Ideal.Value.run m g)

theorem algebraic15 : @Cert.algebraic_Kernel15Ideal_Reference15Ideal Cert.Kernel15Ideal.Gen.facts Cert.Reference15Ideal.Gen.facts := by
  pair_intro
  · run_from Cert.Kernel15Ideal.Value.run m g
  · run_from Cert.Reference15Ideal.Value.run m' g'
    exact (Cert.Reference15Ideal.Read.val_main_v3_eq _ _).trans (Cert.Kernel15Ideal.Product.result m c).symm

theorem frame15 : @Cert.quiescent_Reference15Ideal Cert.Reference15Ideal.Gen.facts := by
  intro m g _
  exact (θ_run _ _ _).mono (fun r h => ⟨fun c => (h c).2, funext fun s => nomatch s⟩) (Cert.Reference15Ideal.Value.run m g)

theorem algebraic16 : @Cert.algebraic_Kernel16Ideal_Reference16Ideal Cert.Kernel16Ideal.Gen.facts Cert.Reference16Ideal.Gen.facts := by
  pair_intro
  · run_from Cert.Kernel16Ideal.Value.run m g
  · run_from Cert.Reference16Ideal.Value.run m' g'
    exact (Cert.Reference16Ideal.Read.val_main_v2_eq _ _).trans (Cert.Kernel16Ideal.Product.result m c).symm

theorem frame16 : @Cert.quiescent_Reference16Ideal Cert.Reference16Ideal.Gen.facts := by
  intro m g _
  exact (θ_run _ _ _).mono (fun r h => ⟨fun c => (h c).2, funext fun s => nomatch s⟩) (Cert.Reference16Ideal.Value.run m g)

theorem algebraic17 : @Cert.algebraic_Kernel17Ideal_Reference17Ideal Cert.Kernel17Ideal.Gen.facts Cert.Reference17Ideal.Gen.facts := by
  pair_intro
  · run_from Cert.Kernel17Ideal.Value.run m g
  · run_from Cert.Reference17Ideal.Value.run m' g'
    exact (Cert.Reference17Ideal.Read.val_main_v2_eq _ _).trans (Cert.Kernel17Ideal.Product.result m c).symm

theorem frame17 : @Cert.quiescent_Reference17Ideal Cert.Reference17Ideal.Gen.facts := by
  intro m g _
  exact (θ_run _ _ _).mono (fun r h => ⟨fun c => (h c).2, funext fun s => nomatch s⟩) (Cert.Reference17Ideal.Value.run m g)

theorem algebraic18 : @Cert.algebraic_Kernel18Ideal_Reference18Ideal Cert.Kernel18Ideal.Gen.facts Cert.Reference18Ideal.Gen.facts := by
  pair_intro
  · run_from Cert.Kernel18Ideal.Value.run m g
  · run_from Cert.Reference18Ideal.Value.run m' g'
    exact (Cert.Reference18Ideal.Read.val_main_v2_eq _ _).trans (Cert.Kernel18Ideal.Product.result m c).symm

theorem frame18 : @Cert.quiescent_Reference18Ideal Cert.Reference18Ideal.Gen.facts := by
  intro m g _
  exact (θ_run _ _ _).mono (fun r h => ⟨fun c => (h c).2, funext fun s => nomatch s⟩) (Cert.Reference18Ideal.Value.run m g)

end Cert.Expansions

end
-- ==== Proof.Adam.lean ====
module

public import Idealize.ShloMosaic.Lib.Pipeline.ValueKit

/-! The optimiser's step for one weight. -/

@[expose] public noncomputable section

open Idealize.ShloMosaic Idealize.ShloMosaic.TcCoe Idealize.SL.Sem

namespace Cert.Adam

/-- The number of a bit pattern. -/
abbrev lit (b : BitVec 32) : Ideal .f32 := Scalar.ofBits (F := Ideal) .f32 b

/-- The new first moment, from the gradient and the old one. -/
def first (g m : Ideal .f32) : Ideal .f32 :=
  FloatOps.addf (FloatOps.mulf (lit 0x3F666666#32) m) (FloatOps.mulf (lit 0x3DCCCCCD#32) g)

/-- The new second moment. -/
def second (g v : Ideal .f32) : Ideal .f32 :=
  FloatOps.addf (FloatOps.mulf (lit 0x3F7FBE77#32) v) (FloatOps.mulf (lit 0x3A83126F#32) (FloatOps.mulf g g))

/-- What is added to the weight. -/
def delta (w g m v : Ideal .f32) : Ideal .f32 :=
  FloatOps.mulf (lit 0xBA83126F#32) (FloatOps.addf
    (FloatOps.divf (FloatOps.divf (first g m) (lit 0x3F26BD02#32))
      (FloatOps.addf (FloatOps.sqrt (FloatOps.divf (second g v) (lit 0x3C231ACC#32))) (lit 0x322BCC77#32)))
    (FloatOps.mulf (lit 0x3C23D70A#32) w))

end Cert.Adam

end
-- ==== Proof.Step19.lean ====
module

public import proofs.«01_k».proof.Proof.Gen.Kernel19Ideal.Value
public import proofs.«01_k».proof.Proof.Gen.Reference19Ideal.Read
public import proofs.«01_k».proof.Proof.Adam

/-! The gradient of the modulation's weights and the optimiser's step for them: each grid point does a block of one layer. -/

set_option maxRecDepth 16384

@[expose] public noncomputable section

open Idealize.ShloMosaic Idealize.ShloMosaic.TcCoe Idealize.SL.Sem

namespace Cert.Kernel19Ideal.Step

open Cert.Kernel19Ideal Cert.Kernel19Ideal.Gen Cert.Kernel19Ideal.Value

variable (m : (ℓ : Loc nD τ sig) → Buf (Elt Ideal) ℓ) (c : Dev nD)

abbrev a0 : FVec Ideal S8x2048 .f32 := m ((c : Thread nD τ).loc main_arg0)
abbrev a1 : FVec Ideal S4x8x3072 .f32 := m ((c : Thread nD τ).loc main_arg1)
abbrev a2 : FVec Ideal S4x2048x3072 .f32 := m ((c : Thread nD τ).loc main_arg2)
abbrev a3 : FVec Ideal S4x2048x3072 .f32 := m ((c : Thread nD τ).loc main_arg3)
abbrev a4 : FVec Ideal S4x2048x3072 .f32 := m ((c : Thread nD τ).loc main_arg4)

/-- The activated conditioning. -/
abbrev act : FVec Ideal S8x2048 .f32 := Cert.Reference19Ideal.Read.val_main_v0 (F := Ideal) (a0 m c)

theorem idx : ∀ t : Fin cfg0.N, win0_0.index t = ![0, t.val / 3 % 8] ∧ win0_1.index t = ![t.val / 24, 0, t.val % 3]
    ∧ win0_2.index t = ![t.val / 24, t.val / 3 % 8, t.val % 3] ∧ win0_3.index t = ![t.val / 24, t.val / 3 % 8, t.val % 3]
    ∧ win0_4.index t = ![t.val / 24, t.val / 3 % 8, t.val % 3] ∧ win0_5.index t = ![t.val / 24, t.val / 3 % 8, t.val % 3]
    ∧ win0_6.index t = ![t.val / 24, t.val / 3 % 8, t.val % 3] ∧ win0_7.index t = ![t.val / 24, t.val / 3 % 8, t.val % 3]
    ∧ win0_8.index t = ![t.val / 24, t.val / 3 % 8, t.val % 3] :=
  (by decide +kernel : ∀ t : Fin grid0.N, _)

theorem point_lt (t : Fin cfg0.N) : t.val < 96 := lt_of_lt_of_eq t.isLt (show cfg0.N = 96 from N_0)

/-- A point's layer, and a row and a column of its block. -/
abbrev layer (t : Fin cfg0.N) : Fin 4 := ⟨t.val / 24, by have := point_lt t; omega⟩
abbrev row (t : Fin cfg0.N) (r : Fin 256) : Fin 2048 := ⟨t.val / 3 % 8 * 256 + r, by omega⟩
abbrev col (t : Fin cfg0.N) (k : Fin 1024) : Fin 3072 := ⟨t.val % 3 * 1024 + k, by omega⟩

theorem view0 (t : Fin cfg0.N) (X : FVec Ideal S8x2048 .f32) (b : Fin 8) (r : Fin 256) :
    (((cfg0.win 0).blk t).view.read (Elt Ideal) X : FVec Ideal S8x256 .f32) (ix2 b r) = X (ix2 b (row t r)) := by
  blk_ext [idx t]

theorem view1 (t : Fin cfg0.N) (X : FVec Ideal S4x8x3072 .f32) (b : Fin 8) (k : Fin 1024) :
    (((cfg0.win 1).blk t).view.read (Elt Ideal) X : FVec Ideal S1x8x1024 .f32) (ix3 0 b k) = X (ix3 (layer t) b (col t k)) := by
  blk_ext [idx t]

theorem view2 (t : Fin cfg0.N) (X : FVec Ideal S4x2048x3072 .f32) (r : Fin 256) (k : Fin 1024) :
    (((cfg0.win 2).blk t).view.read (Elt Ideal) X : FVec Ideal S1x256x1024 .f32) (ix3 0 r k) = X (ix3 (layer t) (row t r) (col t k)) := by
  blk_ext [idx t]

theorem view3 (t : Fin cfg0.N) (X : FVec Ideal S4x2048x3072 .f32) (r : Fin 256) (k : Fin 1024) :
    (((cfg0.win 3).blk t).view.read (Elt Ideal) X : FVec Ideal S1x256x1024 .f32) (ix3 0 r k) = X (ix3 (layer t) (row t r) (col t k)) := by
  blk_ext [idx t]

theorem view4 (t : Fin cfg0.N) (X : FVec Ideal S4x2048x3072 .f32) (r : Fin 256) (k : Fin 1024) :
    (((cfg0.win 4).blk t).view.read (Elt Ideal) X : FVec Ideal S1x256x1024 .f32) (ix3 0 r k) = X (ix3 (layer t) (row t r) (col t k)) := by
  blk_ext [idx t]

theorem view5 (t : Fin cfg0.N) (X : FVec Ideal S4x2048x3072 .f32) (r : Fin 256) (k : Fin 1024) :
    (((cfg0.win 5).blk t).view.read (Elt Ideal) X : FVec Ideal S1x256x1024 .f32) (ix3 0 r k) = X (ix3 (layer t) (row t r) (col t k)) := by
  blk_ext [idx t]

theorem view6 (t : Fin cfg0.N) (X : FVec Ideal S4x2048x3072 .f32) (r : Fin 256) (k : Fin 1024) :
    (((cfg0.win 6).blk t).view.read (Elt Ideal) X : FVec Ideal S1x256x1024 .f32) (ix3 0 r k) = X (ix3 (layer t) (row t r) (col t k)) := by
  blk_ext [idx t]

theorem view7 (t : Fin cfg0.N) (X : FVec Ideal S4x2048x3072 .f32) (r : Fin 256) (k : Fin 1024) :
    (((cfg0.win 7).blk t).view.read (Elt Ideal) X : FVec Ideal S1x256x1024 .f32) (ix3 0 r k) = X (ix3 (layer t) (row t r) (col t k)) := by
  blk_ext [idx t]

theorem view8 (t : Fin cfg0.N) (X : FVec Ideal S4x2048x3072 .f32) (r : Fin 256) (k : Fin 1024) :
    (((cfg0.win 8).blk t).view.read (Elt Ideal) X : FVec Ideal S1x256x1024 .f32) (ix3 0 r k) = X (ix3 (layer t) (row t r) (col t k)) := by
  blk_ext [idx t]

theorem at0 (t : Fin cfg0.N) (b : Fin 8) (r : Fin 256) :
    (iblk m c 0 t : FVec Ideal S8x256 .f32) (ix2 b r) = act m c (ix2 b (row t r)) := by
  unfold iblk
  exact view0 t (V m c main_v0) b r

theorem at1 (t : Fin cfg0.N) (b : Fin 8) (k : Fin 1024) :
    (iblk m c 1 t : FVec Ideal S1x8x1024 .f32) (ix3 0 b k) = a1 m c (ix3 (layer t) b (col t k)) := by
  unfold iblk
  exact view1 t (V m c main_arg1) b k

theorem at2 (t : Fin cfg0.N) (r : Fin 256) (k : Fin 1024) :
    (iblk m c 2 t : FVec Ideal S1x256x1024 .f32) (ix3 0 r k) = a2 m c (ix3 (layer t) (row t r) (col t k)) := by
  unfold iblk
  exact view2 t (V m c main_arg2) r k

theorem at3 (t : Fin cfg0.N) (r : Fin 256) (k : Fin 1024) :
    (iblk m c 3 t : FVec Ideal S1x256x1024 .f32) (ix3 0 r k) = a3 m c (ix3 (layer t) (row t r) (col t k)) := by
  unfold iblk
  exact view3 t (V m c main_arg3) r k

theorem at4 (t : Fin cfg0.N) (r : Fin 256) (k : Fin 1024) :
    (iblk m c 4 t : FVec Ideal S1x256x1024 .f32) (ix3 0 r k) = a4 m c (ix3 (layer t) (row t r) (col t k)) := by
  unfold iblk
  exact view4 t (V m c main_arg4) r k

/-- The gradient of a weight, from the blocks. -/
def slope (x0 : FVec Ideal S8x256 .f32) (x1 : FVec Ideal S1x8x1024 .f32) (r : Fin 256) (k : Fin 1024) : Ideal .f32 :=
  (∑ b : Fin 8, x0 (ix2 b r) * x1 (ix3 0 b k) : EReal)

theorem product_at (x0 : FVec Ideal S8x256 .f32) (x1 : FVec Ideal S1x8x1024 .f32) (r : Fin 256) (k : Fin 1024) :
    k0_pay5 (F := Ideal) x0 x1 (ix2 r k) = slope x0 x1 r k := by
  unfold slope
  pointwise [k0_pay5]

theorem first_at (x0 : FVec Ideal S8x256 .f32) (x1 : FVec Ideal S1x8x1024 .f32) (x3 : FVec Ideal S1x256x1024 .f32) (r : Fin 256) (k : Fin 1024) :
    k0_pay6 (F := Ideal) x0 x1 x3 (ix2 r k) = Cert.Adam.first (slope x0 x1 r k) (x3 (ix3 0 r k)) := by
  rw [← product_at]
  pointwise [k0_pay6]
  rfl

theorem second_at (x0 : FVec Ideal S8x256 .f32) (x1 : FVec Ideal S1x8x1024 .f32) (x4 : FVec Ideal S1x256x1024 .f32) (r : Fin 256) (k : Fin 1024) :
    k0_pay7 (F := Ideal) x0 x1 x4 (ix2 r k) = Cert.Adam.second (slope x0 x1 r k) (x4 (ix3 0 r k)) := by
  rw [← product_at]
  pointwise [k0_pay7]
  rfl

theorem out5_at (x0 : FVec Ideal S8x256 .f32) (x1 : FVec Ideal S1x8x1024 .f32) (x2 x3 x4 : FVec Ideal S1x256x1024 .f32) (r : Fin 256) (k : Fin 1024) :
    (out0_5 (F := Ideal) x0 x1 x2 x3 x4 : FVec Ideal S1x256x1024 .f32) (ix3 0 r k) = slope x0 x1 r k := by
  unfold out0_5
  frame_out
  rw [← product_at]
  pointwise [k0_pay1]

theorem out6_at (x0 : FVec Ideal S8x256 .f32) (x1 : FVec Ideal S1x8x1024 .f32) (x2 x3 x4 : FVec Ideal S1x256x1024 .f32) (r : Fin 256) (k : Fin 1024) :
    (out0_6 (F := Ideal) x0 x1 x2 x3 x4 : FVec Ideal S1x256x1024 .f32) (ix3 0 r k)
      = Cert.Adam.delta (x2 (ix3 0 r k)) (slope x0 x1 r k) (x3 (ix3 0 r k)) (x4 (ix3 0 r k)) := by
  unfold out0_6 Cert.Adam.delta
  frame_out
  rw [← first_at, ← second_at]
  pointwise [k0_pay2, k0_pay8, k0_pay9]

theorem out7_at (x0 : FVec Ideal S8x256 .f32) (x1 : FVec Ideal S1x8x1024 .f32) (x2 x3 x4 : FVec Ideal S1x256x1024 .f32) (r : Fin 256) (k : Fin 1024) :
    (out0_7 (F := Ideal) x0 x1 x2 x3 x4 : FVec Ideal S1x256x1024 .f32) (ix3 0 r k) = Cert.Adam.first (slope x0 x1 r k) (x3 (ix3 0 r k)) := by
  unfold out0_7
  frame_out
  rw [← first_at]
  pointwise [k0_pay3]

theorem out8_at (x0 : FVec Ideal S8x256 .f32) (x1 : FVec Ideal S1x8x1024 .f32) (x2 x3 x4 : FVec Ideal S1x256x1024 .f32) (r : Fin 256) (k : Fin 1024) :
    (out0_8 (F := Ideal) x0 x1 x2 x3 x4 : FVec Ideal S1x256x1024 .f32) (ix3 0 r k) = Cert.Adam.second (slope x0 x1 r k) (x4 (ix3 0 r k)) := by
  unfold out0_8
  frame_out
  rw [← second_at]
  pointwise [k0_pay4]

/-- The plain gradient and step. -/
abbrev G5 : FVec Ideal S4x2048x3072 .f32 := Cert.Reference19Ideal.Read.val_main_v5 (F := Ideal) (a0 m c) (a1 m c)
abbrev G6 : FVec Ideal S4x2048x3072 .f32 := Cert.Reference19Ideal.Read.val_main_v29 (F := Ideal) (a0 m c) (a1 m c) (a2 m c) (a3 m c) (a4 m c)
abbrev G7 : FVec Ideal S4x2048x3072 .f32 := Cert.Reference19Ideal.Read.val_main_v10 (F := Ideal) (a0 m c) (a1 m c) (a3 m c)
abbrev G8 : FVec Ideal S4x2048x3072 .f32 := Cert.Reference19Ideal.Read.val_main_v16 (F := Ideal) (a0 m c) (a1 m c) (a4 m c)

theorem G6_at (i : S4x2048x3072.Idx) : G6 m c i = Cert.Adam.delta (a2 m c i) (G5 m c i) (a3 m c i) (a4 m c i) := rfl
theorem G7_at (i : S4x2048x3072.Idx) : G7 m c i = Cert.Adam.first (G5 m c i) (a3 m c i) := rfl
theorem G8_at (i : S4x2048x3072.Idx) : G8 m c i = Cert.Adam.second (G5 m c i) (a4 m c i) := rfl

/-- The gradient of a weight from the blocks is the plain one. -/
theorem slope_eq (t : Fin cfg0.N) (r : Fin 256) (k : Fin 1024) :
    slope (iblk m c 0 t) (iblk m c 1 t) r k = G5 m c (ix3 (layer t) (row t r) (col t k)) := by
  rw [G5, Cert.Reference19Ideal.Read.val_main_v5_apply, Cert.Reference19Ideal.Read.val_main_v4_apply]
  unfold slope
  refine Finset.sum_congr rfl fun b _ => ?_
  rw [at0, at1, Cert.Reference19Ideal.Read.val_main_v3_apply]
  refine (mul_comm _ _).trans (congrArg₂ (fun x y : EReal => x * y) (congrArg (a1 m c) ?_) (congrArg (act m c) ?_))
  · funext a
    match a with
    | ⟨0, _⟩ => rfl
    | ⟨1, _⟩ => rfl
    | ⟨2, _⟩ => rfl
  · funext a
    match a with
    | ⟨0, _⟩ => rfl
    | ⟨1, _⟩ => rfl

/-- What a point writes back is its block. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix3 0 r k : S1x256x1024.Idx) :=
    ⟨y 1, y 2, (eq_ix3 (y : S1x256x1024.Idx)).trans (congrArg (fun z : Fin 1 => (ix3 z (y 1) (y 2) : S1x256x1024.Idx)) (Subsingleton.elim (α := Fin 1) _ _))⟩
  have e : (cfg0.win 5).xinj (grid0.coords t) (ix3 0 r k : S1x256x1024.Idx) = (ix3 0 r k : S1x256x1024.Idx) := by
    funext a
    match a with
    | ⟨0, _⟩ => rfl
    | ⟨1, _⟩ => rfl
    | ⟨2, _⟩ => rfl
  refine Eq.trans ?_ (view5 t (G5 m c) r k).symm
  show (out0_5 (iblk m c 0 t) (iblk m c 1 t) (iblk m c 2 t) (iblk m c 3 t) (iblk m c 4 t) : FVec Ideal S1x256x1024 .f32) ((cfg0.win 5).xinj (grid0.coords t) (ix3 0 r k : S1x256x1024.Idx)) = _
  rw [e, out5_at, slope_eq]

theorem mem_block5 (t : Fin cfg0.N) (i : S4x2048x3072.Idx) : i ∈ ((cfg0.win 5).blk t).view.set
    ↔ ∀ a : Fin 3, win0_5.index t a * S1x256x1024.size a ≤ (i a).val ∧ (i a).val < win0_5.index t a * S1x256x1024.size a + S1x256x1024.size a := by
  change i ∈ ((View.whole main_v1_0).slice (win0_5.rect t)).set ↔ _
  rw [View.set_slice_whole, Rect.mem_set_unit]
  rfl

theorem covered5 (i : S4x2048x3072.Idx) : ∃ t : Fin cfg0.N, (cfg0.win 5).flush t = true ∧ i ∈ ((cfg0.win 5).blk t).view.set := by
  have b0 : (i 0).val < 4 := (i 0).isLt
  have b1 : (i 1).val < 2048 := (i 1).isLt
  have b2 : (i 2).val < 3072 := (i 2).isLt
  obtain ⟨t, ht⟩ : ∃ t : Fin cfg0.N, t.val = 24 * (i 0).val + 3 * ((i 1).val / 256) + (i 2).val / 1024 :=
    ⟨⟨_, lt_of_lt_of_eq (by omega) (show cfg0.N = 96 from N_0).symm⟩, rfl⟩
  refine ⟨t, flush0_5 t, (mem_block5 t i).mpr fun a => ?_⟩
  have hi : win0_5.index t = ![t.val / 24, t.val / 3 % 8, t.val % 3] := (idx t).2.2.2.2.2.1
  have i0 : win0_5.index t 0 = t.val / 24 := congrFun hi 0
  have i1 : win0_5.index t 1 = t.val / 3 % 8 := congrFun hi 1
  have i2 : win0_5.index t 2 = t.val % 3 := congrFun hi 2
  match a with
  | ⟨0, _⟩ => show win0_5.index t 0 * 1 ≤ (i 0).val ∧ (i 0).val < win0_5.index t 0 * 1 + 1; omega
  | ⟨1, _⟩ => show win0_5.index t 1 * 256 ≤ (i 1).val ∧ (i 1).val < win0_5.index t 1 * 256 + 256; omega
  | ⟨2, _⟩ => show win0_5.index t 2 * 1024 ≤ (i 2).val ∧ (i 2).val < win0_5.index t 2 * 1024 + 1024; omega

theorem result5 : (dats m 0 c).arrAt 5 cfg0.N = G5 m c :=
  (dats m 0 c).arrAt_eq_of_cover 5 (G5 m c) (fun t _ => flushed5_eq m c t) (fun i => covered5 i)

/-- What a point writes back is its block. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix3 0 r k : S1x256x1024.Idx) :=
    ⟨y 1, y 2, (eq_ix3 (y : S1x256x1024.Idx)).trans (congrArg (fun z : Fin 1 => (ix3 z (y 1) (y 2) : S1x256x1024.Idx)) (Subsingleton.elim (α := Fin 1) _ _))⟩
  have e : (cfg0.win 6).xinj (grid0.coords t) (ix3 0 r k : S1x256x1024.Idx) = (ix3 0 r k : S1x256x1024.Idx) := by
    funext a
    match a with
    | ⟨0, _⟩ => rfl
    | ⟨1, _⟩ => rfl
    | ⟨2, _⟩ => rfl
  refine Eq.trans ?_ (view6 t (G6 m c) r k).symm
  show (out0_6 (iblk m c 0 t) (iblk m c 1 t) (iblk m c 2 t) (iblk m c 3 t) (iblk m c 4 t) : FVec Ideal S1x256x1024 .f32) ((cfg0.win 6).xinj (grid0.coords t) (ix3 0 r k : S1x256x1024.Idx)) = _
  rw [e, out6_at, slope_eq, G6_at, at2, at3, at4]

theorem mem_block6 (t : Fin cfg0.N) (i : S4x2048x3072.Idx) : i ∈ ((cfg0.win 6).blk t).view.set
    ↔ ∀ a : Fin 3, win0_6.index t a * S1x256x1024.size a ≤ (i a).val ∧ (i a).val < win0_6.index t a * S1x256x1024.size a + S1x256x1024.size a := by
  change i ∈ ((View.whole main_v1_1).slice (win0_6.rect t)).set ↔ _
  rw [View.set_slice_whole, Rect.mem_set_unit]
  rfl

theorem covered6 (i : S4x2048x3072.Idx) : ∃ t : Fin cfg0.N, (cfg0.win 6).flush t = true ∧ i ∈ ((cfg0.win 6).blk t).view.set := by
  have b0 : (i 0).val < 4 := (i 0).isLt
  have b1 : (i 1).val < 2048 := (i 1).isLt
  have b2 : (i 2).val < 3072 := (i 2).isLt
  obtain ⟨t, ht⟩ : ∃ t : Fin cfg0.N, t.val = 24 * (i 0).val + 3 * ((i 1).val / 256) + (i 2).val / 1024 :=
    ⟨⟨_, lt_of_lt_of_eq (by omega) (show cfg0.N = 96 from N_0).symm⟩, rfl⟩
  refine ⟨t, flush0_6 t, (mem_block6 t i).mpr fun a => ?_⟩
  have hi : win0_6.index t = ![t.val / 24, t.val / 3 % 8, t.val % 3] := (idx t).2.2.2.2.2.2.1
  have i0 : win0_6.index t 0 = t.val / 24 := congrFun hi 0
  have i1 : win0_6.index t 1 = t.val / 3 % 8 := congrFun hi 1
  have i2 : win0_6.index t 2 = t.val % 3 := congrFun hi 2
  match a with
  | ⟨0, _⟩ => show win0_6.index t 0 * 1 ≤ (i 0).val ∧ (i 0).val < win0_6.index t 0 * 1 + 1; omega
  | ⟨1, _⟩ => show win0_6.index t 1 * 256 ≤ (i 1).val ∧ (i 1).val < win0_6.index t 1 * 256 + 256; omega
  | ⟨2, _⟩ => show win0_6.index t 2 * 1024 ≤ (i 2).val ∧ (i 2).val < win0_6.index t 2 * 1024 + 1024; omega

theorem result6 : (dats m 0 c).arrAt 6 cfg0.N = G6 m c :=
  (dats m 0 c).arrAt_eq_of_cover 6 (G6 m c) (fun t _ => flushed6_eq m c t) (fun i => covered6 i)

/-- What a point writes back is its block. -/
theorem flushed7_eq (t : Fin cfg0.N) : (dats m 0 c).flushed 7 t = ((cfg0.win 7).blk t).view.read (Elt Ideal) (G7 m c) := by
  rw [flushed7]
  funext y
  obtain ⟨r, k, rfl⟩ : ∃ r k, y = (ix3 0 r k : S1x256x1024.Idx) :=
    ⟨y 1, y 2, (eq_ix3 (y : S1x256x1024.Idx)).trans (congrArg (fun z : Fin 1 => (ix3 z (y 1) (y 2) : S1x256x1024.Idx)) (Subsingleton.elim (α := Fin 1) _ _))⟩
  have e : (cfg0.win 7).xinj (grid0.coords t) (ix3 0 r k : S1x256x1024.Idx) = (ix3 0 r k : S1x256x1024.Idx) := by
    funext a
    match a with
    | ⟨0, _⟩ => rfl
    | ⟨1, _⟩ => rfl
    | ⟨2, _⟩ => rfl
  refine Eq.trans ?_ (view7 t (G7 m c) r k).symm
  show (out0_7 (iblk m c 0 t) (iblk m c 1 t) (iblk m c 2 t) (iblk m c 3 t) (iblk m c 4 t) : FVec Ideal S1x256x1024 .f32) ((cfg0.win 7).xinj (grid0.coords t) (ix3 0 r k : S1x256x1024.Idx)) = _
  rw [e, out7_at, slope_eq, G7_at, at3]

theorem mem_block7 (t : Fin cfg0.N) (i : S4x2048x3072.Idx) : i ∈ ((cfg0.win 7).blk t).view.set
    ↔ ∀ a : Fin 3, win0_7.index t a * S1x256x1024.size a ≤ (i a).val ∧ (i a).val < win0_7.index t a * S1x256x1024.size a + S1x256x1024.size a := by
  change i ∈ ((View.whole main_v1_2).slice (win0_7.rect t)).set ↔ _
  rw [View.set_slice_whole, Rect.mem_set_unit]
  rfl

theorem covered7 (i : S4x2048x3072.Idx) : ∃ t : Fin cfg0.N, (cfg0.win 7).flush t = true ∧ i ∈ ((cfg0.win 7).blk t).view.set := by
  have b0 : (i 0).val < 4 := (i 0).isLt
  have b1 : (i 1).val < 2048 := (i 1).isLt
  have b2 : (i 2).val < 3072 := (i 2).isLt
  obtain ⟨t, ht⟩ : ∃ t : Fin cfg0.N, t.val = 24 * (i 0).val + 3 * ((i 1).val / 256) + (i 2).val / 1024 :=
    ⟨⟨_, lt_of_lt_of_eq (by omega) (show cfg0.N = 96 from N_0).symm⟩, rfl⟩
  refine ⟨t, flush0_7 t, (mem_block7 t i).mpr fun a => ?_⟩
  have hi : win0_7.index t = ![t.val / 24, t.val / 3 % 8, t.val % 3] := (idx t).2.2.2.2.2.2.2.1
  have i0 : win0_7.index t 0 = t.val / 24 := congrFun hi 0
  have i1 : win0_7.index t 1 = t.val / 3 % 8 := congrFun hi 1
  have i2 : win0_7.index t 2 = t.val % 3 := congrFun hi 2
  match a with
  | ⟨0, _⟩ => show win0_7.index t 0 * 1 ≤ (i 0).val ∧ (i 0).val < win0_7.index t 0 * 1 + 1; omega
  | ⟨1, _⟩ => show win0_7.index t 1 * 256 ≤ (i 1).val ∧ (i 1).val < win0_7.index t 1 * 256 + 256; omega
  | ⟨2, _⟩ => show win0_7.index t 2 * 1024 ≤ (i 2).val ∧ (i 2).val < win0_7.index t 2 * 1024 + 1024; omega

theorem result7 : (dats m 0 c).arrAt 7 cfg0.N = G7 m c :=
  (dats m 0 c).arrAt_eq_of_cover 7 (G7 m c) (fun t _ => flushed7_eq m c t) (fun i => covered7 i)

/-- What a point writes back is its block. -/
theorem flushed8_eq (t : Fin cfg0.N) : (dats m 0 c).flushed 8 t = ((cfg0.win 8).blk t).view.read (Elt Ideal) (G8 m c) := by
  rw [flushed8]
  funext y
  obtain ⟨r, k, rfl⟩ : ∃ r k, y = (ix3 0 r k : S1x256x1024.Idx) :=
    ⟨y 1, y 2, (eq_ix3 (y : S1x256x1024.Idx)).trans (congrArg (fun z : Fin 1 => (ix3 z (y 1) (y 2) : S1x256x1024.Idx)) (Subsingleton.elim (α := Fin 1) _ _))⟩
  have e : (cfg0.win 8).xinj (grid0.coords t) (ix3 0 r k : S1x256x1024.Idx) = (ix3 0 r k : S1x256x1024.Idx) := by
    funext a
    match a with
    | ⟨0, _⟩ => rfl
    | ⟨1, _⟩ => rfl
    | ⟨2, _⟩ => rfl
  refine Eq.trans ?_ (view8 t (G8 m c) r k).symm
  show (out0_8 (iblk m c 0 t) (iblk m c 1 t) (iblk m c 2 t) (iblk m c 3 t) (iblk m c 4 t) : FVec Ideal S1x256x1024 .f32) ((cfg0.win 8).xinj (grid0.coords t) (ix3 0 r k : S1x256x1024.Idx)) = _
  rw [e, out8_at, slope_eq, G8_at, at4]

theorem mem_block8 (t : Fin cfg0.N) (i : S4x2048x3072.Idx) : i ∈ ((cfg0.win 8).blk t).view.set
    ↔ ∀ a : Fin 3, win0_8.index t a * S1x256x1024.size a ≤ (i a).val ∧ (i a).val < win0_8.index t a * S1x256x1024.size a + S1x256x1024.size a := by
  change i ∈ ((View.whole main_v1_3).slice (win0_8.rect t)).set ↔ _
  rw [View.set_slice_whole, Rect.mem_set_unit]
  rfl

theorem covered8 (i : S4x2048x3072.Idx) : ∃ t : Fin cfg0.N, (cfg0.win 8).flush t = true ∧ i ∈ ((cfg0.win 8).blk t).view.set := by
  have b0 : (i 0).val < 4 := (i 0).isLt
  have b1 : (i 1).val < 2048 := (i 1).isLt
  have b2 : (i 2).val < 3072 := (i 2).isLt
  obtain ⟨t, ht⟩ : ∃ t : Fin cfg0.N, t.val = 24 * (i 0).val + 3 * ((i 1).val / 256) + (i 2).val / 1024 :=
    ⟨⟨_, lt_of_lt_of_eq (by omega) (show cfg0.N = 96 from N_0).symm⟩, rfl⟩
  refine ⟨t, flush0_8 t, (mem_block8 t i).mpr fun a => ?_⟩
  have hi : win0_8.index t = ![t.val / 24, t.val / 3 % 8, t.val % 3] := (idx t).2.2.2.2.2.2.2.2
  have i0 : win0_8.index t 0 = t.val / 24 := congrFun hi 0
  have i1 : win0_8.index t 1 = t.val / 3 % 8 := congrFun hi 1
  have i2 : win0_8.index t 2 = t.val % 3 := congrFun hi 2
  match a with
  | ⟨0, _⟩ => show win0_8.index t 0 * 1 ≤ (i 0).val ∧ (i 0).val < win0_8.index t 0 * 1 + 1; omega
  | ⟨1, _⟩ => show win0_8.index t 1 * 256 ≤ (i 1).val ∧ (i 1).val < win0_8.index t 1 * 256 + 256; omega
  | ⟨2, _⟩ => show win0_8.index t 2 * 1024 ≤ (i 2).val ∧ (i 2).val < win0_8.index t 2 * 1024 + 1024; omega

theorem result8 : (dats m 0 c).arrAt 8 cfg0.N = G8 m c :=
  (dats m 0 c).arrAt_eq_of_cover 8 (G8 m c) (fun t _ => flushed8_eq m c t) (fun i => covered8 i)

end Cert.Kernel19Ideal.Step

end
-- ==== Proof.Step20.lean ====
module

public import proofs.«01_k».proof.Proof.Gen.Kernel20Ideal.Value
public import proofs.«01_k».proof.Proof.Gen.Reference20Ideal.Read
public import proofs.«01_k».proof.Proof.Adam

/-! The optimiser's step for the shard of the input projection's weights: each grid point does its 256 rows. -/

set_option maxRecDepth 16384

@[expose] public noncomputable section

open Idealize.ShloMosaic Idealize.ShloMosaic.TcCoe Idealize.SL.Sem

namespace Cert.Kernel20Ideal.Step

open Cert.Kernel20Ideal Cert.Kernel20Ideal.Gen Cert.Kernel20Ideal.Value

variable (m : (ℓ : Loc nD τ sig) → Buf (Elt Ideal) ℓ) (c : Dev nD)

abbrev a0 : FVec Ideal S4x2048x848 .f32 := m ((c : Thread nD τ).loc main_arg0)
abbrev a1 : FVec Ideal S4x2048x848 .f32 := m ((c : Thread nD τ).loc main_arg1)
abbrev a2 : FVec Ideal S4x2048x848 .f32 := m ((c : Thread nD τ).loc main_arg2)
abbrev a3 : FVec Ideal S4x2048x848 .f32 := m ((c : Thread nD τ).loc main_arg3)

/-- Weights, gradient and moments, row after row. -/
abbrev w : FVec Ideal S8192x848 .f32 := V m c main_v0
abbrev g : FVec Ideal S8192x848 .f32 := V m c main_v1
abbrev m₁ : FVec Ideal S8192x848 .f32 := V m c main_v2
abbrev m₂ : FVec Ideal S8192x848 .f32 := V m c main_v3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 32 := lt_of_lt_of_eq t.isLt (show cfg0.N = 32 from N_0)

/-- A row of a point's block. -/
abbrev row (t : Fin cfg0.N) (r : Fin 256) : Fin 8192 := ⟨t.val * 256 + r, by have := point_lt t; omega⟩

theorem view0 (t : Fin cfg0.N) (X : FVec Ideal S8192x848 .f32) (r : Fin 256) (k : Fin 848) :
    (((cfg0.win 0).blk t).view.read (Elt Ideal) X : FVec Ideal S256x848 .f32) (ix2 r k) = X (ix2 (row t r) k) := by
  blk_ext [idx t]

theorem view1 (t : Fin cfg0.N) (X : FVec Ideal S8192x848 .f32) (r : Fin 256) (k : Fin 848) :
    (((cfg0.win 1).blk t).view.read (Elt Ideal) X : FVec Ideal S256x848 .f32) (ix2 r k) = X (ix2 (row t r) k) := by
  blk_ext [idx t]

theorem view2 (t : Fin cfg0.N) (X : FVec Ideal S8192x848 .f32) (r : Fin 256) (k : Fin 848) :
    (((cfg0.win 2).blk t).view.read (Elt Ideal) X : FVec Ideal S256x848 .f32) (ix2 r k) = X (ix2 (row t r) k) := by
  blk_ext [idx t]

theorem view3 (t : Fin cfg0.N) (X : FVec Ideal S8192x848 .f32) (r : Fin 256) (k : Fin 848) :
    (((cfg0.win 3).blk t).view.read (Elt Ideal) X : FVec Ideal S256x848 .f32) (ix2 r k) = X (ix2 (row t r) k) := by
  blk_ext [idx t]

theorem view4 (t : Fin cfg0.N) (X : FVec Ideal S8192x848 .f32) (r : Fin 256) (k : Fin 848) :
    (((cfg0.win 4).blk t).view.read (Elt Ideal) X : FVec Ideal S256x848 .f32) (ix2 r k) = X (ix2 (row t r) k) := by
  blk_ext [idx t]

theorem view5 (t : Fin cfg0.N) (X : FVec Ideal S8192x848 .f32) (r : Fin 256) (k : Fin 848) :
    (((cfg0.win 5).blk t).view.read (Elt Ideal) X : FVec Ideal S256x848 .f32) (ix2 r k) = X (ix2 (row t r) k) := by
  blk_ext [idx t]

theorem view6 (t : Fin cfg0.N) (X : FVec Ideal S8192x848 .f32) (r : Fin 256) (k : Fin 848) :
    (((cfg0.win 6).blk t).view.read (Elt Ideal) X : FVec Ideal S256x848 .f32) (ix2 r k) = X (ix2 (row t r) k) := by
  blk_ext [idx t]

theorem at0 (t : Fin cfg0.N) (r : Fin 256) (k : Fin 848) :
    (iblk m c 0 t : FVec Ideal S256x848 .f32) (ix2 r k) = w m c (ix2 (row t r) k) := by
  unfold iblk
  exact view0 t (V m c main_v0) r k

theorem at1 (t : Fin cfg0.N) (r : Fin 256) (k : Fin 848) :
    (iblk m c 1 t : FVec Ideal S256x848 .f32) (ix2 r k) = g m c (ix2 (row t r) k) := by
  unfold iblk
  exact view1 t (V m c main_v1) r k

theorem at2 (t : Fin cfg0.N) (r : Fin 256) (k : Fin 848) :
    (iblk m c 2 t : FVec Ideal S256x848 .f32) (ix2 r k) = m₁ m c (ix2 (row t r) k) := by
  unfold iblk
  exact view2 t (V m c main_v2) r k

theorem at3 (t : Fin cfg0.N) (r : Fin 256) (k : Fin 848) :
    (iblk m c 3 t : FVec Ideal S256x848 .f32) (ix2 r k) = m₂ m c (ix2 (row t r) k) := by
  unfold iblk
  exact view3 t (V m c main_v3) r k

theorem out4_at (x0 x1 x2 x3 : FVec Ideal S256x848 .f32) (r : Fin 256) (k : Fin 848) : (out0_4 (F := Ideal) x0 x1 x2 x3 : FVec Ideal S256x848 .f32) (ix2 r k)
    = Cert.Adam.delta (x0 (ix2 r k)) (x1 (ix2 r k)) (x2 (ix2 r k)) (x3 (ix2 r k)) := by
  unfold out0_4
  frame_out
  pointwise [k0_pay4, k0_pay3, k0_pay2, k0_pay1]
  rfl

theorem out5_at (x0 x1 x2 x3 : FVec Ideal S256x848 .f32) (r : Fin 256) (k : Fin 848) : (out0_5 (F := Ideal) x0 x1 x2 x3 : FVec Ideal S256x848 .f32) (ix2 r k)
    = Cert.Adam.first (x1 (ix2 r k)) (x2 (ix2 r k)) := by
  unfold out0_5
  frame_out
  pointwise [k0_pay2, k0_pay1]
  rfl

theorem out6_at (x0 x1 x2 x3 : FVec Ideal S256x848 .f32) (r : Fin 256) (k : Fin 848) : (out0_6 (F := Ideal) x0 x1 x2 x3 : FVec Ideal S256x848 .f32) (ix2 r k)
    = Cert.Adam.second (x1 (ix2 r k)) (x3 (ix2 r k)) := by
  unfold out0_6
  frame_out
  pointwise [k0_pay3, k0_pay1]
  rfl

/-- The plain step. -/
abbrev G4 : FVec Ideal S8192x848 .f32 := Cert.Reference20Ideal.Read.val_main_v24 (F := Ideal) (a0 m c) (a1 m c) (a2 m c) (a3 m c)
abbrev G5 : FVec Ideal S8192x848 .f32 := Cert.Reference20Ideal.Read.val_main_v25 (F := Ideal) (a1 m c) (a2 m c)
abbrev G6 : FVec Ideal S8192x848 .f32 := Cert.Reference20Ideal.Read.val_main_v26 (F := Ideal) (a1 m c) (a3 m c)

theorem G4_at (i : S8192x848.Idx) : G4 m c i = Cert.Adam.delta (w m c i) (g m c i) (m₁ m c i) (m₂ m c i) := rfl
theorem G5_at (i : S8192x848.Idx) : G5 m c i = Cert.Adam.first (g m c i) (m₁ m c i) := rfl
theorem G6_at (i : S8192x848.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S256x848.Idx) := ⟨y 0, y 1, eq_ix2 (y : S256x848.Idx)⟩
  have e : (cfg0.win 4).xinj (grid0.coords t) (ix2 r k : S256x848.Idx) = (ix2 r k : S256x848.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S256x848 .f32) ((cfg0.win 4).xinj (grid0.coords t) (ix2 r k : S256x848.Idx)) = _
  rw [e, out4_at, G4_at]
  simp only [at0, at1, at2, at3]

theorem mem_block4 (t : Fin cfg0.N) (i : S8192x848.Idx) : i ∈ ((cfg0.win 4).blk t).view.set
    ↔ ∀ a : Fin 2, win0_4.index t a * S256x848.size a ≤ (i a).val ∧ (i a).val < win0_4.index t a * S256x848.size a + S256x848.size a := by
  change i ∈ ((View.whole main_v4_0).slice (win0_4.rect t)).set ↔ _
  rw [View.set_slice_whole, Rect.mem_set_unit]
  rfl

theorem covered4 (i : S8192x848.Idx) : ∃ t : Fin cfg0.N, (cfg0.win 4).flush t = true ∧ i ∈ ((cfg0.win 4).blk t).view.set := by
  have b0 : (i 0).val < 8192 := (i 0).isLt
  have b1 : (i 1).val < 848 := (i 1).isLt
  obtain ⟨t, ht⟩ : ∃ t : Fin cfg0.N, t.val = (i 0).val / 256 :=
    ⟨⟨_, lt_of_lt_of_eq (by omega) (show cfg0.N = 32 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 256 ≤ (i 0).val ∧ (i 0).val < win0_4.index t 0 * 256 + 256; omega
  | ⟨1, _⟩ => show win0_4.index t 1 * 848 ≤ (i 1).val ∧ (i 1).val < win0_4.index t 1 * 848 + 848; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S256x848.Idx) := ⟨y 0, y 1, eq_ix2 (y : S256x848.Idx)⟩
  have e : (cfg0.win 5).xinj (grid0.coords t) (ix2 r k : S256x848.Idx) = (ix2 r k : S256x848.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S256x848 .f32) ((cfg0.win 5).xinj (grid0.coords t) (ix2 r k : S256x848.Idx)) = _
  rw [e, out5_at, G5_at]
  simp only [at0, at1, at2, at3]

theorem mem_block5 (t : Fin cfg0.N) (i : S8192x848.Idx) : i ∈ ((cfg0.win 5).blk t).view.set
    ↔ ∀ a : Fin 2, win0_5.index t a * S256x848.size a ≤ (i a).val ∧ (i a).val < win0_5.index t a * S256x848.size a + S256x848.size a := by
  change i ∈ ((View.whole main_v4_1).slice (win0_5.rect t)).set ↔ _
  rw [View.set_slice_whole, Rect.mem_set_unit]
  rfl

theorem covered5 (i : S8192x848.Idx) : ∃ t : Fin cfg0.N, (cfg0.win 5).flush t = true ∧ i ∈ ((cfg0.win 5).blk t).view.set := by
  have b0 : (i 0).val < 8192 := (i 0).isLt
  have b1 : (i 1).val < 848 := (i 1).isLt
  obtain ⟨t, ht⟩ : ∃ t : Fin cfg0.N, t.val = (i 0).val / 256 :=
    ⟨⟨_, lt_of_lt_of_eq (by omega) (show cfg0.N = 32 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 256 ≤ (i 0).val ∧ (i 0).val < win0_5.index t 0 * 256 + 256; omega
  | ⟨1, _⟩ => show win0_5.index t 1 * 848 ≤ (i 1).val ∧ (i 1).val < win0_5.index t 1 * 848 + 848; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S256x848.Idx) := ⟨y 0, y 1, eq_ix2 (y : S256x848.Idx)⟩
  have e : (cfg0.win 6).xinj (grid0.coords t) (ix2 r k : S256x848.Idx) = (ix2 r k : S256x848.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S256x848 .f32) ((cfg0.win 6).xinj (grid0.coords t) (ix2 r k : S256x848.Idx)) = _
  rw [e, out6_at, G6_at]
  simp only [at0, at1, at2, at3]

theorem mem_block6 (t : Fin cfg0.N) (i : S8192x848.Idx) : i ∈ ((cfg0.win 6).blk t).view.set
    ↔ ∀ a : Fin 2, win0_6.index t a * S256x848.size a ≤ (i a).val ∧ (i a).val < win0_6.index t a * S256x848.size a + S256x848.size a := by
  change i ∈ ((View.whole main_v4_2).slice (win0_6.rect t)).set ↔ _
  rw [View.set_slice_whole, Rect.mem_set_unit]
  rfl

theorem covered6 (i : S8192x848.Idx) : ∃ t : Fin cfg0.N, (cfg0.win 6).flush t = true ∧ i ∈ ((cfg0.win 6).blk t).view.set := by
  have b0 : (i 0).val < 8192 := (i 0).isLt
  have b1 : (i 1).val < 848 := (i 1).isLt
  obtain ⟨t, ht⟩ : ∃ t : Fin cfg0.N, t.val = (i 0).val / 256 :=
    ⟨⟨_, lt_of_lt_of_eq (by omega) (show cfg0.N = 32 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 256 ≤ (i 0).val ∧ (i 0).val < win0_6.index t 0 * 256 + 256; omega
  | ⟨1, _⟩ => show win0_6.index t 1 * 848 ≤ (i 1).val ∧ (i 1).val < win0_6.index t 1 * 848 + 848; omega

theorem result6 : (dats m 0 c).arrAt 6 cfg0.N = G6 m c :=
  (dats m 0 c).arrAt_eq_of_cover 6 (G6 m c) (fun t _ => flushed6_eq m c t) (fun i => covered6 i)

end Cert.Kernel20Ideal.Step

end
-- ==== Proof.Step21.lean ====
module

public import proofs.«01_k».proof.Proof.Gen.Kernel21Ideal.Value
public import proofs.«01_k».proof.Proof.Gen.Reference21Ideal.Read
public import proofs.«01_k».proof.Proof.Adam

/-! The optimiser's step for the shard of the S5 gate's weights: each grid point does its 512 rows. -/

set_option maxRecDepth 16384

@[expose] public noncomputable section

open Idealize.ShloMosaic Idealize.ShloMosaic.TcCoe Idealize.SL.Sem

namespace Cert.Kernel21Ideal.Step

open Cert.Kernel21Ideal Cert.Kernel21Ideal.Gen Cert.Kernel21Ideal.Value

variable (m : (ℓ : Loc nD τ sig) → Buf (Elt Ideal) ℓ) (c : Dev nD)

abbrev a0 : FVec Ideal S4x128x512 .f32 := m ((c : Thread nD τ).loc main_arg0)
abbrev a1 : FVec Ideal S4x128x512 .f32 := m ((c : Thread nD τ).loc main_arg1)
abbrev a2 : FVec Ideal S4x128x512 .f32 := m ((c : Thread nD τ).loc main_arg2)
abbrev a3 : FVec Ideal S4x128x512 .f32 := m ((c : Thread nD τ).loc main_arg3)

/-- Weights, gradient and moments, row after row. -/
abbrev w : FVec Ideal S512x512 .f32 := V m c main_v0
abbrev g : FVec Ideal S512x512 .f32 := V m c main_v1
abbrev m₁ : FVec Ideal S512x512 .f32 := V m c main_v2
abbrev m₂ : FVec Ideal S512x512 .f32 := V m c main_v3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 1 := lt_of_lt_of_eq t.isLt (show cfg0.N = 1 from N_0)

/-- A row of a point's block. -/
abbrev row (t : Fin cfg0.N) (r : Fin 512) : Fin 512 := ⟨t.val * 512 + r, by have := point_lt t; omega⟩

theorem view0 (t : Fin cfg0.N) (X : FVec Ideal S512x512 .f32) (r : Fin 512) (k : Fin 512) :
    (((cfg0.win 0).blk t).view.read (Elt Ideal) X : FVec Ideal S512x512 .f32) (ix2 r k) = X (ix2 (row t r) k) := by
  blk_ext [idx t]

theorem view1 (t : Fin cfg0.N) (X : FVec Ideal S512x512 .f32) (r : Fin 512) (k : Fin 512) :
    (((cfg0.win 1).blk t).view.read (Elt Ideal) X : FVec Ideal S512x512 .f32) (ix2 r k) = X (ix2 (row t r) k) := by
  blk_ext [idx t]

theorem view2 (t : Fin cfg0.N) (X : FVec Ideal S512x512 .f32) (r : Fin 512) (k : Fin 512) :
    (((cfg0.win 2).blk t).view.read (Elt Ideal) X : FVec Ideal S512x512 .f32) (ix2 r k) = X (ix2 (row t r) k) := by
  blk_ext [idx t]

theorem view3 (t : Fin cfg0.N) (X : FVec Ideal S512x512 .f32) (r : Fin 512) (k : Fin 512) :
    (((cfg0.win 3).blk t).view.read (Elt Ideal) X : FVec Ideal S512x512 .f32) (ix2 r k) = X (ix2 (row t r) k) := by
  blk_ext [idx t]

theorem view4 (t : Fin cfg0.N) (X : FVec Ideal S512x512 .f32) (r : Fin 512) (k : Fin 512) :
    (((cfg0.win 4).blk t).view.read (Elt Ideal) X : FVec Ideal S512x512 .f32) (ix2 r k) = X (ix2 (row t r) k) := by
  blk_ext [idx t]

theorem view5 (t : Fin cfg0.N) (X : FVec Ideal S512x512 .f32) (r : Fin 512) (k : Fin 512) :
    (((cfg0.win 5).blk t).view.read (Elt Ideal) X : FVec Ideal S512x512 .f32) (ix2 r k) = X (ix2 (row t r) k) := by
  blk_ext [idx t]

theorem view6 (t : Fin cfg0.N) (X : FVec Ideal S512x512 .f32) (r : Fin 512) (k : Fin 512) :
    (((cfg0.win 6).blk t).view.read (Elt Ideal) X : FVec Ideal S512x512 .f32) (ix2 r k) = X (ix2 (row t r) k) := by
  blk_ext [idx t]

theorem at0 (t : Fin cfg0.N) (r : Fin 512) (k : Fin 512) :
    (iblk m c 0 t : FVec Ideal S512x512 .f32) (ix2 r k) = w m c (ix2 (row t r) k) := by
  unfold iblk
  exact view0 t (V m c main_v0) r k

theorem at1 (t : Fin cfg0.N) (r : Fin 512) (k : Fin 512) :
    (iblk m c 1 t : FVec Ideal S512x512 .f32) (ix2 r k) = g m c (ix2 (row t r) k) := by
  unfold iblk
  exact view1 t (V m c main_v1) r k

theorem at2 (t : Fin cfg0.N) (r : Fin 512) (k : Fin 512) :
    (iblk m c 2 t : FVec Ideal S512x512 .f32) (ix2 r k) = m₁ m c (ix2 (row t r) k) := by
  unfold iblk
  exact view2 t (V m c main_v2) r k

theorem at3 (t : Fin cfg0.N) (r : Fin 512) (k : Fin 512) :
    (iblk m c 3 t : FVec Ideal S512x512 .f32) (ix2 r k) = m₂ m c (ix2 (row t r) k) := by
  unfold iblk
  exact view3 t (V m c main_v3) r k

theorem out4_at (x0 x1 x2 x3 : FVec Ideal S512x512 .f32) (r : Fin 512) (k : Fin 512) : (out0_4 (F := Ideal) x0 x1 x2 x3 : FVec Ideal S512x512 .f32) (ix2 r k)
    = Cert.Adam.delta (x0 (ix2 r k)) (x1 (ix2 r k)) (x2 (ix2 r k)) (x3 (ix2 r k)) := by
  unfold out0_4
  frame_out
  pointwise [k0_pay4, k0_pay3, k0_pay2, k0_pay1]
  rfl

theorem out5_at (x0 x1 x2 x3 : FVec Ideal S512x512 .f32) (r : Fin 512) (k : Fin 512) : (out0_5 (F := Ideal) x0 x1 x2 x3 : FVec Ideal S512x512 .f32) (ix2 r k)
    = Cert.Adam.first (x1 (ix2 r k)) (x2 (ix2 r k)) := by
  unfold out0_5
  frame_out
  pointwise [k0_pay2, k0_pay1]
  rfl

theorem out6_at (x0 x1 x2 x3 : FVec Ideal S512x512 .f32) (r : Fin 512) (k : Fin 512) : (out0_6 (F := Ideal) x0 x1 x2 x3 : FVec Ideal S512x512 .f32) (ix2 r k)
    = Cert.Adam.second (x1 (ix2 r k)) (x3 (ix2 r k)) := by
  unfold out0_6
  frame_out
  pointwise [k0_pay3, k0_pay1]
  rfl

/-- The plain step. -/
abbrev G4 : FVec Ideal S512x512 .f32 := Cert.Reference21Ideal.Read.val_main_v24 (F := Ideal) (a0 m c) (a1 m c) (a2 m c) (a3 m c)
abbrev G5 : FVec Ideal S512x512 .f32 := Cert.Reference21Ideal.Read.val_main_v25 (F := Ideal) (a1 m c) (a2 m c)
abbrev G6 : FVec Ideal S512x512 .f32 := Cert.Reference21Ideal.Read.val_main_v26 (F := Ideal) (a1 m c) (a3 m c)

theorem G4_at (i : S512x512.Idx) : G4 m c i = Cert.Adam.delta (w m c i) (g m c i) (m₁ m c i) (m₂ m c i) := rfl
theorem G5_at (i : S512x512.Idx) : G5 m c i = Cert.Adam.first (g m c i) (m₁ m c i) := rfl
theorem G6_at (i : S512x512.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S512x512.Idx) := ⟨y 0, y 1, eq_ix2 (y : S512x512.Idx)⟩
  have e : (cfg0.win 4).xinj (grid0.coords t) (ix2 r k : S512x512.Idx) = (ix2 r k : S512x512.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S512x512 .f32) ((cfg0.win 4).xinj (grid0.coords t) (ix2 r k : S512x512.Idx)) = _
  rw [e, out4_at, G4_at]
  simp only [at0, at1, at2, at3]

theorem mem_block4 (t : Fin cfg0.N) (i : S512x512.Idx) : i ∈ ((cfg0.win 4).blk t).view.set
    ↔ ∀ a : Fin 2, win0_4.index t a * S512x512.size a ≤ (i a).val ∧ (i a).val < win0_4.index t a * S512x512.size a + S512x512.size a := by
  change i ∈ ((View.whole main_v4_0).slice (win0_4.rect t)).set ↔ _
  rw [View.set_slice_whole, Rect.mem_set_unit]
  rfl

theorem covered4 (i : S512x512.Idx) : ∃ t : Fin cfg0.N, (cfg0.win 4).flush t = true ∧ i ∈ ((cfg0.win 4).blk t).view.set := by
  have b0 : (i 0).val < 512 := (i 0).isLt
  have b1 : (i 1).val < 512 := (i 1).isLt
  obtain ⟨t, ht⟩ : ∃ t : Fin cfg0.N, t.val = (i 0).val / 512 :=
    ⟨⟨_, lt_of_lt_of_eq (by omega) (show cfg0.N = 1 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 512 ≤ (i 0).val ∧ (i 0).val < win0_4.index t 0 * 512 + 512; omega
  | ⟨1, _⟩ => show win0_4.index t 1 * 512 ≤ (i 1).val ∧ (i 1).val < win0_4.index t 1 * 512 + 512; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S512x512.Idx) := ⟨y 0, y 1, eq_ix2 (y : S512x512.Idx)⟩
  have e : (cfg0.win 5).xinj (grid0.coords t) (ix2 r k : S512x512.Idx) = (ix2 r k : S512x512.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S512x512 .f32) ((cfg0.win 5).xinj (grid0.coords t) (ix2 r k : S512x512.Idx)) = _
  rw [e, out5_at, G5_at]
  simp only [at0, at1, at2, at3]

theorem mem_block5 (t : Fin cfg0.N) (i : S512x512.Idx) : i ∈ ((cfg0.win 5).blk t).view.set
    ↔ ∀ a : Fin 2, win0_5.index t a * S512x512.size a ≤ (i a).val ∧ (i a).val < win0_5.index t a * S512x512.size a + S512x512.size a := by
  change i ∈ ((View.whole main_v4_1).slice (win0_5.rect t)).set ↔ _
  rw [View.set_slice_whole, Rect.mem_set_unit]
  rfl

theorem covered5 (i : S512x512.Idx) : ∃ t : Fin cfg0.N, (cfg0.win 5).flush t = true ∧ i ∈ ((cfg0.win 5).blk t).view.set := by
  have b0 : (i 0).val < 512 := (i 0).isLt
  have b1 : (i 1).val < 512 := (i 1).isLt
  obtain ⟨t, ht⟩ : ∃ t : Fin cfg0.N, t.val = (i 0).val / 512 :=
    ⟨⟨_, lt_of_lt_of_eq (by omega) (show cfg0.N = 1 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 512 ≤ (i 0).val ∧ (i 0).val < win0_5.index t 0 * 512 + 512; omega
  | ⟨1, _⟩ => show win0_5.index t 1 * 512 ≤ (i 1).val ∧ (i 1).val < win0_5.index t 1 * 512 + 512; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S512x512.Idx) := ⟨y 0, y 1, eq_ix2 (y : S512x512.Idx)⟩
  have e : (cfg0.win 6).xinj (grid0.coords t) (ix2 r k : S512x512.Idx) = (ix2 r k : S512x512.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S512x512 .f32) ((cfg0.win 6).xinj (grid0.coords t) (ix2 r k : S512x512.Idx)) = _
  rw [e, out6_at, G6_at]
  simp only [at0, at1, at2, at3]

theorem mem_block6 (t : Fin cfg0.N) (i : S512x512.Idx) : i ∈ ((cfg0.win 6).blk t).view.set
    ↔ ∀ a : Fin 2, win0_6.index t a * S512x512.size a ≤ (i a).val ∧ (i a).val < win0_6.index t a * S512x512.size a + S512x512.size a := by
  change i ∈ ((View.whole main_v4_2).slice (win0_6.rect t)).set ↔ _
  rw [View.set_slice_whole, Rect.mem_set_unit]
  rfl

theorem covered6 (i : S512x512.Idx) : ∃ t : Fin cfg0.N, (cfg0.win 6).flush t = true ∧ i ∈ ((cfg0.win 6).blk t).view.set := by
  have b0 : (i 0).val < 512 := (i 0).isLt
  have b1 : (i 1).val < 512 := (i 1).isLt
  obtain ⟨t, ht⟩ : ∃ t : Fin cfg0.N, t.val = (i 0).val / 512 :=
    ⟨⟨_, lt_of_lt_of_eq (by omega) (show cfg0.N = 1 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 512 ≤ (i 0).val ∧ (i 0).val < win0_6.index t 0 * 512 + 512; omega
  | ⟨1, _⟩ => show win0_6.index t 1 * 512 ≤ (i 1).val ∧ (i 1).val < win0_6.index t 1 * 512 + 512; omega

theorem result6 : (dats m 0 c).arrAt 6 cfg0.N = G6 m c :=
  (dats m 0 c).arrAt_eq_of_cover 6 (G6 m c) (fun t _ => flushed6_eq m c t) (fun i => covered6 i)

end Cert.Kernel21Ideal.Step

end
-- ==== Proof.Step22.lean ====
module

public import proofs.«01_k».proof.Proof.Gen.Kernel22Ideal.Value
public import proofs.«01_k».proof.Proof.Gen.Reference22Ideal.Read
public import proofs.«01_k».proof.Proof.Adam

/-! The optimiser's step for the shard of the weights that expand the queries: each grid point does its 512 rows. -/

set_option maxRecDepth 16384

@[expose] public noncomputable section

open Idealize.ShloMosaic Idealize.ShloMosaic.TcCoe Idealize.SL.Sem

namespace Cert.Kernel22Ideal.Step

open Cert.Kernel22Ideal Cert.Kernel22Ideal.Gen Cert.Kernel22Ideal.Value

variable (m : (ℓ : Loc nD τ sig) → Buf (Elt Ideal) ℓ) (c : Dev nD)

abbrev a0 : FVec Ideal S4x512x384 .f32 := m ((c : Thread nD τ).loc main_arg0)
abbrev a1 : FVec Ideal S4x512x384 .f32 := m ((c : Thread nD τ).loc main_arg1)
abbrev a2 : FVec Ideal S4x512x384 .f32 := m ((c : Thread nD τ).loc main_arg2)
abbrev a3 : FVec Ideal S4x512x384 .f32 := m ((c : Thread nD τ).loc main_arg3)

/-- Weights, gradient and moments, row after row. -/
abbrev w : FVec Ideal S2048x384 .f32 := V m c main_v0
abbrev g : FVec Ideal S2048x384 .f32 := V m c main_v1
abbrev m₁ : FVec Ideal S2048x384 .f32 := V m c main_v2
abbrev m₂ : FVec Ideal S2048x384 .f32 := V m c main_v3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 4 := lt_of_lt_of_eq t.isLt (show cfg0.N = 4 from N_0)

/-- A row of a point's block. -/
abbrev row (t : Fin cfg0.N) (r : Fin 512) : Fin 2048 := ⟨t.val * 512 + r, by have := point_lt t; omega⟩

theorem view0 (t : Fin cfg0.N) (X : FVec Ideal S2048x384 .f32) (r : Fin 512) (k : Fin 384) :
    (((cfg0.win 0).blk t).view.read (Elt Ideal) X : FVec Ideal S512x384 .f32) (ix2 r k) = X (ix2 (row t r) k) := by
  blk_ext [idx t]

theorem view1 (t : Fin cfg0.N) (X : FVec Ideal S2048x384 .f32) (r : Fin 512) (k : Fin 384) :
    (((cfg0.win 1).blk t).view.read (Elt Ideal) X : FVec Ideal S512x384 .f32) (ix2 r k) = X (ix2 (row t r) k) := by
  blk_ext [idx t]

theorem view2 (t : Fin cfg0.N) (X : FVec Ideal S2048x384 .f32) (r : Fin 512) (k : Fin 384) :
    (((cfg0.win 2).blk t).view.read (Elt Ideal) X : FVec Ideal S512x384 .f32) (ix2 r k) = X (ix2 (row t r) k) := by
  blk_ext [idx t]

theorem view3 (t : Fin cfg0.N) (X : FVec Ideal S2048x384 .f32) (r : Fin 512) (k : Fin 384) :
    (((cfg0.win 3).blk t).view.read (Elt Ideal) X : FVec Ideal S512x384 .f32) (ix2 r k) = X (ix2 (row t r) k) := by
  blk_ext [idx t]

theorem view4 (t : Fin cfg0.N) (X : FVec Ideal S2048x384 .f32) (r : Fin 512) (k : Fin 384) :
    (((cfg0.win 4).blk t).view.read (Elt Ideal) X : FVec Ideal S512x384 .f32) (ix2 r k) = X (ix2 (row t r) k) := by
  blk_ext [idx t]

theorem view5 (t : Fin cfg0.N) (X : FVec Ideal S2048x384 .f32) (r : Fin 512) (k : Fin 384) :
    (((cfg0.win 5).blk t).view.read (Elt Ideal) X : FVec Ideal S512x384 .f32) (ix2 r k) = X (ix2 (row t r) k) := by
  blk_ext [idx t]

theorem view6 (t : Fin cfg0.N) (X : FVec Ideal S2048x384 .f32) (r : Fin 512) (k : Fin 384) :
    (((cfg0.win 6).blk t).view.read (Elt Ideal) X : FVec Ideal S512x384 .f32) (ix2 r k) = X (ix2 (row t r) k) := by
  blk_ext [idx t]

theorem at0 (t : Fin cfg0.N) (r : Fin 512) (k : Fin 384) :
    (iblk m c 0 t : FVec Ideal S512x384 .f32) (ix2 r k) = w m c (ix2 (row t r) k) := by
  unfold iblk
  exact view0 t (V m c main_v0) r k

theorem at1 (t : Fin cfg0.N) (r : Fin 512) (k : Fin 384) :
    (iblk m c 1 t : FVec Ideal S512x384 .f32) (ix2 r k) = g m c (ix2 (row t r) k) := by
  unfold iblk
  exact view1 t (V m c main_v1) r k

theorem at2 (t : Fin cfg0.N) (r : Fin 512) (k : Fin 384) :
    (iblk m c 2 t : FVec Ideal S512x384 .f32) (ix2 r k) = m₁ m c (ix2 (row t r) k) := by
  unfold iblk
  exact view2 t (V m c main_v2) r k

theorem at3 (t : Fin cfg0.N) (r : Fin 512) (k : Fin 384) :
    (iblk m c 3 t : FVec Ideal S512x384 .f32) (ix2 r k) = m₂ m c (ix2 (row t r) k) := by
  unfold iblk
  exact view3 t (V m c main_v3) r k

theorem out4_at (x0 x1 x2 x3 : FVec Ideal S512x384 .f32) (r : Fin 512) (k : Fin 384) : (out0_4 (F := Ideal) x0 x1 x2 x3 : FVec Ideal S512x384 .f32) (ix2 r k)
    = Cert.Adam.delta (x0 (ix2 r k)) (x1 (ix2 r k)) (x2 (ix2 r k)) (x3 (ix2 r k)) := by
  unfold out0_4
  frame_out
  pointwise [k0_pay4, k0_pay3, k0_pay2, k0_pay1]
  rfl

theorem out5_at (x0 x1 x2 x3 : FVec Ideal S512x384 .f32) (r : Fin 512) (k : Fin 384) : (out0_5 (F := Ideal) x0 x1 x2 x3 : FVec Ideal S512x384 .f32) (ix2 r k)
    = Cert.Adam.first (x1 (ix2 r k)) (x2 (ix2 r k)) := by
  unfold out0_5
  frame_out
  pointwise [k0_pay2, k0_pay1]
  rfl

theorem out6_at (x0 x1 x2 x3 : FVec Ideal S512x384 .f32) (r : Fin 512) (k : Fin 384) : (out0_6 (F := Ideal) x0 x1 x2 x3 : FVec Ideal S512x384 .f32) (ix2 r k)
    = Cert.Adam.second (x1 (ix2 r k)) (x3 (ix2 r k)) := by
  unfold out0_6
  frame_out
  pointwise [k0_pay3, k0_pay1]
  rfl

/-- The plain step. -/
abbrev G4 : FVec Ideal S2048x384 .f32 := Cert.Reference22Ideal.Read.val_main_v24 (F := Ideal) (a0 m c) (a1 m c) (a2 m c) (a3 m c)
abbrev G5 : FVec Ideal S2048x384 .f32 := Cert.Reference22Ideal.Read.val_main_v25 (F := Ideal) (a1 m c) (a2 m c)
abbrev G6 : FVec Ideal S2048x384 .f32 := Cert.Reference22Ideal.Read.val_main_v26 (F := Ideal) (a1 m c) (a3 m c)

theorem G4_at (i : S2048x384.Idx) : G4 m c i = Cert.Adam.delta (w m c i) (g m c i) (m₁ m c i) (m₂ m c i) := rfl
theorem G5_at (i : S2048x384.Idx) : G5 m c i = Cert.Adam.first (g m c i) (m₁ m c i) := rfl
theorem G6_at (i : S2048x384.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S512x384.Idx) := ⟨y 0, y 1, eq_ix2 (y : S512x384.Idx)⟩
  have e : (cfg0.win 4).xinj (grid0.coords t) (ix2 r k : S512x384.Idx) = (ix2 r k : S512x384.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S512x384 .f32) ((cfg0.win 4).xinj (grid0.coords t) (ix2 r k : S512x384.Idx)) = _
  rw [e, out4_at, G4_at]
  simp only [at0, at1, at2, at3]

theorem mem_block4 (t : Fin cfg0.N) (i : S2048x384.Idx) : i ∈ ((cfg0.win 4).blk t).view.set
    ↔ ∀ a : Fin 2, win0_4.index t a * S512x384.size a ≤ (i a).val ∧ (i a).val < win0_4.index t a * S512x384.size a + S512x384.size a := by
  change i ∈ ((View.whole main_v4_0).slice (win0_4.rect t)).set ↔ _
  rw [View.set_slice_whole, Rect.mem_set_unit]
  rfl

theorem covered4 (i : S2048x384.Idx) : ∃ t : Fin cfg0.N, (cfg0.win 4).flush t = true ∧ i ∈ ((cfg0.win 4).blk t).view.set := by
  have b0 : (i 0).val < 2048 := (i 0).isLt
  have b1 : (i 1).val < 384 := (i 1).isLt
  obtain ⟨t, ht⟩ : ∃ t : Fin cfg0.N, t.val = (i 0).val / 512 :=
    ⟨⟨_, lt_of_lt_of_eq (by omega) (show cfg0.N = 4 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 512 ≤ (i 0).val ∧ (i 0).val < win0_4.index t 0 * 512 + 512; omega
  | ⟨1, _⟩ => show win0_4.index t 1 * 384 ≤ (i 1).val ∧ (i 1).val < win0_4.index t 1 * 384 + 384; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S512x384.Idx) := ⟨y 0, y 1, eq_ix2 (y : S512x384.Idx)⟩
  have e : (cfg0.win 5).xinj (grid0.coords t) (ix2 r k : S512x384.Idx) = (ix2 r k : S512x384.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S512x384 .f32) ((cfg0.win 5).xinj (grid0.coords t) (ix2 r k : S512x384.Idx)) = _
  rw [e, out5_at, G5_at]
  simp only [at0, at1, at2, at3]

theorem mem_block5 (t : Fin cfg0.N) (i : S2048x384.Idx) : i ∈ ((cfg0.win 5).blk t).view.set
    ↔ ∀ a : Fin 2, win0_5.index t a * S512x384.size a ≤ (i a).val ∧ (i a).val < win0_5.index t a * S512x384.size a + S512x384.size a := by
  change i ∈ ((View.whole main_v4_1).slice (win0_5.rect t)).set ↔ _
  rw [View.set_slice_whole, Rect.mem_set_unit]
  rfl

theorem covered5 (i : S2048x384.Idx) : ∃ t : Fin cfg0.N, (cfg0.win 5).flush t = true ∧ i ∈ ((cfg0.win 5).blk t).view.set := by
  have b0 : (i 0).val < 2048 := (i 0).isLt
  have b1 : (i 1).val < 384 := (i 1).isLt
  obtain ⟨t, ht⟩ : ∃ t : Fin cfg0.N, t.val = (i 0).val / 512 :=
    ⟨⟨_, lt_of_lt_of_eq (by omega) (show cfg0.N = 4 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 512 ≤ (i 0).val ∧ (i 0).val < win0_5.index t 0 * 512 + 512; omega
  | ⟨1, _⟩ => show win0_5.index t 1 * 384 ≤ (i 1).val ∧ (i 1).val < win0_5.index t 1 * 384 + 384; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S512x384.Idx) := ⟨y 0, y 1, eq_ix2 (y : S512x384.Idx)⟩
  have e : (cfg0.win 6).xinj (grid0.coords t) (ix2 r k : S512x384.Idx) = (ix2 r k : S512x384.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S512x384 .f32) ((cfg0.win 6).xinj (grid0.coords t) (ix2 r k : S512x384.Idx)) = _
  rw [e, out6_at, G6_at]
  simp only [at0, at1, at2, at3]

theorem mem_block6 (t : Fin cfg0.N) (i : S2048x384.Idx) : i ∈ ((cfg0.win 6).blk t).view.set
    ↔ ∀ a : Fin 2, win0_6.index t a * S512x384.size a ≤ (i a).val ∧ (i a).val < win0_6.index t a * S512x384.size a + S512x384.size a := by
  change i ∈ ((View.whole main_v4_2).slice (win0_6.rect t)).set ↔ _
  rw [View.set_slice_whole, Rect.mem_set_unit]
  rfl

theorem covered6 (i : S2048x384.Idx) : ∃ t : Fin cfg0.N, (cfg0.win 6).flush t = true ∧ i ∈ ((cfg0.win 6).blk t).view.set := by
  have b0 : (i 0).val < 2048 := (i 0).isLt
  have b1 : (i 1).val < 384 := (i 1).isLt
  obtain ⟨t, ht⟩ : ∃ t : Fin cfg0.N, t.val = (i 0).val / 512 :=
    ⟨⟨_, lt_of_lt_of_eq (by omega) (show cfg0.N = 4 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 512 ≤ (i 0).val ∧ (i 0).val < win0_6.index t 0 * 512 + 512; omega
  | ⟨1, _⟩ => show win0_6.index t 1 * 384 ≤ (i 1).val ∧ (i 1).val < win0_6.index t 1 * 384 + 384; omega

theorem result6 : (dats m 0 c).arrAt 6 cfg0.N = G6 m c :=
  (dats m 0 c).arrAt_eq_of_cover 6 (G6 m c) (fun t _ => flushed6_eq m c t) (fun i => covered6 i)

end Cert.Kernel22Ideal.Step

end
-- ==== Proof.Step23.lean ====
module

public import proofs.«01_k».proof.Proof.Gen.Kernel23Ideal.Value
public import proofs.«01_k».proof.Proof.Gen.Reference23Ideal.Read
public import proofs.«01_k».proof.Proof.Adam

/-! The optimiser's step for the shard of the weights that expand the keys and values: each grid point does its 512 rows. -/

set_option maxRecDepth 16384

@[expose] public noncomputable section

open Idealize.ShloMosaic Idealize.ShloMosaic.TcCoe Idealize.SL.Sem

namespace Cert.Kernel23Ideal.Step

open Cert.Kernel23Ideal Cert.Kernel23Ideal.Gen Cert.Kernel23Ideal.Value

variable (m : (ℓ : Loc nD τ sig) → Buf (Elt Ideal) ℓ) (c : Dev nD)

abbrev a0 : FVec Ideal S4x256x512 .f32 := m ((c : Thread nD τ).loc main_arg0)
abbrev a1 : FVec Ideal S4x256x512 .f32 := m ((c : Thread nD τ).loc main_arg1)
abbrev a2 : FVec Ideal S4x256x512 .f32 := m ((c : Thread nD τ).loc main_arg2)
abbrev a3 : FVec Ideal S4x256x512 .f32 := m ((c : Thread nD τ).loc main_arg3)

/-- Weights, gradient and moments, row after row. -/
abbrev w : FVec Ideal S1024x512 .f32 := V m c main_v0
abbrev g : FVec Ideal S1024x512 .f32 := V m c main_v1
abbrev m₁ : FVec Ideal S1024x512 .f32 := V m c main_v2
abbrev m₂ : FVec Ideal S1024x512 .f32 := V m c main_v3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 2 := lt_of_lt_of_eq t.isLt (show cfg0.N = 2 from N_0)

/-- A row of a point's block. -/
abbrev row (t : Fin cfg0.N) (r : Fin 512) : Fin 1024 := ⟨t.val * 512 + r, by have := point_lt t; omega⟩

theorem view0 (t : Fin cfg0.N) (X : FVec Ideal S1024x512 .f32) (r : Fin 512) (k : Fin 512) :
    (((cfg0.win 0).blk t).view.read (Elt Ideal) X : FVec Ideal S512x512 .f32) (ix2 r k) = X (ix2 (row t r) k) := by
  blk_ext [idx t]

theorem view1 (t : Fin cfg0.N) (X : FVec Ideal S1024x512 .f32) (r : Fin 512) (k : Fin 512) :
    (((cfg0.win 1).blk t).view.read (Elt Ideal) X : FVec Ideal S512x512 .f32) (ix2 r k) = X (ix2 (row t r) k) := by
  blk_ext [idx t]

theorem view2 (t : Fin cfg0.N) (X : FVec Ideal S1024x512 .f32) (r : Fin 512) (k : Fin 512) :
    (((cfg0.win 2).blk t).view.read (Elt Ideal) X : FVec Ideal S512x512 .f32) (ix2 r k) = X (ix2 (row t r) k) := by
  blk_ext [idx t]

theorem view3 (t : Fin cfg0.N) (X : FVec Ideal S1024x512 .f32) (r : Fin 512) (k : Fin 512) :
    (((cfg0.win 3).blk t).view.read (Elt Ideal) X : FVec Ideal S512x512 .f32) (ix2 r k) = X (ix2 (row t r) k) := by
  blk_ext [idx t]

theorem view4 (t : Fin cfg0.N) (X : FVec Ideal S1024x512 .f32) (r : Fin 512) (k : Fin 512) :
    (((cfg0.win 4).blk t).view.read (Elt Ideal) X : FVec Ideal S512x512 .f32) (ix2 r k) = X (ix2 (row t r) k) := by
  blk_ext [idx t]

theorem view5 (t : Fin cfg0.N) (X : FVec Ideal S1024x512 .f32) (r : Fin 512) (k : Fin 512) :
    (((cfg0.win 5).blk t).view.read (Elt Ideal) X : FVec Ideal S512x512 .f32) (ix2 r k) = X (ix2 (row t r) k) := by
  blk_ext [idx t]

theorem view6 (t : Fin cfg0.N) (X : FVec Ideal S1024x512 .f32) (r : Fin 512) (k : Fin 512) :
    (((cfg0.win 6).blk t).view.read (Elt Ideal) X : FVec Ideal S512x512 .f32) (ix2 r k) = X (ix2 (row t r) k) := by
  blk_ext [idx t]

theorem at0 (t : Fin cfg0.N) (r : Fin 512) (k : Fin 512) :
    (iblk m c 0 t : FVec Ideal S512x512 .f32) (ix2 r k) = w m c (ix2 (row t r) k) := by
  unfold iblk
  exact view0 t (V m c main_v0) r k

theorem at1 (t : Fin cfg0.N) (r : Fin 512) (k : Fin 512) :
    (iblk m c 1 t : FVec Ideal S512x512 .f32) (ix2 r k) = g m c (ix2 (row t r) k) := by
  unfold iblk
  exact view1 t (V m c main_v1) r k

theorem at2 (t : Fin cfg0.N) (r : Fin 512) (k : Fin 512) :
    (iblk m c 2 t : FVec Ideal S512x512 .f32) (ix2 r k) = m₁ m c (ix2 (row t r) k) := by
  unfold iblk
  exact view2 t (V m c main_v2) r k

theorem at3 (t : Fin cfg0.N) (r : Fin 512) (k : Fin 512) :
    (iblk m c 3 t : FVec Ideal S512x512 .f32) (ix2 r k) = m₂ m c (ix2 (row t r) k) := by
  unfold iblk
  exact view3 t (V m c main_v3) r k

theorem out4_at (x0 x1 x2 x3 : FVec Ideal S512x512 .f32) (r : Fin 512) (k : Fin 512) : (out0_4 (F := Ideal) x0 x1 x2 x3 : FVec Ideal S512x512 .f32) (ix2 r k)
    = Cert.Adam.delta (x0 (ix2 r k)) (x1 (ix2 r k)) (x2 (ix2 r k)) (x3 (ix2 r k)) := by
  unfold out0_4
  frame_out
  pointwise [k0_pay4, k0_pay3, k0_pay2, k0_pay1]
  rfl

theorem out5_at (x0 x1 x2 x3 : FVec Ideal S512x512 .f32) (r : Fin 512) (k : Fin 512) : (out0_5 (F := Ideal) x0 x1 x2 x3 : FVec Ideal S512x512 .f32) (ix2 r k)
    = Cert.Adam.first (x1 (ix2 r k)) (x2 (ix2 r k)) := by
  unfold out0_5
  frame_out
  pointwise [k0_pay2, k0_pay1]
  rfl

theorem out6_at (x0 x1 x2 x3 : FVec Ideal S512x512 .f32) (r : Fin 512) (k : Fin 512) : (out0_6 (F := Ideal) x0 x1 x2 x3 : FVec Ideal S512x512 .f32) (ix2 r k)
    = Cert.Adam.second (x1 (ix2 r k)) (x3 (ix2 r k)) := by
  unfold out0_6
  frame_out
  pointwise [k0_pay3, k0_pay1]
  rfl

/-- The plain step. -/
abbrev G4 : FVec Ideal S1024x512 .f32 := Cert.Reference23Ideal.Read.val_main_v24 (F := Ideal) (a0 m c) (a1 m c) (a2 m c) (a3 m c)
abbrev G5 : FVec Ideal S1024x512 .f32 := Cert.Reference23Ideal.Read.val_main_v25 (F := Ideal) (a1 m c) (a2 m c)
abbrev G6 : FVec Ideal S1024x512 .f32 := Cert.Reference23Ideal.Read.val_main_v26 (F := Ideal) (a1 m c) (a3 m c)

theorem G4_at (i : S1024x512.Idx) : G4 m c i = Cert.Adam.delta (w m c i) (g m c i) (m₁ m c i) (m₂ m c i) := rfl
theorem G5_at (i : S1024x512.Idx) : G5 m c i = Cert.Adam.first (g m c i) (m₁ m c i) := rfl
theorem G6_at (i : S1024x512.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S512x512.Idx) := ⟨y 0, y 1, eq_ix2 (y : S512x512.Idx)⟩
  have e : (cfg0.win 4).xinj (grid0.coords t) (ix2 r k : S512x512.Idx) = (ix2 r k : S512x512.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S512x512 .f32) ((cfg0.win 4).xinj (grid0.coords t) (ix2 r k : S512x512.Idx)) = _
  rw [e, out4_at, G4_at]
  simp only [at0, at1, at2, at3]

theorem mem_block4 (t : Fin cfg0.N) (i : S1024x512.Idx) : i ∈ ((cfg0.win 4).blk t).view.set
    ↔ ∀ a : Fin 2, win0_4.index t a * S512x512.size a ≤ (i a).val ∧ (i a).val < win0_4.index t a * S512x512.size a + S512x512.size a := by
  change i ∈ ((View.whole main_v4_0).slice (win0_4.rect t)).set ↔ _
  rw [View.set_slice_whole, Rect.mem_set_unit]
  rfl

theorem covered4 (i : S1024x512.Idx) : ∃ t : Fin cfg0.N, (cfg0.win 4).flush t = true ∧ i ∈ ((cfg0.win 4).blk t).view.set := by
  have b0 : (i 0).val < 1024 := (i 0).isLt
  have b1 : (i 1).val < 512 := (i 1).isLt
  obtain ⟨t, ht⟩ : ∃ t : Fin cfg0.N, t.val = (i 0).val / 512 :=
    ⟨⟨_, lt_of_lt_of_eq (by omega) (show cfg0.N = 2 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 512 ≤ (i 0).val ∧ (i 0).val < win0_4.index t 0 * 512 + 512; omega
  | ⟨1, _⟩ => show win0_4.index t 1 * 512 ≤ (i 1).val ∧ (i 1).val < win0_4.index t 1 * 512 + 512; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S512x512.Idx) := ⟨y 0, y 1, eq_ix2 (y : S512x512.Idx)⟩
  have e : (cfg0.win 5).xinj (grid0.coords t) (ix2 r k : S512x512.Idx) = (ix2 r k : S512x512.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S512x512 .f32) ((cfg0.win 5).xinj (grid0.coords t) (ix2 r k : S512x512.Idx)) = _
  rw [e, out5_at, G5_at]
  simp only [at0, at1, at2, at3]

theorem mem_block5 (t : Fin cfg0.N) (i : S1024x512.Idx) : i ∈ ((cfg0.win 5).blk t).view.set
    ↔ ∀ a : Fin 2, win0_5.index t a * S512x512.size a ≤ (i a).val ∧ (i a).val < win0_5.index t a * S512x512.size a + S512x512.size a := by
  change i ∈ ((View.whole main_v4_1).slice (win0_5.rect t)).set ↔ _
  rw [View.set_slice_whole, Rect.mem_set_unit]
  rfl

theorem covered5 (i : S1024x512.Idx) : ∃ t : Fin cfg0.N, (cfg0.win 5).flush t = true ∧ i ∈ ((cfg0.win 5).blk t).view.set := by
  have b0 : (i 0).val < 1024 := (i 0).isLt
  have b1 : (i 1).val < 512 := (i 1).isLt
  obtain ⟨t, ht⟩ : ∃ t : Fin cfg0.N, t.val = (i 0).val / 512 :=
    ⟨⟨_, lt_of_lt_of_eq (by omega) (show cfg0.N = 2 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 512 ≤ (i 0).val ∧ (i 0).val < win0_5.index t 0 * 512 + 512; omega
  | ⟨1, _⟩ => show win0_5.index t 1 * 512 ≤ (i 1).val ∧ (i 1).val < win0_5.index t 1 * 512 + 512; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S512x512.Idx) := ⟨y 0, y 1, eq_ix2 (y : S512x512.Idx)⟩
  have e : (cfg0.win 6).xinj (grid0.coords t) (ix2 r k : S512x512.Idx) = (ix2 r k : S512x512.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S512x512 .f32) ((cfg0.win 6).xinj (grid0.coords t) (ix2 r k : S512x512.Idx)) = _
  rw [e, out6_at, G6_at]
  simp only [at0, at1, at2, at3]

theorem mem_block6 (t : Fin cfg0.N) (i : S1024x512.Idx) : i ∈ ((cfg0.win 6).blk t).view.set
    ↔ ∀ a : Fin 2, win0_6.index t a * S512x512.size a ≤ (i a).val ∧ (i a).val < win0_6.index t a * S512x512.size a + S512x512.size a := by
  change i ∈ ((View.whole main_v4_2).slice (win0_6.rect t)).set ↔ _
  rw [View.set_slice_whole, Rect.mem_set_unit]
  rfl

theorem covered6 (i : S1024x512.Idx) : ∃ t : Fin cfg0.N, (cfg0.win 6).flush t = true ∧ i ∈ ((cfg0.win 6).blk t).view.set := by
  have b0 : (i 0).val < 1024 := (i 0).isLt
  have b1 : (i 1).val < 512 := (i 1).isLt
  obtain ⟨t, ht⟩ : ∃ t : Fin cfg0.N, t.val = (i 0).val / 512 :=
    ⟨⟨_, lt_of_lt_of_eq (by omega) (show cfg0.N = 2 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 512 ≤ (i 0).val ∧ (i 0).val < win0_6.index t 0 * 512 + 512; omega
  | ⟨1, _⟩ => show win0_6.index t 1 * 512 ≤ (i 1).val ∧ (i 1).val < win0_6.index t 1 * 512 + 512; omega

theorem result6 : (dats m 0 c).arrAt 6 cfg0.N = G6 m c :=
  (dats m 0 c).arrAt_eq_of_cover 6 (G6 m c) (fun t _ => flushed6_eq m c t) (fun i => covered6 i)

end Cert.Kernel23Ideal.Step

end
-- ==== Proof.Step24.lean ====
module

public import proofs.«01_k».proof.Proof.Gen.Kernel24Ideal.Value
public import proofs.«01_k».proof.Proof.Gen.Reference24Ideal.Read
public import proofs.«01_k».proof.Proof.Adam

/-! The optimiser's step for the shard of the output projection's weights: each grid point does its 128 rows. -/

set_option maxRecDepth 16384

@[expose] public noncomputable section

open Idealize.ShloMosaic Idealize.ShloMosaic.TcCoe Idealize.SL.Sem

namespace Cert.Kernel24Ideal.Step

open Cert.Kernel24Ideal Cert.Kernel24Ideal.Gen Cert.Kernel24Ideal.Value

variable (m : (ℓ : Loc nD τ sig) → Buf (Elt Ideal) ℓ) (c : Dev nD)

abbrev a0 : FVec Ideal S4x512x2048 .f32 := m ((c : Thread nD τ).loc main_arg0)
abbrev a1 : FVec Ideal S4x512x2048 .f32 := m ((c : Thread nD τ).loc main_arg1)
abbrev a2 : FVec Ideal S4x512x2048 .f32 := m ((c : Thread nD τ).loc main_arg2)
abbrev a3 : FVec Ideal S4x512x2048 .f32 := m ((c : Thread nD τ).loc main_arg3)

/-- Weights, gradient and moments, row after row. -/
abbrev w : FVec Ideal S2048x2048 .f32 := V m c main_v0
abbrev g : FVec Ideal S2048x2048 .f32 := V m c main_v1
abbrev m₁ : FVec Ideal S2048x2048 .f32 := V m c main_v2
abbrev m₂ : FVec Ideal S2048x2048 .f32 := V m c main_v3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 16 := lt_of_lt_of_eq t.isLt (show cfg0.N = 16 from N_0)

/-- A row of a point's block. -/
abbrev row (t : Fin cfg0.N) (r : Fin 128) : Fin 2048 := ⟨t.val * 128 + r, by have := point_lt t; omega⟩

theorem view0 (t : Fin cfg0.N) (X : FVec Ideal S2048x2048 .f32) (r : Fin 128) (k : Fin 2048) :
    (((cfg0.win 0).blk t).view.read (Elt Ideal) X : FVec Ideal S128x2048 .f32) (ix2 r k) = X (ix2 (row t r) k) := by
  blk_ext [idx t]

theorem view1 (t : Fin cfg0.N) (X : FVec Ideal S2048x2048 .f32) (r : Fin 128) (k : Fin 2048) :
    (((cfg0.win 1).blk t).view.read (Elt Ideal) X : FVec Ideal S128x2048 .f32) (ix2 r k) = X (ix2 (row t r) k) := by
  blk_ext [idx t]

theorem view2 (t : Fin cfg0.N) (X : FVec Ideal S2048x2048 .f32) (r : Fin 128) (k : Fin 2048) :
    (((cfg0.win 2).blk t).view.read (Elt Ideal) X : FVec Ideal S128x2048 .f32) (ix2 r k) = X (ix2 (row t r) k) := by
  blk_ext [idx t]

theorem view3 (t : Fin cfg0.N) (X : FVec Ideal S2048x2048 .f32) (r : Fin 128) (k : Fin 2048) :
    (((cfg0.win 3).blk t).view.read (Elt Ideal) X : FVec Ideal S128x2048 .f32) (ix2 r k) = X (ix2 (row t r) k) := by
  blk_ext [idx t]

theorem view4 (t : Fin cfg0.N) (X : FVec Ideal S2048x2048 .f32) (r : Fin 128) (k : Fin 2048) :
    (((cfg0.win 4).blk t).view.read (Elt Ideal) X : FVec Ideal S128x2048 .f32) (ix2 r k) = X (ix2 (row t r) k) := by
  blk_ext [idx t]

theorem view5 (t : Fin cfg0.N) (X : FVec Ideal S2048x2048 .f32) (r : Fin 128) (k : Fin 2048) :
    (((cfg0.win 5).blk t).view.read (Elt Ideal) X : FVec Ideal S128x2048 .f32) (ix2 r k) = X (ix2 (row t r) k) := by
  blk_ext [idx t]

theorem view6 (t : Fin cfg0.N) (X : FVec Ideal S2048x2048 .f32) (r : Fin 128) (k : Fin 2048) :
    (((cfg0.win 6).blk t).view.read (Elt Ideal) X : FVec Ideal S128x2048 .f32) (ix2 r k) = X (ix2 (row t r) k) := by
  blk_ext [idx t]

theorem at0 (t : Fin cfg0.N) (r : Fin 128) (k : Fin 2048) :
    (iblk m c 0 t : FVec Ideal S128x2048 .f32) (ix2 r k) = w m c (ix2 (row t r) k) := by
  unfold iblk
  exact view0 t (V m c main_v0) r k

theorem at1 (t : Fin cfg0.N) (r : Fin 128) (k : Fin 2048) :
    (iblk m c 1 t : FVec Ideal S128x2048 .f32) (ix2 r k) = g m c (ix2 (row t r) k) := by
  unfold iblk
  exact view1 t (V m c main_v1) r k

theorem at2 (t : Fin cfg0.N) (r : Fin 128) (k : Fin 2048) :
    (iblk m c 2 t : FVec Ideal S128x2048 .f32) (ix2 r k) = m₁ m c (ix2 (row t r) k) := by
  unfold iblk
  exact view2 t (V m c main_v2) r k

theorem at3 (t : Fin cfg0.N) (r : Fin 128) (k : Fin 2048) :
    (iblk m c 3 t : FVec Ideal S128x2048 .f32) (ix2 r k) = m₂ m c (ix2 (row t r) k) := by
  unfold iblk
  exact view3 t (V m c main_v3) r k

theorem out4_at (x0 x1 x2 x3 : FVec Ideal S128x2048 .f32) (r : Fin 128) (k : Fin 2048) : (out0_4 (F := Ideal) x0 x1 x2 x3 : FVec Ideal S128x2048 .f32) (ix2 r k)
    = Cert.Adam.delta (x0 (ix2 r k)) (x1 (ix2 r k)) (x2 (ix2 r k)) (x3 (ix2 r k)) := by
  unfold out0_4
  frame_out
  pointwise [k0_pay4, k0_pay3, k0_pay2, k0_pay1]
  rfl

theorem out5_at (x0 x1 x2 x3 : FVec Ideal S128x2048 .f32) (r : Fin 128) (k : Fin 2048) : (out0_5 (F := Ideal) x0 x1 x2 x3 : FVec Ideal S128x2048 .f32) (ix2 r k)
    = Cert.Adam.first (x1 (ix2 r k)) (x2 (ix2 r k)) := by
  unfold out0_5
  frame_out
  pointwise [k0_pay2, k0_pay1]
  rfl

theorem out6_at (x0 x1 x2 x3 : FVec Ideal S128x2048 .f32) (r : Fin 128) (k : Fin 2048) : (out0_6 (F := Ideal) x0 x1 x2 x3 : FVec Ideal S128x2048 .f32) (ix2 r k)
    = Cert.Adam.second (x1 (ix2 r k)) (x3 (ix2 r k)) := by
  unfold out0_6
  frame_out
  pointwise [k0_pay3, k0_pay1]
  rfl

/-- The plain step. -/
abbrev G4 : FVec Ideal S2048x2048 .f32 := Cert.Reference24Ideal.Read.val_main_v24 (F := Ideal) (a0 m c) (a1 m c) (a2 m c) (a3 m c)
abbrev G5 : FVec Ideal S2048x2048 .f32 := Cert.Reference24Ideal.Read.val_main_v25 (F := Ideal) (a1 m c) (a2 m c)
abbrev G6 : FVec Ideal S2048x2048 .f32 := Cert.Reference24Ideal.Read.val_main_v26 (F := Ideal) (a1 m c) (a3 m c)

theorem G4_at (i : S2048x2048.Idx) : G4 m c i = Cert.Adam.delta (w m c i) (g m c i) (m₁ m c i) (m₂ m c i) := rfl
theorem G5_at (i : S2048x2048.Idx) : G5 m c i = Cert.Adam.first (g m c i) (m₁ m c i) := rfl
theorem G6_at (i : S2048x2048.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S128x2048.Idx) := ⟨y 0, y 1, eq_ix2 (y : S128x2048.Idx)⟩
  have e : (cfg0.win 4).xinj (grid0.coords t) (ix2 r k : S128x2048.Idx) = (ix2 r k : S128x2048.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S128x2048 .f32) ((cfg0.win 4).xinj (grid0.coords t) (ix2 r k : S128x2048.Idx)) = _
  rw [e, out4_at, G4_at]
  simp only [at0, at1, at2, at3]

theorem mem_block4 (t : Fin cfg0.N) (i : S2048x2048.Idx) : i ∈ ((cfg0.win 4).blk t).view.set
    ↔ ∀ a : Fin 2, win0_4.index t a * S128x2048.size a ≤ (i a).val ∧ (i a).val < win0_4.index t a * S128x2048.size a + S128x2048.size a := by
  change i ∈ ((View.whole main_v4_0).slice (win0_4.rect t)).set ↔ _
  rw [View.set_slice_whole, Rect.mem_set_unit]
  rfl

theorem covered4 (i : S2048x2048.Idx) : ∃ t : Fin cfg0.N, (cfg0.win 4).flush t = true ∧ i ∈ ((cfg0.win 4).blk t).view.set := by
  have b0 : (i 0).val < 2048 := (i 0).isLt
  have b1 : (i 1).val < 2048 := (i 1).isLt
  obtain ⟨t, ht⟩ : ∃ t : Fin cfg0.N, t.val = (i 0).val / 128 :=
    ⟨⟨_, lt_of_lt_of_eq (by omega) (show cfg0.N = 16 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 128 ≤ (i 0).val ∧ (i 0).val < win0_4.index t 0 * 128 + 128; omega
  | ⟨1, _⟩ => show win0_4.index t 1 * 2048 ≤ (i 1).val ∧ (i 1).val < win0_4.index t 1 * 2048 + 2048; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S128x2048.Idx) := ⟨y 0, y 1, eq_ix2 (y : S128x2048.Idx)⟩
  have e : (cfg0.win 5).xinj (grid0.coords t) (ix2 r k : S128x2048.Idx) = (ix2 r k : S128x2048.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S128x2048 .f32) ((cfg0.win 5).xinj (grid0.coords t) (ix2 r k : S128x2048.Idx)) = _
  rw [e, out5_at, G5_at]
  simp only [at0, at1, at2, at3]

theorem mem_block5 (t : Fin cfg0.N) (i : S2048x2048.Idx) : i ∈ ((cfg0.win 5).blk t).view.set
    ↔ ∀ a : Fin 2, win0_5.index t a * S128x2048.size a ≤ (i a).val ∧ (i a).val < win0_5.index t a * S128x2048.size a + S128x2048.size a := by
  change i ∈ ((View.whole main_v4_1).slice (win0_5.rect t)).set ↔ _
  rw [View.set_slice_whole, Rect.mem_set_unit]
  rfl

theorem covered5 (i : S2048x2048.Idx) : ∃ t : Fin cfg0.N, (cfg0.win 5).flush t = true ∧ i ∈ ((cfg0.win 5).blk t).view.set := by
  have b0 : (i 0).val < 2048 := (i 0).isLt
  have b1 : (i 1).val < 2048 := (i 1).isLt
  obtain ⟨t, ht⟩ : ∃ t : Fin cfg0.N, t.val = (i 0).val / 128 :=
    ⟨⟨_, lt_of_lt_of_eq (by omega) (show cfg0.N = 16 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 128 ≤ (i 0).val ∧ (i 0).val < win0_5.index t 0 * 128 + 128; omega
  | ⟨1, _⟩ => show win0_5.index t 1 * 2048 ≤ (i 1).val ∧ (i 1).val < win0_5.index t 1 * 2048 + 2048; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S128x2048.Idx) := ⟨y 0, y 1, eq_ix2 (y : S128x2048.Idx)⟩
  have e : (cfg0.win 6).xinj (grid0.coords t) (ix2 r k : S128x2048.Idx) = (ix2 r k : S128x2048.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S128x2048 .f32) ((cfg0.win 6).xinj (grid0.coords t) (ix2 r k : S128x2048.Idx)) = _
  rw [e, out6_at, G6_at]
  simp only [at0, at1, at2, at3]

theorem mem_block6 (t : Fin cfg0.N) (i : S2048x2048.Idx) : i ∈ ((cfg0.win 6).blk t).view.set
    ↔ ∀ a : Fin 2, win0_6.index t a * S128x2048.size a ≤ (i a).val ∧ (i a).val < win0_6.index t a * S128x2048.size a + S128x2048.size a := by
  change i ∈ ((View.whole main_v4_2).slice (win0_6.rect t)).set ↔ _
  rw [View.set_slice_whole, Rect.mem_set_unit]
  rfl

theorem covered6 (i : S2048x2048.Idx) : ∃ t : Fin cfg0.N, (cfg0.win 6).flush t = true ∧ i ∈ ((cfg0.win 6).blk t).view.set := by
  have b0 : (i 0).val < 2048 := (i 0).isLt
  have b1 : (i 1).val < 2048 := (i 1).isLt
  obtain ⟨t, ht⟩ : ∃ t : Fin cfg0.N, t.val = (i 0).val / 128 :=
    ⟨⟨_, lt_of_lt_of_eq (by omega) (show cfg0.N = 16 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 128 ≤ (i 0).val ∧ (i 0).val < win0_6.index t 0 * 128 + 128; omega
  | ⟨1, _⟩ => show win0_6.index t 1 * 2048 ≤ (i 1).val ∧ (i 1).val < win0_6.index t 1 * 2048 + 2048; omega

theorem result6 : (dats m 0 c).arrAt 6 cfg0.N = G6 m c :=
  (dats m 0 c).arrAt_eq_of_cover 6 (G6 m c) (fun t _ => flushed6_eq m c t) (fun i => covered6 i)

end Cert.Kernel24Ideal.Step

end
-- ==== Proof.Step25.lean ====
module

public import proofs.«01_k».proof.Proof.Gen.Kernel25Ideal.Value
public import proofs.«01_k».proof.Proof.Gen.Reference25Ideal.Read
public import proofs.«01_k».proof.Proof.Adam

/-! The optimiser's step for the shard of the up projection's weights: each grid point does its 64 rows. -/

set_option maxRecDepth 16384

@[expose] public noncomputable section

open Idealize.ShloMosaic Idealize.ShloMosaic.TcCoe Idealize.SL.Sem

namespace Cert.Kernel25Ideal.Step

open Cert.Kernel25Ideal Cert.Kernel25Ideal.Gen Cert.Kernel25Ideal.Value

variable (m : (ℓ : Loc nD τ sig) → Buf (Elt Ideal) ℓ) (c : Dev nD)

abbrev a0 : FVec Ideal S4x2048x2752 .f32 := m ((c : Thread nD τ).loc main_arg0)
abbrev a1 : FVec Ideal S4x2048x2752 .f32 := m ((c : Thread nD τ).loc main_arg1)
abbrev a2 : FVec Ideal S4x2048x2752 .f32 := m ((c : Thread nD τ).loc main_arg2)
abbrev a3 : FVec Ideal S4x2048x2752 .f32 := m ((c : Thread nD τ).loc main_arg3)

/-- Weights, gradient and moments, row after row. -/
abbrev w : FVec Ideal S8192x2752 .f32 := V m c main_v0
abbrev g : FVec Ideal S8192x2752 .f32 := V m c main_v1
abbrev m₁ : FVec Ideal S8192x2752 .f32 := V m c main_v2
abbrev m₂ : FVec Ideal S8192x2752 .f32 := V m c main_v3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 128 := lt_of_lt_of_eq t.isLt (show cfg0.N = 128 from N_0)

/-- A row of a point's block. -/
abbrev row (t : Fin cfg0.N) (r : Fin 64) : Fin 8192 := ⟨t.val * 64 + r, by have := point_lt t; omega⟩

theorem view0 (t : Fin cfg0.N) (X : FVec Ideal S8192x2752 .f32) (r : Fin 64) (k : Fin 2752) :
    (((cfg0.win 0).blk t).view.read (Elt Ideal) X : FVec Ideal S64x2752 .f32) (ix2 r k) = X (ix2 (row t r) k) := by
  blk_ext [idx t]

theorem view1 (t : Fin cfg0.N) (X : FVec Ideal S8192x2752 .f32) (r : Fin 64) (k : Fin 2752) :
    (((cfg0.win 1).blk t).view.read (Elt Ideal) X : FVec Ideal S64x2752 .f32) (ix2 r k) = X (ix2 (row t r) k) := by
  blk_ext [idx t]

theorem view2 (t : Fin cfg0.N) (X : FVec Ideal S8192x2752 .f32) (r : Fin 64) (k : Fin 2752) :
    (((cfg0.win 2).blk t).view.read (Elt Ideal) X : FVec Ideal S64x2752 .f32) (ix2 r k) = X (ix2 (row t r) k) := by
  blk_ext [idx t]

theorem view3 (t : Fin cfg0.N) (X : FVec Ideal S8192x2752 .f32) (r : Fin 64) (k : Fin 2752) :
    (((cfg0.win 3).blk t).view.read (Elt Ideal) X : FVec Ideal S64x2752 .f32) (ix2 r k) = X (ix2 (row t r) k) := by
  blk_ext [idx t]

theorem view4 (t : Fin cfg0.N) (X : FVec Ideal S8192x2752 .f32) (r : Fin 64) (k : Fin 2752) :
    (((cfg0.win 4).blk t).view.read (Elt Ideal) X : FVec Ideal S64x2752 .f32) (ix2 r k) = X (ix2 (row t r) k) := by
  blk_ext [idx t]

theorem view5 (t : Fin cfg0.N) (X : FVec Ideal S8192x2752 .f32) (r : Fin 64) (k : Fin 2752) :
    (((cfg0.win 5).blk t).view.read (Elt Ideal) X : FVec Ideal S64x2752 .f32) (ix2 r k) = X (ix2 (row t r) k) := by
  blk_ext [idx t]

theorem view6 (t : Fin cfg0.N) (X : FVec Ideal S8192x2752 .f32) (r : Fin 64) (k : Fin 2752) :
    (((cfg0.win 6).blk t).view.read (Elt Ideal) X : FVec Ideal S64x2752 .f32) (ix2 r k) = X (ix2 (row t r) k) := by
  blk_ext [idx t]

theorem at0 (t : Fin cfg0.N) (r : Fin 64) (k : Fin 2752) :
    (iblk m c 0 t : FVec Ideal S64x2752 .f32) (ix2 r k) = w m c (ix2 (row t r) k) := by
  unfold iblk
  exact view0 t (V m c main_v0) r k

theorem at1 (t : Fin cfg0.N) (r : Fin 64) (k : Fin 2752) :
    (iblk m c 1 t : FVec Ideal S64x2752 .f32) (ix2 r k) = g m c (ix2 (row t r) k) := by
  unfold iblk
  exact view1 t (V m c main_v1) r k

theorem at2 (t : Fin cfg0.N) (r : Fin 64) (k : Fin 2752) :
    (iblk m c 2 t : FVec Ideal S64x2752 .f32) (ix2 r k) = m₁ m c (ix2 (row t r) k) := by
  unfold iblk
  exact view2 t (V m c main_v2) r k

theorem at3 (t : Fin cfg0.N) (r : Fin 64) (k : Fin 2752) :
    (iblk m c 3 t : FVec Ideal S64x2752 .f32) (ix2 r k) = m₂ m c (ix2 (row t r) k) := by
  unfold iblk
  exact view3 t (V m c main_v3) r k

theorem out4_at (x0 x1 x2 x3 : FVec Ideal S64x2752 .f32) (r : Fin 64) (k : Fin 2752) : (out0_4 (F := Ideal) x0 x1 x2 x3 : FVec Ideal S64x2752 .f32) (ix2 r k)
    = Cert.Adam.delta (x0 (ix2 r k)) (x1 (ix2 r k)) (x2 (ix2 r k)) (x3 (ix2 r k)) := by
  unfold out0_4
  frame_out
  pointwise [k0_pay4, k0_pay3, k0_pay2, k0_pay1]
  rfl

theorem out5_at (x0 x1 x2 x3 : FVec Ideal S64x2752 .f32) (r : Fin 64) (k : Fin 2752) : (out0_5 (F := Ideal) x0 x1 x2 x3 : FVec Ideal S64x2752 .f32) (ix2 r k)
    = Cert.Adam.first (x1 (ix2 r k)) (x2 (ix2 r k)) := by
  unfold out0_5
  frame_out
  pointwise [k0_pay2, k0_pay1]
  rfl

theorem out6_at (x0 x1 x2 x3 : FVec Ideal S64x2752 .f32) (r : Fin 64) (k : Fin 2752) : (out0_6 (F := Ideal) x0 x1 x2 x3 : FVec Ideal S64x2752 .f32) (ix2 r k)
    = Cert.Adam.second (x1 (ix2 r k)) (x3 (ix2 r k)) := by
  unfold out0_6
  frame_out
  pointwise [k0_pay3, k0_pay1]
  rfl

/-- The plain step. -/
abbrev G4 : FVec Ideal S8192x2752 .f32 := Cert.Reference25Ideal.Read.val_main_v24 (F := Ideal) (a0 m c) (a1 m c) (a2 m c) (a3 m c)
abbrev G5 : FVec Ideal S8192x2752 .f32 := Cert.Reference25Ideal.Read.val_main_v25 (F := Ideal) (a1 m c) (a2 m c)
abbrev G6 : FVec Ideal S8192x2752 .f32 := Cert.Reference25Ideal.Read.val_main_v26 (F := Ideal) (a1 m c) (a3 m c)

theorem G4_at (i : S8192x2752.Idx) : G4 m c i = Cert.Adam.delta (w m c i) (g m c i) (m₁ m c i) (m₂ m c i) := rfl
theorem G5_at (i : S8192x2752.Idx) : G5 m c i = Cert.Adam.first (g m c i) (m₁ m c i) := rfl
theorem G6_at (i : S8192x2752.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S64x2752.Idx) := ⟨y 0, y 1, eq_ix2 (y : S64x2752.Idx)⟩
  have e : (cfg0.win 4).xinj (grid0.coords t) (ix2 r k : S64x2752.Idx) = (ix2 r k : S64x2752.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S64x2752 .f32) ((cfg0.win 4).xinj (grid0.coords t) (ix2 r k : S64x2752.Idx)) = _
  rw [e, out4_at, G4_at]
  simp only [at0, at1, at2, at3]

theorem mem_block4 (t : Fin cfg0.N) (i : S8192x2752.Idx) : i ∈ ((cfg0.win 4).blk t).view.set
    ↔ ∀ a : Fin 2, win0_4.index t a * S64x2752.size a ≤ (i a).val ∧ (i a).val < win0_4.index t a * S64x2752.size a + S64x2752.size a := by
  change i ∈ ((View.whole main_v4_0).slice (win0_4.rect t)).set ↔ _
  rw [View.set_slice_whole, Rect.mem_set_unit]
  rfl

theorem covered4 (i : S8192x2752.Idx) : ∃ t : Fin cfg0.N, (cfg0.win 4).flush t = true ∧ i ∈ ((cfg0.win 4).blk t).view.set := by
  have b0 : (i 0).val < 8192 := (i 0).isLt
  have b1 : (i 1).val < 2752 := (i 1).isLt
  obtain ⟨t, ht⟩ : ∃ t : Fin cfg0.N, t.val = (i 0).val / 64 :=
    ⟨⟨_, lt_of_lt_of_eq (by omega) (show cfg0.N = 128 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 64 ≤ (i 0).val ∧ (i 0).val < win0_4.index t 0 * 64 + 64; omega
  | ⟨1, _⟩ => show win0_4.index t 1 * 2752 ≤ (i 1).val ∧ (i 1).val < win0_4.index t 1 * 2752 + 2752; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S64x2752.Idx) := ⟨y 0, y 1, eq_ix2 (y : S64x2752.Idx)⟩
  have e : (cfg0.win 5).xinj (grid0.coords t) (ix2 r k : S64x2752.Idx) = (ix2 r k : S64x2752.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S64x2752 .f32) ((cfg0.win 5).xinj (grid0.coords t) (ix2 r k : S64x2752.Idx)) = _
  rw [e, out5_at, G5_at]
  simp only [at0, at1, at2, at3]

theorem mem_block5 (t : Fin cfg0.N) (i : S8192x2752.Idx) : i ∈ ((cfg0.win 5).blk t).view.set
    ↔ ∀ a : Fin 2, win0_5.index t a * S64x2752.size a ≤ (i a).val ∧ (i a).val < win0_5.index t a * S64x2752.size a + S64x2752.size a := by
  change i ∈ ((View.whole main_v4_1).slice (win0_5.rect t)).set ↔ _
  rw [View.set_slice_whole, Rect.mem_set_unit]
  rfl

theorem covered5 (i : S8192x2752.Idx) : ∃ t : Fin cfg0.N, (cfg0.win 5).flush t = true ∧ i ∈ ((cfg0.win 5).blk t).view.set := by
  have b0 : (i 0).val < 8192 := (i 0).isLt
  have b1 : (i 1).val < 2752 := (i 1).isLt
  obtain ⟨t, ht⟩ : ∃ t : Fin cfg0.N, t.val = (i 0).val / 64 :=
    ⟨⟨_, lt_of_lt_of_eq (by omega) (show cfg0.N = 128 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 64 ≤ (i 0).val ∧ (i 0).val < win0_5.index t 0 * 64 + 64; omega
  | ⟨1, _⟩ => show win0_5.index t 1 * 2752 ≤ (i 1).val ∧ (i 1).val < win0_5.index t 1 * 2752 + 2752; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S64x2752.Idx) := ⟨y 0, y 1, eq_ix2 (y : S64x2752.Idx)⟩
  have e : (cfg0.win 6).xinj (grid0.coords t) (ix2 r k : S64x2752.Idx) = (ix2 r k : S64x2752.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S64x2752 .f32) ((cfg0.win 6).xinj (grid0.coords t) (ix2 r k : S64x2752.Idx)) = _
  rw [e, out6_at, G6_at]
  simp only [at0, at1, at2, at3]

theorem mem_block6 (t : Fin cfg0.N) (i : S8192x2752.Idx) : i ∈ ((cfg0.win 6).blk t).view.set
    ↔ ∀ a : Fin 2, win0_6.index t a * S64x2752.size a ≤ (i a).val ∧ (i a).val < win0_6.index t a * S64x2752.size a + S64x2752.size a := by
  change i ∈ ((View.whole main_v4_2).slice (win0_6.rect t)).set ↔ _
  rw [View.set_slice_whole, Rect.mem_set_unit]
  rfl

theorem covered6 (i : S8192x2752.Idx) : ∃ t : Fin cfg0.N, (cfg0.win 6).flush t = true ∧ i ∈ ((cfg0.win 6).blk t).view.set := by
  have b0 : (i 0).val < 8192 := (i 0).isLt
  have b1 : (i 1).val < 2752 := (i 1).isLt
  obtain ⟨t, ht⟩ : ∃ t : Fin cfg0.N, t.val = (i 0).val / 64 :=
    ⟨⟨_, lt_of_lt_of_eq (by omega) (show cfg0.N = 128 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 64 ≤ (i 0).val ∧ (i 0).val < win0_6.index t 0 * 64 + 64; omega
  | ⟨1, _⟩ => show win0_6.index t 1 * 2752 ≤ (i 1).val ∧ (i 1).val < win0_6.index t 1 * 2752 + 2752; omega

theorem result6 : (dats m 0 c).arrAt 6 cfg0.N = G6 m c :=
  (dats m 0 c).arrAt_eq_of_cover 6 (G6 m c) (fun t _ => flushed6_eq m c t) (fun i => covered6 i)

end Cert.Kernel25Ideal.Step

end
-- ==== Proof.Step26.lean ====
module

public import proofs.«01_k».proof.Proof.Gen.Kernel26Ideal.Value
public import proofs.«01_k».proof.Proof.Gen.Reference26Ideal.Read
public import proofs.«01_k».proof.Proof.Adam

/-! The optimiser's step for the shard of the down projection's weights: each grid point does its 344 rows. -/

set_option maxRecDepth 16384

@[expose] public noncomputable section

open Idealize.ShloMosaic Idealize.ShloMosaic.TcCoe Idealize.SL.Sem

namespace Cert.Kernel26Ideal.Step

open Cert.Kernel26Ideal Cert.Kernel26Ideal.Gen Cert.Kernel26Ideal.Value

variable (m : (ℓ : Loc nD τ sig) → Buf (Elt Ideal) ℓ) (c : Dev nD)

abbrev a0 : FVec Ideal S4x1376x2048 .f32 := m ((c : Thread nD τ).loc main_arg0)
abbrev a1 : FVec Ideal S4x1376x2048 .f32 := m ((c : Thread nD τ).loc main_arg1)
abbrev a2 : FVec Ideal S4x1376x2048 .f32 := m ((c : Thread nD τ).loc main_arg2)
abbrev a3 : FVec Ideal S4x1376x2048 .f32 := m ((c : Thread nD τ).loc main_arg3)

/-- Weights, gradient and moments, row after row. -/
abbrev w : FVec Ideal S5504x2048 .f32 := V m c main_v0
abbrev g : FVec Ideal S5504x2048 .f32 := V m c main_v1
abbrev m₁ : FVec Ideal S5504x2048 .f32 := V m c main_v2
abbrev m₂ : FVec Ideal S5504x2048 .f32 := V m c main_v3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 16 := lt_of_lt_of_eq t.isLt (show cfg0.N = 16 from N_0)

/-- A row of a point's block. -/
abbrev row (t : Fin cfg0.N) (r : Fin 344) : Fin 5504 := ⟨t.val * 344 + r, by have := point_lt t; omega⟩

theorem view0 (t : Fin cfg0.N) (X : FVec Ideal S5504x2048 .f32) (r : Fin 344) (k : Fin 2048) :
    (((cfg0.win 0).blk t).view.read (Elt Ideal) X : FVec Ideal S344x2048 .f32) (ix2 r k) = X (ix2 (row t r) k) := by
  blk_ext [idx t]

theorem view1 (t : Fin cfg0.N) (X : FVec Ideal S5504x2048 .f32) (r : Fin 344) (k : Fin 2048) :
    (((cfg0.win 1).blk t).view.read (Elt Ideal) X : FVec Ideal S344x2048 .f32) (ix2 r k) = X (ix2 (row t r) k) := by
  blk_ext [idx t]

theorem view2 (t : Fin cfg0.N) (X : FVec Ideal S5504x2048 .f32) (r : Fin 344) (k : Fin 2048) :
    (((cfg0.win 2).blk t).view.read (Elt Ideal) X : FVec Ideal S344x2048 .f32) (ix2 r k) = X (ix2 (row t r) k) := by
  blk_ext [idx t]

theorem view3 (t : Fin cfg0.N) (X : FVec Ideal S5504x2048 .f32) (r : Fin 344) (k : Fin 2048) :
    (((cfg0.win 3).blk t).view.read (Elt Ideal) X : FVec Ideal S344x2048 .f32) (ix2 r k) = X (ix2 (row t r) k) := by
  blk_ext [idx t]

theorem view4 (t : Fin cfg0.N) (X : FVec Ideal S5504x2048 .f32) (r : Fin 344) (k : Fin 2048) :
    (((cfg0.win 4).blk t).view.read (Elt Ideal) X : FVec Ideal S344x2048 .f32) (ix2 r k) = X (ix2 (row t r) k) := by
  blk_ext [idx t]

theorem view5 (t : Fin cfg0.N) (X : FVec Ideal S5504x2048 .f32) (r : Fin 344) (k : Fin 2048) :
    (((cfg0.win 5).blk t).view.read (Elt Ideal) X : FVec Ideal S344x2048 .f32) (ix2 r k) = X (ix2 (row t r) k) := by
  blk_ext [idx t]

theorem view6 (t : Fin cfg0.N) (X : FVec Ideal S5504x2048 .f32) (r : Fin 344) (k : Fin 2048) :
    (((cfg0.win 6).blk t).view.read (Elt Ideal) X : FVec Ideal S344x2048 .f32) (ix2 r k) = X (ix2 (row t r) k) := by
  blk_ext [idx t]

theorem at0 (t : Fin cfg0.N) (r : Fin 344) (k : Fin 2048) :
    (iblk m c 0 t : FVec Ideal S344x2048 .f32) (ix2 r k) = w m c (ix2 (row t r) k) := by
  unfold iblk
  exact view0 t (V m c main_v0) r k

theorem at1 (t : Fin cfg0.N) (r : Fin 344) (k : Fin 2048) :
    (iblk m c 1 t : FVec Ideal S344x2048 .f32) (ix2 r k) = g m c (ix2 (row t r) k) := by
  unfold iblk
  exact view1 t (V m c main_v1) r k

theorem at2 (t : Fin cfg0.N) (r : Fin 344) (k : Fin 2048) :
    (iblk m c 2 t : FVec Ideal S344x2048 .f32) (ix2 r k) = m₁ m c (ix2 (row t r) k) := by
  unfold iblk
  exact view2 t (V m c main_v2) r k

theorem at3 (t : Fin cfg0.N) (r : Fin 344) (k : Fin 2048) :
    (iblk m c 3 t : FVec Ideal S344x2048 .f32) (ix2 r k) = m₂ m c (ix2 (row t r) k) := by
  unfold iblk
  exact view3 t (V m c main_v3) r k

theorem out4_at (x0 x1 x2 x3 : FVec Ideal S344x2048 .f32) (r : Fin 344) (k : Fin 2048) : (out0_4 (F := Ideal) x0 x1 x2 x3 : FVec Ideal S344x2048 .f32) (ix2 r k)
    = Cert.Adam.delta (x0 (ix2 r k)) (x1 (ix2 r k)) (x2 (ix2 r k)) (x3 (ix2 r k)) := by
  unfold out0_4
  frame_out
  pointwise [k0_pay4, k0_pay3, k0_pay2, k0_pay1]
  rfl

theorem out5_at (x0 x1 x2 x3 : FVec Ideal S344x2048 .f32) (r : Fin 344) (k : Fin 2048) : (out0_5 (F := Ideal) x0 x1 x2 x3 : FVec Ideal S344x2048 .f32) (ix2 r k)
    = Cert.Adam.first (x1 (ix2 r k)) (x2 (ix2 r k)) := by
  unfold out0_5
  frame_out
  pointwise [k0_pay2, k0_pay1]
  rfl

theorem out6_at (x0 x1 x2 x3 : FVec Ideal S344x2048 .f32) (r : Fin 344) (k : Fin 2048) : (out0_6 (F := Ideal) x0 x1 x2 x3 : FVec Ideal S344x2048 .f32) (ix2 r k)
    = Cert.Adam.second (x1 (ix2 r k)) (x3 (ix2 r k)) := by
  unfold out0_6
  frame_out
  pointwise [k0_pay3, k0_pay1]
  rfl

/-- The plain step. -/
abbrev G4 : FVec Ideal S5504x2048 .f32 := Cert.Reference26Ideal.Read.val_main_v24 (F := Ideal) (a0 m c) (a1 m c) (a2 m c) (a3 m c)
abbrev G5 : FVec Ideal S5504x2048 .f32 := Cert.Reference26Ideal.Read.val_main_v25 (F := Ideal) (a1 m c) (a2 m c)
abbrev G6 : FVec Ideal S5504x2048 .f32 := Cert.Reference26Ideal.Read.val_main_v26 (F := Ideal) (a1 m c) (a3 m c)

theorem G4_at (i : S5504x2048.Idx) : G4 m c i = Cert.Adam.delta (w m c i) (g m c i) (m₁ m c i) (m₂ m c i) := rfl
theorem G5_at (i : S5504x2048.Idx) : G5 m c i = Cert.Adam.first (g m c i) (m₁ m c i) := rfl
theorem G6_at (i : S5504x2048.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S344x2048.Idx) := ⟨y 0, y 1, eq_ix2 (y : S344x2048.Idx)⟩
  have e : (cfg0.win 4).xinj (grid0.coords t) (ix2 r k : S344x2048.Idx) = (ix2 r k : S344x2048.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S344x2048 .f32) ((cfg0.win 4).xinj (grid0.coords t) (ix2 r k : S344x2048.Idx)) = _
  rw [e, out4_at, G4_at]
  simp only [at0, at1, at2, at3]

theorem mem_block4 (t : Fin cfg0.N) (i : S5504x2048.Idx) : i ∈ ((cfg0.win 4).blk t).view.set
    ↔ ∀ a : Fin 2, win0_4.index t a * S344x2048.size a ≤ (i a).val ∧ (i a).val < win0_4.index t a * S344x2048.size a + S344x2048.size a := by
  change i ∈ ((View.whole main_v4_0).slice (win0_4.rect t)).set ↔ _
  rw [View.set_slice_whole, Rect.mem_set_unit]
  rfl

theorem covered4 (i : S5504x2048.Idx) : ∃ t : Fin cfg0.N, (cfg0.win 4).flush t = true ∧ i ∈ ((cfg0.win 4).blk t).view.set := by
  have b0 : (i 0).val < 5504 := (i 0).isLt
  have b1 : (i 1).val < 2048 := (i 1).isLt
  obtain ⟨t, ht⟩ : ∃ t : Fin cfg0.N, t.val = (i 0).val / 344 :=
    ⟨⟨_, lt_of_lt_of_eq (by omega) (show cfg0.N = 16 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 344 ≤ (i 0).val ∧ (i 0).val < win0_4.index t 0 * 344 + 344; omega
  | ⟨1, _⟩ => show win0_4.index t 1 * 2048 ≤ (i 1).val ∧ (i 1).val < win0_4.index t 1 * 2048 + 2048; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S344x2048.Idx) := ⟨y 0, y 1, eq_ix2 (y : S344x2048.Idx)⟩
  have e : (cfg0.win 5).xinj (grid0.coords t) (ix2 r k : S344x2048.Idx) = (ix2 r k : S344x2048.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S344x2048 .f32) ((cfg0.win 5).xinj (grid0.coords t) (ix2 r k : S344x2048.Idx)) = _
  rw [e, out5_at, G5_at]
  simp only [at0, at1, at2, at3]

theorem mem_block5 (t : Fin cfg0.N) (i : S5504x2048.Idx) : i ∈ ((cfg0.win 5).blk t).view.set
    ↔ ∀ a : Fin 2, win0_5.index t a * S344x2048.size a ≤ (i a).val ∧ (i a).val < win0_5.index t a * S344x2048.size a + S344x2048.size a := by
  change i ∈ ((View.whole main_v4_1).slice (win0_5.rect t)).set ↔ _
  rw [View.set_slice_whole, Rect.mem_set_unit]
  rfl

theorem covered5 (i : S5504x2048.Idx) : ∃ t : Fin cfg0.N, (cfg0.win 5).flush t = true ∧ i ∈ ((cfg0.win 5).blk t).view.set := by
  have b0 : (i 0).val < 5504 := (i 0).isLt
  have b1 : (i 1).val < 2048 := (i 1).isLt
  obtain ⟨t, ht⟩ : ∃ t : Fin cfg0.N, t.val = (i 0).val / 344 :=
    ⟨⟨_, lt_of_lt_of_eq (by omega) (show cfg0.N = 16 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 344 ≤ (i 0).val ∧ (i 0).val < win0_5.index t 0 * 344 + 344; omega
  | ⟨1, _⟩ => show win0_5.index t 1 * 2048 ≤ (i 1).val ∧ (i 1).val < win0_5.index t 1 * 2048 + 2048; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S344x2048.Idx) := ⟨y 0, y 1, eq_ix2 (y : S344x2048.Idx)⟩
  have e : (cfg0.win 6).xinj (grid0.coords t) (ix2 r k : S344x2048.Idx) = (ix2 r k : S344x2048.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S344x2048 .f32) ((cfg0.win 6).xinj (grid0.coords t) (ix2 r k : S344x2048.Idx)) = _
  rw [e, out6_at, G6_at]
  simp only [at0, at1, at2, at3]

theorem mem_block6 (t : Fin cfg0.N) (i : S5504x2048.Idx) : i ∈ ((cfg0.win 6).blk t).view.set
    ↔ ∀ a : Fin 2, win0_6.index t a * S344x2048.size a ≤ (i a).val ∧ (i a).val < win0_6.index t a * S344x2048.size a + S344x2048.size a := by
  change i ∈ ((View.whole main_v4_2).slice (win0_6.rect t)).set ↔ _
  rw [View.set_slice_whole, Rect.mem_set_unit]
  rfl

theorem covered6 (i : S5504x2048.Idx) : ∃ t : Fin cfg0.N, (cfg0.win 6).flush t = true ∧ i ∈ ((cfg0.win 6).blk t).view.set := by
  have b0 : (i 0).val < 5504 := (i 0).isLt
  have b1 : (i 1).val < 2048 := (i 1).isLt
  obtain ⟨t, ht⟩ : ∃ t : Fin cfg0.N, t.val = (i 0).val / 344 :=
    ⟨⟨_, lt_of_lt_of_eq (by omega) (show cfg0.N = 16 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 344 ≤ (i 0).val ∧ (i 0).val < win0_6.index t 0 * 344 + 344; omega
  | ⟨1, _⟩ => show win0_6.index t 1 * 2048 ≤ (i 1).val ∧ (i 1).val < win0_6.index t 1 * 2048 + 2048; omega

theorem result6 : (dats m 0 c).arrAt 6 cfg0.N = G6 m c :=
  (dats m 0 c).arrAt_eq_of_cover 6 (G6 m c) (fun t _ => flushed6_eq m c t) (fun i => covered6 i)

end Cert.Kernel26Ideal.Step

end
-- ==== Proof.Step27.lean ====
module

public import proofs.«01_k».proof.Proof.Gen.Kernel27Ideal.Value
public import proofs.«01_k».proof.Proof.Gen.Reference27Ideal.Read
public import proofs.«01_k».proof.Proof.Adam

/-! The optimiser's step for the small weights, packed: each grid point does its 192 rows. -/

set_option maxRecDepth 16384

@[expose] public noncomputable section

open Idealize.ShloMosaic Idealize.ShloMosaic.TcCoe Idealize.SL.Sem

namespace Cert.Kernel27Ideal.Step

open Cert.Kernel27Ideal Cert.Kernel27Ideal.Gen Cert.Kernel27Ideal.Value

variable (m : (ℓ : Loc nD τ sig) → Buf (Elt Ideal) ℓ) (c : Dev nD)

abbrev a0 : FVec Ideal S768x1024 .f32 := m ((c : Thread nD τ).loc main_arg0)
abbrev a1 : FVec Ideal S768x1024 .f32 := m ((c : Thread nD τ).loc main_arg1)
abbrev a2 : FVec Ideal S768x1024 .f32 := m ((c : Thread nD τ).loc main_arg2)
abbrev a3 : FVec Ideal S768x1024 .f32 := m ((c : Thread nD τ).loc main_arg3)

/-- Weights, gradient and moments, row after row. -/
abbrev w : FVec Ideal S768x1024 .f32 := V m c main_arg0
abbrev g : FVec Ideal S768x1024 .f32 := V m c main_arg1
abbrev m₁ : FVec Ideal S768x1024 .f32 := V m c main_arg2
abbrev m₂ : FVec Ideal S768x1024 .f32 := V m c main_arg3

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem point_lt (t : Fin cfg0.N) : t.val < 4 := lt_of_lt_of_eq t.isLt (show cfg0.N = 4 from N_0)

/-- A row of a point's block. -/
abbrev row (t : Fin cfg0.N) (r : Fin 192) : Fin 768 := ⟨t.val * 192 + r, by have := point_lt t; omega⟩

theorem view0 (t : Fin cfg0.N) (X : FVec Ideal S768x1024 .f32) (r : Fin 192) (k : Fin 1024) :
    (((cfg0.win 0).blk t).view.read (Elt Ideal) X : FVec Ideal S192x1024 .f32) (ix2 r k) = X (ix2 (row t r) k) := by
  blk_ext [idx t]

theorem view1 (t : Fin cfg0.N) (X : FVec Ideal S768x1024 .f32) (r : Fin 192) (k : Fin 1024) :
    (((cfg0.win 1).blk t).view.read (Elt Ideal) X : FVec Ideal S192x1024 .f32) (ix2 r k) = X (ix2 (row t r) k) := by
  blk_ext [idx t]

theorem view2 (t : Fin cfg0.N) (X : FVec Ideal S768x1024 .f32) (r : Fin 192) (k : Fin 1024) :
    (((cfg0.win 2).blk t).view.read (Elt Ideal) X : FVec Ideal S192x1024 .f32) (ix2 r k) = X (ix2 (row t r) k) := by
  blk_ext [idx t]

theorem view3 (t : Fin cfg0.N) (X : FVec Ideal S768x1024 .f32) (r : Fin 192) (k : Fin 1024) :
    (((cfg0.win 3).blk t).view.read (Elt Ideal) X : FVec Ideal S192x1024 .f32) (ix2 r k) = X (ix2 (row t r) k) := by
  blk_ext [idx t]

theorem view4 (t : Fin cfg0.N) (X : FVec Ideal S768x1024 .f32) (r : Fin 192) (k : Fin 1024) :
    (((cfg0.win 4).blk t).view.read (Elt Ideal) X : FVec Ideal S192x1024 .f32) (ix2 r k) = X (ix2 (row t r) k) := by
  blk_ext [idx t]

theorem view5 (t : Fin cfg0.N) (X : FVec Ideal S768x1024 .f32) (r : Fin 192) (k : Fin 1024) :
    (((cfg0.win 5).blk t).view.read (Elt Ideal) X : FVec Ideal S192x1024 .f32) (ix2 r k) = X (ix2 (row t r) k) := by
  blk_ext [idx t]

theorem view6 (t : Fin cfg0.N) (X : FVec Ideal S768x1024 .f32) (r : Fin 192) (k : Fin 1024) :
    (((cfg0.win 6).blk t).view.read (Elt Ideal) X : FVec Ideal S192x1024 .f32) (ix2 r k) = X (ix2 (row t r) k) := by
  blk_ext [idx t]

theorem at0 (t : Fin cfg0.N) (r : Fin 192) (k : Fin 1024) :
    (iblk m c 0 t : FVec Ideal S192x1024 .f32) (ix2 r k) = w m c (ix2 (row t r) k) := by
  unfold iblk
  exact view0 t (V m c main_arg0) r k

theorem at1 (t : Fin cfg0.N) (r : Fin 192) (k : Fin 1024) :
    (iblk m c 1 t : FVec Ideal S192x1024 .f32) (ix2 r k) = g m c (ix2 (row t r) k) := by
  unfold iblk
  exact view1 t (V m c main_arg1) r k

theorem at2 (t : Fin cfg0.N) (r : Fin 192) (k : Fin 1024) :
    (iblk m c 2 t : FVec Ideal S192x1024 .f32) (ix2 r k) = m₁ m c (ix2 (row t r) k) := by
  unfold iblk
  exact view2 t (V m c main_arg2) r k

theorem at3 (t : Fin cfg0.N) (r : Fin 192) (k : Fin 1024) :
    (iblk m c 3 t : FVec Ideal S192x1024 .f32) (ix2 r k) = m₂ m c (ix2 (row t r) k) := by
  unfold iblk
  exact view3 t (V m c main_arg3) r k

theorem out4_at (x0 x1 x2 x3 : FVec Ideal S192x1024 .f32) (r : Fin 192) (k : Fin 1024) : (out0_4 (F := Ideal) x0 x1 x2 x3 : FVec Ideal S192x1024 .f32) (ix2 r k)
    = Cert.Adam.delta (x0 (ix2 r k)) (x1 (ix2 r k)) (x2 (ix2 r k)) (x3 (ix2 r k)) := by
  unfold out0_4
  frame_out
  pointwise [k0_pay3, k0_pay2, k0_pay1]
  rfl

theorem out5_at (x0 x1 x2 x3 : FVec Ideal S192x1024 .f32) (r : Fin 192) (k : Fin 1024) : (out0_5 (F := Ideal) x0 x1 x2 x3 : FVec Ideal S192x1024 .f32) (ix2 r k)
    = Cert.Adam.first (x1 (ix2 r k)) (x2 (ix2 r k)) := by
  unfold out0_5
  frame_out
  pointwise [k0_pay1]
  rfl

theorem out6_at (x0 x1 x2 x3 : FVec Ideal S192x1024 .f32) (r : Fin 192) (k : Fin 1024) : (out0_6 (F := Ideal) x0 x1 x2 x3 : FVec Ideal S192x1024 .f32) (ix2 r k)
    = Cert.Adam.second (x1 (ix2 r k)) (x3 (ix2 r k)) := by
  unfold out0_6
  frame_out
  pointwise [k0_pay2]
  rfl

/-- The plain step. -/
abbrev G4 : FVec Ideal S768x1024 .f32 := Cert.Reference27Ideal.Read.val_main_v23 (F := Ideal) (a0 m c) (a1 m c) (a2 m c) (a3 m c)
abbrev G5 : FVec Ideal S768x1024 .f32 := Cert.Reference27Ideal.Read.val_main_v4 (F := Ideal) (a1 m c) (a2 m c)
abbrev G6 : FVec Ideal S768x1024 .f32 := Cert.Reference27Ideal.Read.val_main_v10 (F := Ideal) (a1 m c) (a3 m c)

theorem G4_at (i : S768x1024.Idx) : G4 m c i = Cert.Adam.delta (w m c i) (g m c i) (m₁ m c i) (m₂ m c i) := rfl
theorem G5_at (i : S768x1024.Idx) : G5 m c i = Cert.Adam.first (g m c i) (m₁ m c i) := rfl
theorem G6_at (i : S768x1024.Idx) : G6 m c i = Cert.Adam.second (g m c i) (m₂ m c i) := rfl

/-- What a point writes back is its block of the step. -/
theorem flushed4_eq (t : Fin cfg0.N) : (dats m 0 c).flushed 4 t = ((cfg0.win 4).blk t).view.read (Elt Ideal) (G4 m c) := by
  rw [flushed4]
  funext y
  obtain ⟨r, k, rfl⟩ : ∃ r k, y = (ix2 r k : S192x1024.Idx) := ⟨y 0, y 1, eq_ix2 (y : S192x1024.Idx)⟩
  have e : (cfg0.win 4).xinj (grid0.coords t) (ix2 r k : S192x1024.Idx) = (ix2 r k : S192x1024.Idx) := by
    funext a
    match a with
    | ⟨0, _⟩ => rfl
    | ⟨1, _⟩ => rfl
  refine Eq.trans ?_ (view4 t (G4 m c) r k).symm
  show (out0_4 (iblk m c 0 t) (iblk m c 1 t) (iblk m c 2 t) (iblk m c 3 t) : FVec Ideal S192x1024 .f32) ((cfg0.win 4).xinj (grid0.coords t) (ix2 r k : S192x1024.Idx)) = _
  rw [e, out4_at, G4_at]
  simp only [at0, at1, at2, at3]

theorem mem_block4 (t : Fin cfg0.N) (i : S768x1024.Idx) : i ∈ ((cfg0.win 4).blk t).view.set
    ↔ ∀ a : Fin 2, win0_4.index t a * S192x1024.size a ≤ (i a).val ∧ (i a).val < win0_4.index t a * S192x1024.size a + S192x1024.size a := by
  change i ∈ ((View.whole main_v0_0).slice (win0_4.rect t)).set ↔ _
  rw [View.set_slice_whole, Rect.mem_set_unit]
  rfl

theorem covered4 (i : S768x1024.Idx) : ∃ t : Fin cfg0.N, (cfg0.win 4).flush t = true ∧ i ∈ ((cfg0.win 4).blk t).view.set := by
  have b0 : (i 0).val < 768 := (i 0).isLt
  have b1 : (i 1).val < 1024 := (i 1).isLt
  obtain ⟨t, ht⟩ : ∃ t : Fin cfg0.N, t.val = (i 0).val / 192 :=
    ⟨⟨_, lt_of_lt_of_eq (by omega) (show cfg0.N = 4 from N_0).symm⟩, rfl⟩
  refine ⟨t, flush0_4 t, (mem_block4 t i).mpr fun a => ?_⟩
  have hi : win0_4.index t = ![t.val, 0] := (idx t).2.2.2.2.1
  have i0 : win0_4.index t 0 = t.val := congrFun hi 0
  have i1 : win0_4.index t 1 = 0 := congrFun hi 1
  match a with
  | ⟨0, _⟩ => show win0_4.index t 0 * 192 ≤ (i 0).val ∧ (i 0).val < win0_4.index t 0 * 192 + 192; omega
  | ⟨1, _⟩ => show win0_4.index t 1 * 1024 ≤ (i 1).val ∧ (i 1).val < win0_4.index t 1 * 1024 + 1024; omega

theorem result4 : (dats m 0 c).arrAt 4 cfg0.N = G4 m c :=
  (dats m 0 c).arrAt_eq_of_cover 4 (G4 m c) (fun t _ => flushed4_eq m c t) (fun i => covered4 i)

/-- What a point writes back is its block of the step. -/
theorem flushed5_eq (t : Fin cfg0.N) : (dats m 0 c).flushed 5 t = ((cfg0.win 5).blk t).view.read (Elt Ideal) (G5 m c) := by
  rw [flushed5]
  funext y
  obtain ⟨r, k, rfl⟩ : ∃ r k, y = (ix2 r k : S192x1024.Idx) := ⟨y 0, y 1, eq_ix2 (y : S192x1024.Idx)⟩
  have e : (cfg0.win 5).xinj (grid0.coords t) (ix2 r k : S192x1024.Idx) = (ix2 r k : S192x1024.Idx) := by
    funext a
    match a with
    | ⟨0, _⟩ => rfl
    | ⟨1, _⟩ => rfl
  refine Eq.trans ?_ (view5 t (G5 m c) r k).symm
  show (out0_5 (iblk m c 0 t) (iblk m c 1 t) (iblk m c 2 t) (iblk m c 3 t) : FVec Ideal S192x1024 .f32) ((cfg0.win 5).xinj (grid0.coords t) (ix2 r k : S192x1024.Idx)) = _
  rw [e, out5_at, G5_at]
  simp only [at0, at1, at2, at3]

theorem mem_block5 (t : Fin cfg0.N) (i : S768x1024.Idx) : i ∈ ((cfg0.win 5).blk t).view.set
    ↔ ∀ a : Fin 2, win0_5.index t a * S192x1024.size a ≤ (i a).val ∧ (i a).val < win0_5.index t a * S192x1024.size a + S192x1024.size a := by
  change i ∈ ((View.whole main_v0_1).slice (win0_5.rect t)).set ↔ _
  rw [View.set_slice_whole, Rect.mem_set_unit]
  rfl

theorem covered5 (i : S768x1024.Idx) : ∃ t : Fin cfg0.N, (cfg0.win 5).flush t = true ∧ i ∈ ((cfg0.win 5).blk t).view.set := by
  have b0 : (i 0).val < 768 := (i 0).isLt
  have b1 : (i 1).val < 1024 := (i 1).isLt
  obtain ⟨t, ht⟩ : ∃ t : Fin cfg0.N, t.val = (i 0).val / 192 :=
    ⟨⟨_, lt_of_lt_of_eq (by omega) (show cfg0.N = 4 from N_0).symm⟩, rfl⟩
  refine ⟨t, flush0_5 t, (mem_block5 t i).mpr fun a => ?_⟩
  have hi : win0_5.index t = ![t.val, 0] := (idx t).2.2.2.2.2.1
  have i0 : win0_5.index t 0 = t.val := congrFun hi 0
  have i1 : win0_5.index t 1 = 0 := congrFun hi 1
  match a with
  | ⟨0, _⟩ => show win0_5.index t 0 * 192 ≤ (i 0).val ∧ (i 0).val < win0_5.index t 0 * 192 + 192; omega
  | ⟨1, _⟩ => show win0_5.index t 1 * 1024 ≤ (i 1).val ∧ (i 1).val < win0_5.index t 1 * 1024 + 1024; omega

theorem result5 : (dats m 0 c).arrAt 5 cfg0.N = G5 m c :=
  (dats m 0 c).arrAt_eq_of_cover 5 (G5 m c) (fun t _ => flushed5_eq m c t) (fun i => covered5 i)

/-- What a point writes back is its block of the step. -/
theorem flushed6_eq (t : Fin cfg0.N) : (dats m 0 c).flushed 6 t = ((cfg0.win 6).blk t).view.read (Elt Ideal) (G6 m c) := by
  rw [flushed6]
  funext y
  obtain ⟨r, k, rfl⟩ : ∃ r k, y = (ix2 r k : S192x1024.Idx) := ⟨y 0, y 1, eq_ix2 (y : S192x1024.Idx)⟩
  have e : (cfg0.win 6).xinj (grid0.coords t) (ix2 r k : S192x1024.Idx) = (ix2 r k : S192x1024.Idx) := by
    funext a
    match a with
    | ⟨0, _⟩ => rfl
    | ⟨1, _⟩ => rfl
  refine Eq.trans ?_ (view6 t (G6 m c) r k).symm
  show (out0_6 (iblk m c 0 t) (iblk m c 1 t) (iblk m c 2 t) (iblk m c 3 t) : FVec Ideal S192x1024 .f32) ((cfg0.win 6).xinj (grid0.coords t) (ix2 r k : S192x1024.Idx)) = _
  rw [e, out6_at, G6_at]
  simp only [at0, at1, at2, at3]

theorem mem_block6 (t : Fin cfg0.N) (i : S768x1024.Idx) : i ∈ ((cfg0.win 6).blk t).view.set
    ↔ ∀ a : Fin 2, win0_6.index t a * S192x1024.size a ≤ (i a).val ∧ (i a).val < win0_6.index t a * S192x1024.size a + S192x1024.size a := by
  change i ∈ ((View.whole main_v0_2).slice (win0_6.rect t)).set ↔ _
  rw [View.set_slice_whole, Rect.mem_set_unit]
  rfl

theorem covered6 (i : S768x1024.Idx) : ∃ t : Fin cfg0.N, (cfg0.win 6).flush t = true ∧ i ∈ ((cfg0.win 6).blk t).view.set := by
  have b0 : (i 0).val < 768 := (i 0).isLt
  have b1 : (i 1).val < 1024 := (i 1).isLt
  obtain ⟨t, ht⟩ : ∃ t : Fin cfg0.N, t.val = (i 0).val / 192 :=
    ⟨⟨_, lt_of_lt_of_eq (by omega) (show cfg0.N = 4 from N_0).symm⟩, rfl⟩
  refine ⟨t, flush0_6 t, (mem_block6 t i).mpr fun a => ?_⟩
  have hi : win0_6.index t = ![t.val, 0] := (idx t).2.2.2.2.2.2
  have i0 : win0_6.index t 0 = t.val := congrFun hi 0
  have i1 : win0_6.index t 1 = 0 := congrFun hi 1
  match a with
  | ⟨0, _⟩ => show win0_6.index t 0 * 192 ≤ (i 0).val ∧ (i 0).val < win0_6.index t 0 * 192 + 192; omega
  | ⟨1, _⟩ => show win0_6.index t 1 * 1024 ≤ (i 1).val ∧ (i 1).val < win0_6.index t 1 * 1024 + 1024; omega

theorem result6 : (dats m 0 c).arrAt 6 cfg0.N = G6 m c :=
  (dats m 0 c).arrAt_eq_of_cover 6 (G6 m c) (fun t _ => flushed6_eq m c t) (fun i => covered6 i)

end Cert.Kernel27Ideal.Step

end
-- ==== Proof.Optimiser.lean ====
module

public import proofs.«01_k».proof.Defs
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Step19
public import proofs.«01_k».proof.Proof.Step20
public import proofs.«01_k».proof.Proof.Step21
public import proofs.«01_k».proof.Proof.Step22
public import proofs.«01_k».proof.Proof.Step23
public import proofs.«01_k».proof.Proof.Step24
public import proofs.«01_k».proof.Proof.Step25
public import proofs.«01_k».proof.Proof.Step26
public import proofs.«01_k».proof.Proof.Step27
public import Idealize.ShloMosaic.Adequacy
public import Idealize.ShloMosaic.Init
public import Idealize.ShloMosaic.Lib.Claim

/-! The optimiser's calls, each beside the plain step. -/

set_option maxRecDepth 16384

@[expose] public noncomputable section

namespace Cert.Optimiser

open Idealize.ShloMosaic Idealize.ShloMosaic.TcCoe Idealize.SL.Sem

theorem algebraic19 : @Cert.algebraic_Kernel19Ideal_Reference19Ideal Cert.Kernel19Ideal.Gen.facts Cert.Reference19Ideal.Gen.facts := by
  pair_intro
  · run_from Cert.Kernel19Ideal.Value.run_blocks m g
  · run_from Cert.Reference19Ideal.Value.run m' g'
    · exact (Cert.Reference19Ideal.Read.val_main_v5_eq _ _).trans (Cert.Kernel19Ideal.Step.result5 m c).symm
    · exact (Cert.Reference19Ideal.Read.val_main_v29_eq _ _ _ _ _).trans (Cert.Kernel19Ideal.Step.result6 m c).symm
    · exact (Cert.Reference19Ideal.Read.val_main_v10_eq _ _ _).trans (Cert.Kernel19Ideal.Step.result7 m c).symm
    · exact (Cert.Reference19Ideal.Read.val_main_v16_eq _ _ _).trans (Cert.Kernel19Ideal.Step.result8 m c).symm

theorem frame19 : @Cert.quiescent_Reference19Ideal Cert.Reference19Ideal.Gen.facts := by
  intro m g _
  exact (θ_run _ _ _).mono (fun r h => ⟨fun c => (h c).2.2.2.2, funext fun s => nomatch s⟩) (Cert.Reference19Ideal.Value.run m g)

theorem algebraic20 : @Cert.algebraic_Kernel20Ideal_Reference20Ideal Cert.Kernel20Ideal.Gen.facts Cert.Reference20Ideal.Gen.facts := by
  pair_intro
  · run_from Cert.Kernel20Ideal.Value.run_blocks m g
  · run_from Cert.Reference20Ideal.Value.run m' g'
    · exact (Cert.Reference20Ideal.Read.val_main_v24_eq _ _ _ _).trans (Cert.Kernel20Ideal.Step.result4 m c).symm
    · exact (Cert.Reference20Ideal.Read.val_main_v25_eq _ _).trans (Cert.Kernel20Ideal.Step.result5 m c).symm
    · exact (Cert.Reference20Ideal.Read.val_main_v26_eq _ _).trans (Cert.Kernel20Ideal.Step.result6 m c).symm

theorem frame20 : @Cert.quiescent_Reference20Ideal Cert.Reference20Ideal.Gen.facts := by
  intro m g _
  exact (θ_run _ _ _).mono (fun r h => ⟨fun c => (h c).2.2.2, funext fun s => nomatch s⟩) (Cert.Reference20Ideal.Value.run m g)

theorem algebraic21 : @Cert.algebraic_Kernel21Ideal_Reference21Ideal Cert.Kernel21Ideal.Gen.facts Cert.Reference21Ideal.Gen.facts := by
  pair_intro
  · run_from Cert.Kernel21Ideal.Value.run_blocks m g
  · run_from Cert.Reference21Ideal.Value.run m' g'
    · exact (Cert.Reference21Ideal.Read.val_main_v24_eq _ _ _ _).trans (Cert.Kernel21Ideal.Step.result4 m c).symm
    · exact (Cert.Reference21Ideal.Read.val_main_v25_eq _ _).trans (Cert.Kernel21Ideal.Step.result5 m c).symm
    · exact (Cert.Reference21Ideal.Read.val_main_v26_eq _ _).trans (Cert.Kernel21Ideal.Step.result6 m c).symm

theorem frame21 : @Cert.quiescent_Reference21Ideal Cert.Reference21Ideal.Gen.facts := by
  intro m g _
  exact (θ_run _ _ _).mono (fun r h => ⟨fun c => (h c).2.2.2, funext fun s => nomatch s⟩) (Cert.Reference21Ideal.Value.run m g)

theorem algebraic22 : @Cert.algebraic_Kernel22Ideal_Reference22Ideal Cert.Kernel22Ideal.Gen.facts Cert.Reference22Ideal.Gen.facts := by
  pair_intro
  · run_from Cert.Kernel22Ideal.Value.run_blocks m g
  · run_from Cert.Reference22Ideal.Value.run m' g'
    · exact (Cert.Reference22Ideal.Read.val_main_v24_eq _ _ _ _).trans (Cert.Kernel22Ideal.Step.result4 m c).symm
    · exact (Cert.Reference22Ideal.Read.val_main_v25_eq _ _).trans (Cert.Kernel22Ideal.Step.result5 m c).symm
    · exact (Cert.Reference22Ideal.Read.val_main_v26_eq _ _).trans (Cert.Kernel22Ideal.Step.result6 m c).symm

theorem frame22 : @Cert.quiescent_Reference22Ideal Cert.Reference22Ideal.Gen.facts := by
  intro m g _
  exact (θ_run _ _ _).mono (fun r h => ⟨fun c => (h c).2.2.2, funext fun s => nomatch s⟩) (Cert.Reference22Ideal.Value.run m g)

theorem algebraic23 : @Cert.algebraic_Kernel23Ideal_Reference23Ideal Cert.Kernel23Ideal.Gen.facts Cert.Reference23Ideal.Gen.facts := by
  pair_intro
  · run_from Cert.Kernel23Ideal.Value.run_blocks m g
  · run_from Cert.Reference23Ideal.Value.run m' g'
    · exact (Cert.Reference23Ideal.Read.val_main_v24_eq _ _ _ _).trans (Cert.Kernel23Ideal.Step.result4 m c).symm
    · exact (Cert.Reference23Ideal.Read.val_main_v25_eq _ _).trans (Cert.Kernel23Ideal.Step.result5 m c).symm
    · exact (Cert.Reference23Ideal.Read.val_main_v26_eq _ _).trans (Cert.Kernel23Ideal.Step.result6 m c).symm

theorem frame23 : @Cert.quiescent_Reference23Ideal Cert.Reference23Ideal.Gen.facts := by
  intro m g _
  exact (θ_run _ _ _).mono (fun r h => ⟨fun c => (h c).2.2.2, funext fun s => nomatch s⟩) (Cert.Reference23Ideal.Value.run m g)

theorem algebraic24 : @Cert.algebraic_Kernel24Ideal_Reference24Ideal Cert.Kernel24Ideal.Gen.facts Cert.Reference24Ideal.Gen.facts := by
  pair_intro
  · run_from Cert.Kernel24Ideal.Value.run_blocks m g
  · run_from Cert.Reference24Ideal.Value.run m' g'
    · exact (Cert.Reference24Ideal.Read.val_main_v24_eq _ _ _ _).trans (Cert.Kernel24Ideal.Step.result4 m c).symm
    · exact (Cert.Reference24Ideal.Read.val_main_v25_eq _ _).trans (Cert.Kernel24Ideal.Step.result5 m c).symm
    · exact (Cert.Reference24Ideal.Read.val_main_v26_eq _ _).trans (Cert.Kernel24Ideal.Step.result6 m c).symm

theorem frame24 : @Cert.quiescent_Reference24Ideal Cert.Reference24Ideal.Gen.facts := by
  intro m g _
  exact (θ_run _ _ _).mono (fun r h => ⟨fun c => (h c).2.2.2, funext fun s => nomatch s⟩) (Cert.Reference24Ideal.Value.run m g)

theorem algebraic25 : @Cert.algebraic_Kernel25Ideal_Reference25Ideal Cert.Kernel25Ideal.Gen.facts Cert.Reference25Ideal.Gen.facts := by
  pair_intro
  · run_from Cert.Kernel25Ideal.Value.run_blocks m g
  · run_from Cert.Reference25Ideal.Value.run m' g'
    · exact (Cert.Reference25Ideal.Read.val_main_v24_eq _ _ _ _).trans (Cert.Kernel25Ideal.Step.result4 m c).symm
    · exact (Cert.Reference25Ideal.Read.val_main_v25_eq _ _).trans (Cert.Kernel25Ideal.Step.result5 m c).symm
    · exact (Cert.Reference25Ideal.Read.val_main_v26_eq _ _).trans (Cert.Kernel25Ideal.Step.result6 m c).symm

theorem frame25 : @Cert.quiescent_Reference25Ideal Cert.Reference25Ideal.Gen.facts := by
  intro m g _
  exact (θ_run _ _ _).mono (fun r h => ⟨fun c => (h c).2.2.2, funext fun s => nomatch s⟩) (Cert.Reference25Ideal.Value.run m g)

theorem algebraic26 : @Cert.algebraic_Kernel26Ideal_Reference26Ideal Cert.Kernel26Ideal.Gen.facts Cert.Reference26Ideal.Gen.facts := by
  pair_intro
  · run_from Cert.Kernel26Ideal.Value.run_blocks m g
  · run_from Cert.Reference26Ideal.Value.run m' g'
    · exact (Cert.Reference26Ideal.Read.val_main_v24_eq _ _ _ _).trans (Cert.Kernel26Ideal.Step.result4 m c).symm
    · exact (Cert.Reference26Ideal.Read.val_main_v25_eq _ _).trans (Cert.Kernel26Ideal.Step.result5 m c).symm
    · exact (Cert.Reference26Ideal.Read.val_main_v26_eq _ _).trans (Cert.Kernel26Ideal.Step.result6 m c).symm

theorem frame26 : @Cert.quiescent_Reference26Ideal Cert.Reference26Ideal.Gen.facts := by
  intro m g _
  exact (θ_run _ _ _).mono (fun r h => ⟨fun c => (h c).2.2.2, funext fun s => nomatch s⟩) (Cert.Reference26Ideal.Value.run m g)

theorem algebraic27 : @Cert.algebraic_Kernel27Ideal_Reference27Ideal Cert.Kernel27Ideal.Gen.facts Cert.Reference27Ideal.Gen.facts := by
  pair_intro
  · run_from Cert.Kernel27Ideal.Value.run_blocks m g
  · run_from Cert.Reference27Ideal.Value.run m' g'
    · exact (Cert.Reference27Ideal.Read.val_main_v23_eq _ _ _ _).trans (Cert.Kernel27Ideal.Step.result4 m c).symm
    · exact (Cert.Reference27Ideal.Read.val_main_v4_eq _ _).trans (Cert.Kernel27Ideal.Step.result5 m c).symm
    · exact (Cert.Reference27Ideal.Read.val_main_v10_eq _ _).trans (Cert.Kernel27Ideal.Step.result6 m c).symm

theorem frame27 : @Cert.quiescent_Reference27Ideal Cert.Reference27Ideal.Gen.facts := by
  intro m g _
  exact (θ_run _ _ _).mono (fun r h => ⟨fun c => (h c).2.2.2, funext fun s => nomatch s⟩) (Cert.Reference27Ideal.Value.run m g)

end Cert.Optimiser

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Equation
public import proofs.«01_k».proof.Proof.Finite
public import proofs.«01_k».proof.Proof.Products
public import proofs.«01_k».proof.Proof.Projection
public import proofs.«01_k».proof.Proof.Expansions
public import proofs.«01_k».proof.Proof.Optimiser
public import Idealize.ShloMosaic.Adequacy
public import Idealize.ShloMosaic.Init
public import Idealize.ShloMosaic.Lib.Claim

@[expose] public noncomputable section

set_option maxRecDepth 16384

namespace Cert.Proof

open Idealize.ShloMosaic Idealize.ShloMosaic.TcCoe Idealize.SL.Sem

/-- The precondition says that every argument is an array of real numbers. -/
theorem real_arguments [Cert.Pre_finite.Facts] (m : (ℓ : Loc Cert.KernelIdeal.nD Cert.KernelIdeal.τ Cert.KernelIdeal.sig) → Buf (Elt Ideal) ℓ)
    (hp : Cert.Pre_KernelIdeal_finite m) (c : Dev Cert.KernelIdeal.nD) :
    (∃ X : Cert.KernelIdeal.S4096x8x128.Idx → ℝ, ∀ i, Cert.KernelIdeal.Host.a0 m c i = ((X i : ℝ) : EReal))
    ∧ (∃ X : Cert.KernelIdeal.S4096x8x64.Idx → ℝ, ∀ i, Cert.KernelIdeal.Host.a1 m c i = ((X i : ℝ) : EReal))
    ∧ (∃ X : Cert.KernelIdeal.S4096x8x128.Idx → ℝ, ∀ i, Cert.KernelIdeal.Host.a2 m c i = ((X i : ℝ) : EReal))
    ∧ (∃ X : Cert.KernelIdeal.S4096x64.Idx → ℝ, ∀ i, Cert.KernelIdeal.Host.a3 m c i = ((X i : ℝ) : EReal))
    ∧ (∃ X : Cert.KernelIdeal.S4096x8x128.Idx → ℝ, ∀ i, Cert.KernelIdeal.Host.a4 m c i = ((X i : ℝ) : EReal))
    ∧ (∃ X : Cert.KernelIdeal.S4096x2048.Idx → ℝ, ∀ i, Cert.KernelIdeal.Host.a5 m c i = ((X i : ℝ) : EReal)) := by
  obtain ⟨h0, h1, h2, h3, h4, h5⟩ := hp c
  exact ⟨Cert.Pre_finite.Holds.real_of_test _ _ h0, Cert.Pre_finite.Holds.real_of_test _ _ h1, Cert.Pre_finite.Holds.real_of_test _ _ h2,
    Cert.Pre_finite.Holds.real_of_test _ _ h3, Cert.Pre_finite.Holds.real_of_test _ _ h4, Cert.Pre_finite.Holds.real_of_test _ _ h5⟩

/-- The kernel's two results are the reference's. -/
theorem algebraic : @Cert.algebraic_KernelIdeal_ReferenceIdeal_pre_finite Cert.KernelIdeal.Gen.facts Cert.ReferenceIdeal.Gen.facts Cert.Pre_finite.Holds.facts := by
  have := Cert.Pre_finite.Holds.facts
  pair_intro
  · run_from Cert.KernelIdeal.Value.run m g
  · run_from Cert.ReferenceIdeal.Value.run m' g'
    all_goals
      obtain ⟨f0, f1, f2, f3, f4, f5⟩ := real_arguments m hpre c
      obtain ⟨e0, e1, e2, e3, e4, e5⟩ := hagree c
      have hr := Cert.KernelIdeal.Equation.results m c f0 f1 f2 f3 f4 f5
    · refine Eq.trans ?_ hr.1.symm
      rw [Cert.ReferenceIdeal.Read.val_main_v75_eq, e0, e1, e2, e3, e4, e5]
    · refine Eq.trans ?_ hr.2.symm
      rw [Cert.ReferenceIdeal.Read.val_main_v77_eq, e0, e1, e2, e3, e4, e5]

/-- The reference's frame; it declares no semaphore. -/
theorem frame_reference : @Cert.quiescent_ReferenceIdeal Cert.ReferenceIdeal.Gen.facts := by
  intro m g _
  refine (θ_run _ _ _).mono (fun r h => ⟨fun c => (h c).2.2, funext fun s => nomatch s⟩) (Cert.ReferenceIdeal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Pre_finite.Holds.facts, Cert.Projection.facts11, Cert.Projection.facts12,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.Products.frame2,
    fun m ρ _ => Cert.Kernel3.Gen.frame m ρ, fun m ρ _ => Cert.Kernel3Ideal.Gen.frame m ρ, Cert.Products.frame3,
    fun m ρ _ => Cert.Kernel4.Gen.frame m ρ, fun m ρ _ => Cert.Kernel4Ideal.Gen.frame m ρ, Cert.Products.frame4,
    fun m ρ _ => Cert.Kernel5.Gen.frame m ρ, fun m ρ _ => Cert.Kernel5Ideal.Gen.frame m ρ, Cert.Products.frame5,
    fun m ρ _ => Cert.Kernel6.Gen.frame m ρ, fun m ρ _ => Cert.Kernel6Ideal.Gen.frame m ρ, Cert.Products.frame6,
    fun m ρ _ => Cert.Kernel7.Gen.frame m ρ, fun m ρ _ => Cert.Kernel7Ideal.Gen.frame m ρ, Cert.Products.frame7,
    fun m ρ _ => Cert.Kernel8.Gen.frame m ρ, fun m ρ _ => Cert.Kernel8Ideal.Gen.frame m ρ, Cert.Products.frame8,
    fun m ρ _ => Cert.Kernel9.Gen.frame m ρ, fun m ρ _ => Cert.Kernel9Ideal.Gen.frame m ρ, Cert.Products.frame9,
    fun m ρ _ => Cert.Kernel10.Gen.frame m ρ, fun m ρ _ => Cert.Kernel10Ideal.Gen.frame m ρ, Cert.Products.frame10,
    fun m ρ _ => Cert.Kernel11.Gen.frame m ρ, fun m ρ _ => Cert.Kernel11Ideal.Gen.frame m ρ, fun m ρ _ => Cert.Kernel11Ideal.Gen.frame m ρ,
    Cert.Projection.frame11, fun m ρ _ => Cert.Projection.frame11 m ρ trivial,
    fun m ρ _ => Cert.Kernel12.Gen.frame m ρ, fun m ρ _ => Cert.Kernel12Ideal.Gen.frame m ρ, fun m ρ _ => Cert.Kernel12Ideal.Gen.frame m ρ,
    Cert.Projection.frame12, fun m ρ _ => Cert.Projection.frame12 m ρ trivial,
    fun m ρ _ => Cert.Kernel13.Gen.frame m ρ, fun m ρ _ => Cert.Kernel13Ideal.Gen.frame m ρ, Cert.Projection.frame13,
    fun m ρ _ => Cert.Kernel14.Gen.frame m ρ, fun m ρ _ => Cert.Kernel14Ideal.Gen.frame m ρ, Cert.Expansions.frame14,
    fun m ρ _ => Cert.Kernel15.Gen.frame m ρ, fun m ρ _ => Cert.Kernel15Ideal.Gen.frame m ρ, Cert.Expansions.frame15,
    fun m ρ _ => Cert.Kernel16.Gen.frame m ρ, fun m ρ _ => Cert.Kernel16Ideal.Gen.frame m ρ, Cert.Expansions.frame16,
    fun m ρ _ => Cert.Kernel17.Gen.frame m ρ, fun m ρ _ => Cert.Kernel17Ideal.Gen.frame m ρ, Cert.Expansions.frame17,
    fun m ρ _ => Cert.Kernel18.Gen.frame m ρ, fun m ρ _ => Cert.Kernel18Ideal.Gen.frame m ρ, Cert.Expansions.frame18,
    fun m ρ _ => Cert.Kernel19.Gen.frame m ρ, fun m ρ _ => Cert.Kernel19Ideal.Gen.frame m ρ, Cert.Optimiser.frame19,
    fun m ρ _ => Cert.Kernel20.Gen.frame m ρ, fun m ρ _ => Cert.Kernel20Ideal.Gen.frame m ρ, Cert.Optimiser.frame20,
    fun m ρ _ => Cert.Kernel21.Gen.frame m ρ, fun m ρ _ => Cert.Kernel21Ideal.Gen.frame m ρ, Cert.Optimiser.frame21,
    fun m ρ _ => Cert.Kernel22.Gen.frame m ρ, fun m ρ _ => Cert.Kernel22Ideal.Gen.frame m ρ, Cert.Optimiser.frame22,
    fun m ρ _ => Cert.Kernel23.Gen.frame m ρ, fun m ρ _ => Cert.Kernel23Ideal.Gen.frame m ρ, Cert.Optimiser.frame23,
    fun m ρ _ => Cert.Kernel24.Gen.frame m ρ, fun m ρ _ => Cert.Kernel24Ideal.Gen.frame m ρ, Cert.Optimiser.frame24,
    fun m ρ _ => Cert.Kernel25.Gen.frame m ρ, fun m ρ _ => Cert.Kernel25Ideal.Gen.frame m ρ, Cert.Optimiser.frame25,
    fun m ρ _ => Cert.Kernel26.Gen.frame m ρ, fun m ρ _ => Cert.Kernel26Ideal.Gen.frame m ρ, Cert.Optimiser.frame26,
    fun m ρ _ => Cert.Kernel27.Gen.frame m ρ, fun m ρ _ => Cert.Kernel27Ideal.Gen.frame m ρ, Cert.Optimiser.frame27,
    trivial, algebraic,
    trivial, Cert.Products.algebraic2,
    trivial, Cert.Products.algebraic3,
    trivial, Cert.Products.algebraic4,
    trivial, Cert.Products.algebraic5,
    trivial, Cert.Products.algebraic6,
    trivial, Cert.Products.algebraic7,
    trivial, Cert.Products.algebraic8,
    trivial, Cert.Products.algebraic9,
    trivial, Cert.Products.algebraic10,
    trivial, Cert.Projection.algebraic11,
    trivial, Cert.Projection.algebraic12,
    trivial, Cert.Projection.algebraic13,
    trivial, Cert.Expansions.algebraic14,
    trivial, Cert.Expansions.algebraic15,
    trivial, Cert.Expansions.algebraic16,
    trivial, Cert.Expansions.algebraic17,
    trivial, Cert.Expansions.algebraic18,
    trivial, Cert.Optimiser.algebraic19,
    trivial, Cert.Optimiser.algebraic20,
    trivial, Cert.Optimiser.algebraic21,
    trivial, Cert.Optimiser.algebraic22,
    trivial, Cert.Optimiser.algebraic23,
    trivial, Cert.Optimiser.algebraic24,
    trivial, Cert.Optimiser.algebraic25,
    trivial, Cert.Optimiser.algebraic26,
    trivial, Cert.Optimiser.algebraic27⟩

end Cert.Proof

end
